-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x2048x16x64 : Shape := ⟨4, ![16, 2048, 16, 64]⟩
abbrev S16x2048x8x64 : Shape := ⟨4, ![16, 2048, 8, 64]⟩
abbrev S16x2048x16 : Shape := ⟨3, ![16, 2048, 16]⟩
abbrev S_ : Shape := ⟨0, ![]⟩

class Facts : Prop where
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_
  h_S_ : 0 < S_.numel
  bcast_S_S16x2048x8x64 : S_.BroadcastsInDim S16x2048x8x64 (![] : Fin 0 → Fin S16x2048x8x64.rank)
  reducesTo_S16x2048x8x64_S_d0_1_2_3 : S16x2048x8x64.ReducesTo [0, 1, 2, 3] S_
  bcast_S_S16x2048x16 : S_.BroadcastsInDim S16x2048x16 (![] : Fin 0 → Fin S16x2048x16.rank)
  reducesTo_S16x2048x16_S_d0_1_2 : S16x2048x16.ReducesTo [0, 1, 2] S_

variable [Facts]

def fn {F : FTy → Type} [FloatOps F] (main_arg0 : FVec F S16x2048x16x64 .f32) (main_arg1 : FVec F S16x2048x8x64 .f32) (main_arg2 : FVec F S16x2048x8x64 .f32) (main_arg3 : FVec F S16x2048x16 .f32) : IVec S_ 1 :=
  let main_v0 : FVec F S16x2048x16x64 .f32 := Host.absf main_arg0
  let main_cst : FVec F S_ .f32 := constant S_ .f32 0x7F800000#32
  let main_v1 : FVec F S16x2048x16x64 .f32 := broadcastInDim S16x2048x16x64 ![] bcast_S_S16x2048x16x64 main_cst
  let main_v2 : IVec S16x2048x16x64 1 := cmpf .olt main_v0 main_v1
  let main_c : IVec S_ 1 := constantI S_ 1 1#1
  let main_v3 : IVec S_ 1 := (fun x v => Host.reduce IntOp.andi x v reducesTo_S16x2048x16x64_S_d0_1_2_3 h_S_) main_v2 main_c
  let main_v4 : FVec F S16x2048x8x64 .f32 := Host.absf main_arg1
  let main_cst_0 : FVec F S_ .f32 := constant S_ .f32 0x7F800000#32
  let main_v5 : FVec F S16x2048x8x64 .f32 := broadcastInDim S16x2048x8x64 ![] bcast_S_S16x2048x8x64 main_cst_0
  let main_v6 : IVec S16x2048x8x64 1 := cmpf .olt main_v4 main_v5
  let main_c_1 : IVec S_ 1 := constantI S_ 1 1#1
  let main_v7 : IVec S_ 1 := (fun x v => Host.reduce IntOp.andi x v reducesTo_S16x2048x8x64_S_d0_1_2_3 h_S_) main_v6 main_c_1
  let main_v8 : IVec S_ 1 := andi main_v3 main_v7
  let main_v9 : FVec F S16x2048x16 .f32 := Host.absf main_arg3
  let main_cst_2 : FVec F S_ .f32 := constant S_ .f32 0x7F800000#32
  let main_v10 : FVec F S16x2048x16 .f32 := broadcastInDim S16x2048x16 ![] bcast_S_S16x2048x16 main_cst_2
  let main_v11 : IVec S16x2048x16 1 := cmpf .olt main_v9 main_v10
  let main_c_3 : IVec S_ 1 := constantI S_ 1 1#1
  let main_v12 : IVec S_ 1 := (fun x v => Host.reduce IntOp.andi x v reducesTo_S16x2048x16_S_d0_1_2 h_S_) main_v11 main_c_3
  let main_v13 : IVec S_ 1 := andi main_v8 main_v12
  main_v13
-- ==== Kernel.lean ====
abbrev S16x2048x16x64 : Shape := ⟨4, ![16, 2048, 16, 64]⟩
abbrev S16x2048x8x64 : Shape := ⟨4, ![16, 2048, 8, 64]⟩
abbrev S16x2048x16 : Shape := ⟨3, ![16, 2048, 16]⟩
abbrev S16x2048x4x2x2x64 : Shape := ⟨6, ![16, 2048, 4, 2, 2, 64]⟩
abbrev S16x2048x1024 : Shape := ⟨3, ![16, 2048, 1024]⟩
abbrev S16x2048x512 : Shape := ⟨3, ![16, 2048, 512]⟩
abbrev S16x16x2048 : Shape := ⟨3, ![16, 16, 2048]⟩
abbrev S16x4x4x2048 : Shape := ⟨4, ![16, 4, 4, 2048]⟩
abbrev S16x4x2048x4 : Shape := ⟨4, ![16, 4, 2048, 4]⟩
abbrev S16x4x4x8x256 : Shape := ⟨5, ![16, 4, 4, 8, 256]⟩
abbrev S16x4x8x4x256 : Shape := ⟨5, ![16, 4, 8, 4, 256]⟩
abbrev S1x256x256 : Shape := ⟨3, ![1, 256, 256]⟩
abbrev S1x2048x128 : Shape := ⟨3, ![1, 2048, 128]⟩
abbrev S1x1x256x4 : Shape := ⟨4, ![1, 1, 256, 4]⟩
abbrev S1x1x8x4x256 : Shape := ⟨5, ![1, 1, 8, 4, 256]⟩
abbrev S1024x128 : Shape := ⟨2, ![1024, 128]⟩
abbrev S8x1024x256 : Shape := ⟨3, ![8, 1024, 256]⟩
abbrev S1024x256 : Shape := ⟨2, ![1024, 256]⟩
abbrev S256x128 : Shape := ⟨2, ![256, 128]⟩
abbrev S1x256x128 : Shape := ⟨3, ![1, 256, 128]⟩
abbrev S256x256 : Shape := ⟨2, ![256, 256]⟩
abbrev S1x1x1x1x256 : Shape := ⟨5, ![1, 1, 1, 1, 256]⟩
abbrev S1x256 : Shape := ⟨2, ![1, 256]⟩
abbrev S1x1024x256 : Shape := ⟨3, ![1, 1024, 256]⟩
abbrev S1x1024x128 : Shape := ⟨3, ![1, 1024, 128]⟩
abbrev S1024x1024 : Shape := ⟨2, ![1024, 1024]⟩
abbrev S1x1024 : Shape := ⟨2, ![1, 1024]⟩
abbrev S256x1024 : Shape := ⟨2, ![256, 1024]⟩
abbrev S1x512x128 : Shape := ⟨3, ![1, 512, 128]⟩
abbrev S512x128 : Shape := ⟨2, ![512, 128]⟩
abbrev S1024x512 : Shape := ⟨2, ![1024, 512]⟩
abbrev S1x512 : Shape := ⟨2, ![1, 512]⟩
abbrev S256x512 : Shape := ⟨2, ![256, 512]⟩
abbrev S1x768x128 : Shape := ⟨3, ![1, 768, 128]⟩
abbrev S768x128 : Shape := ⟨2, ![768, 128]⟩
abbrev S1024x768 : Shape := ⟨2, ![1024, 768]⟩
abbrev S1x768 : Shape := ⟨2, ![1, 768]⟩
abbrev S256x768 : Shape := ⟨2, ![256, 768]⟩
abbrev S1x1x256x1 : Shape := ⟨4, ![1, 1, 256, 1]⟩
abbrev S256x1 : Shape := ⟨2, ![256, 1]⟩
abbrev S1024x1 : Shape := ⟨2, ![1024, 1]⟩
abbrev S1024 : Shape := ⟨1, ![1024]⟩
abbrev S512x256 : Shape := ⟨2, ![512, 256]⟩
abbrev S768x256 : Shape := ⟨2, ![768, 256]⟩

abbrev nBuf : Space → Nat
  | .hbm => 18
  | .vmem => 17
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x8x64, .f32⟩
  | .hbm, ⟨2, _⟩ => ⟨S16x2048x8x64, .f32⟩
  | .hbm, ⟨3, _⟩ => ⟨S16x2048x16, .f32⟩
  | .hbm, ⟨4, _⟩ => ⟨S16x2048x4x2x2x64, .f32⟩
  | .hbm, ⟨5, _⟩ => ⟨S16x2048x4x2x2x64, .f32⟩
  | .hbm, ⟨6, _⟩ => ⟨S16x2048x1024, .f32⟩
  | .hbm, ⟨7, _⟩ => ⟨S16x2048x1024, .bf16⟩
  | .hbm, ⟨8, _⟩ => ⟨S16x2048x512, .f32⟩
  | .hbm, ⟨9, _⟩ => ⟨S16x2048x512, .bf16⟩
  | .hbm, ⟨10, _⟩ => ⟨S16x2048x512, .f32⟩
  | .hbm, ⟨11, _⟩ => ⟨S16x2048x512, .bf16⟩
  | .hbm, ⟨12, _⟩ => ⟨S16x16x2048, .f32⟩
  | .hbm, ⟨13, _⟩ => ⟨S16x4x4x2048, .f32⟩
  | .hbm, ⟨14, _⟩ => ⟨S16x4x2048x4, .f32⟩
  | .hbm, ⟨15, _⟩ => ⟨S16x4x4x8x256, .f32⟩
  | .hbm, ⟨16, _⟩ => ⟨S16x4x8x4x256, .f32⟩
  | .hbm, ⟨17, _⟩ => ⟨S16x2048x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x256x4, .f32⟩
  | .local _ .vmem, ⟨7, _⟩ => ⟨S1x1x256x4, .f32⟩
  | .local _ .vmem, ⟨8, _⟩ => ⟨S1x1x8x4x256, .f32⟩
  | .local _ .vmem, ⟨9, _⟩ => ⟨S1x1x8x4x256, .f32⟩
  | .local _ .vmem, ⟨10, _⟩ => ⟨S1x256x256, .bf16⟩
  | .local _ .vmem, ⟨11, _⟩ => ⟨S1x256x256, .bf16⟩
  | .local _ .vmem, ⟨12, _⟩ => ⟨S1024x128, .bf16⟩
  | .local _ .vmem, ⟨13, _⟩ => ⟨S8x1024x256, .f32⟩
  | .local _ .vmem, ⟨14, _⟩ => ⟨S1024x128, .f32⟩
  | .local _ .vmem, ⟨15, _⟩ => ⟨S1024x128, .f32⟩
  | .local _ .vmem, ⟨16, _⟩ => ⟨S1024x256, .f32⟩
  | _, _ => ⟨S16x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 8], ![false, false, false]⟩

def k0_mult1 (i : grid0.Coords) : BitVec 32 :=
  let arg2 : BitVec 32 := BitVec.ofNat 32 (i 2).val
  let c256_i32 : BitVec 32 := 256#32
  let v46 : BitVec 32 := Scalar.muli arg2 c256_i32
  v46
def k0_off1 (i : grid0.Coords) : Fin 3 → Nat :=
  let c0_19 : Index := 0#32
  let arg2 : BitVec 32 := BitVec.ofNat 32 (i 2).val
  let c256_i32 : BitVec 32 := 256#32
  let v46 : BitVec 32 := Scalar.muli arg2 c256_i32
  let v47 : BitVec 32 := v46
  let v49 : Index := Scalar.indexCast v47
  let c0_20 : Index := 0#32
  ![0, v49.toNat, 0]
def k0_off2 (i : grid0.Coords) : Fin 5 → Nat :=
  let c0_22 : Index := 0#32
  let c0_23 : Index := 0#32
  let arg2 : BitVec 32 := BitVec.ofNat 32 (i 2).val
  let c0_i32 : BitVec 32 := 0#32
  let v53 : BitVec 32 := Scalar.addi arg2 c0_i32
  let v54 : Index := Scalar.indexCast v53
  let c0_24 : Index := 0#32
  let c0_25 : Index := 0#32
  ![0, 0, v54.toNat, 0, 0]
def k0_off3 (i : grid0.Coords) : Fin 5 → Nat :=
  let c0_29 : Index := 0#32
  let c0_30 : Index := 0#32
  let arg2 : BitVec 32 := BitVec.ofNat 32 (i 2).val
  let c0_i32_28 : BitVec 32 := 0#32
  let v64 : BitVec 32 := Scalar.addi arg2 c0_i32_28
  let v65 : Index := Scalar.indexCast v64
  let c2 : Index := 2#32
  let c0_31 : Index := 0#32
  ![0, 0, v65.toNat, 2, 0]
def k0_off4 (i : grid0.Coords) : Fin 5 → Nat :=
  let c0_35 : Index := 0#32
  let c0_36 : Index := 0#32
  let arg2 : BitVec 32 := BitVec.ofNat 32 (i 2).val
  let c0_i32_34 : BitVec 32 := 0#32
  let v75 : BitVec 32 := Scalar.addi arg2 c0_i32_34
  let v76 : Index := Scalar.indexCast v75
  let c1 : Index := 1#32
  let c0_37 : Index := 0#32
  ![0, 0, v76.toNat, 1, 0]
def k0_off5 (i : grid0.Coords) : Fin 5 → Nat :=
  let c0_41 : Index := 0#32
  let c0_42 : Index := 0#32
  let arg2 : BitVec 32 := BitVec.ofNat 32 (i 2).val
  let c0_i32_40 : BitVec 32 := 0#32
  let v86 : BitVec 32 := Scalar.addi arg2 c0_i32_40
  let v87 : Index := Scalar.indexCast v86
  let c3 : Index := 3#32
  let c0_43 : Index := 0#32
  ![0, 0, v87.toNat, 3, 0]
def k0_off6 (i : grid0.Coords) : Fin 3 → Nat :=
  let arg2 : BitVec 32 := BitVec.ofNat 32 (i 2).val
  let c0_i32_46 : BitVec 32 := 0#32
  let v98 : BitVec 32 := Scalar.addi arg2 c0_i32_46
  let v99 : Index := Scalar.indexCast v98
  let c0_47 : Index := 0#32
  let c0_48 : Index := 0#32
  ![v99.toNat, 0, 0]
@[reducible] def k0_t1_loop (i : grid0.Coords) : Scf.Loop 32 :=
  let c0_i32_57 : BitVec 32 := 0#32
  let arg2 : BitVec 32 := BitVec.ofNat 32 (i 2).val
  let c0_i32_51 : BitVec 32 := 0#32
  let v110 : BitVec 1 := Scalar.cmpi .sgt arg2 c0_i32_51
  let v111 : BitVec 32 := Scalar.extui v110
  let c0_i32_52 : BitVec 32 := 0#32
  let v112 : BitVec 1 := Scalar.cmpi .slt arg2 c0_i32_52
  let v113 : BitVec 32 := Scalar.extui v112
  let v114 : BitVec 32 := Scalar.subi v111 v113
  let c4_i32 : BitVec 32 := 4#32
  let c0_i32_53 : BitVec 32 := 0#32
  let v115 : BitVec 1 := Scalar.cmpi .sgt c4_i32 c0_i32_53
  let v116 : BitVec 32 := Scalar.extui v115
  let c0_i32_54 : BitVec 32 := 0#32
  let v117 : BitVec 1 := Scalar.cmpi .slt c4_i32 c0_i32_54
  let v118 : BitVec 32 := Scalar.extui v117
  let v119 : BitVec 32 := Scalar.subi v116 v118
  let v120 : BitVec 1 := Scalar.cmpi .ne v114 v119
  let v121 : BitVec 32 := Scalar.remsi arg2 c4_i32
  let c0_i32_55 : BitVec 32 := 0#32
  let v122 : BitVec 1 := Scalar.cmpi .ne v121 c0_i32_55
  let v123 : BitVec 1 := Scalar.andi v120 v122
  let v109 : BitVec 32 := Scalar.divsi arg2 c4_i32
  let c1_i32 : BitVec 32 := 1#32
  let v124 : BitVec 32 := Scalar.subi v109 c1_i32
  let v125 : BitVec 32 := Scalar.select v123 v124 v109
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_59 : BitVec 32 := 1#32
  ⟨c0_i32_57, v130, c1_i32_59⟩
def k0_mult2 (i : grid0.Coords) (k0_t1 : Fin (k0_t1_loop i).trips) : BitVec 32 :=
  let c4_i32_163 : BitVec 32 := 4#32
  let c0_i32_57 : BitVec 32 := 0#32
  let c1_i32_59 : BitVec 32 := 1#32
  let arg14 : BitVec 32 := Scf.iv c0_i32_57 c1_i32_59 k0_t1
  let v298 : BitVec 32 := Scalar.muli c4_i32_163 arg14
  let c256_i32_164 : BitVec 32 := 256#32
  let v299 : BitVec 32 := Scalar.muli v298 c256_i32_164
  v299
def k0_off7 (i : grid0.Coords) (k0_t1 : Fin (k0_t1_loop i).trips) : Fin 3 → Nat :=
  let c0_167 : Index := 0#32
  let c4_i32_163 : BitVec 32 := 4#32
  let c0_i32_57 : BitVec 32 := 0#32
  let c1_i32_59 : BitVec 32 := 1#32
  let arg14 : BitVec 32 := Scf.iv c0_i32_57 c1_i32_59 k0_t1
  let v298 : BitVec 32 := Scalar.muli c4_i32_163 arg14
  let c256_i32_164 : BitVec 32 := 256#32
  let v299 : BitVec 32 := Scalar.muli v298 c256_i32_164
  let v300 : BitVec 32 := v299
  let v302 : Index := Scalar.indexCast v300
  let c0_168 : Index := 0#32
  ![0, v302.toNat, 0]
def k0_off8 (i : grid0.Coords) (k0_t1 : Fin (k0_t1_loop i).trips) (c0_i32_170 : BitVec 32) : Fin 5 → Nat :=
  let c0_171 : Index := 0#32
  let c0_172 : Index := 0#32
  let c4_i32_163 : BitVec 32 := 4#32
  let c0_i32_57 : BitVec 32 := 0#32
  let c1_i32_59 : BitVec 32 := 1#32
  let arg14 : BitVec 32 := Scf.iv c0_i32_57 c1_i32_59 k0_t1
  let v298 : BitVec 32 := Scalar.muli c4_i32_163 arg14
  let v306 : BitVec 32 := Scalar.addi v298 c0_i32_170
  let v307 : Index := Scalar.indexCast v306
  let c0_173 : Index := 0#32
  let c0_174 : Index := 0#32
  ![0, 0, v307.toNat, 0, 0]
def k0_off9 (i : grid0.Coords) (k0_t1 : Fin (k0_t1_loop i).trips) (c0_i32_191 : BitVec 32) : Fin 5 → Nat :=
  let c0_192 : Index := 0#32
  let c0_193 : Index := 0#32
  let c4_i32_163 : BitVec 32 := 4#32
  let c0_i32_57 : BitVec 32 := 0#32
  let c1_i32_59 : BitVec 32 := 1#32
  let arg14 : BitVec 32 := Scf.iv c0_i32_57 c1_i32_59 k0_t1
  let v298 : BitVec 32 := Scalar.muli c4_i32_163 arg14
  let v328 : BitVec 32 := Scalar.addi v298 c0_i32_191
  let v329 : Index := Scalar.indexCast v328
  let c2_194 : Index := 2#32
  let c0_195 : Index := 0#32
  ![0, 0, v329.toNat, 2, 0]
def k0_off10 (i : grid0.Coords) (k0_t1 : Fin (k0_t1_loop i).trips) (c0_i32_212 : BitVec 32) : Fin 5 → Nat :=
  let c0_213 : Index := 0#32
  let c0_214 : Index := 0#32
  let c4_i32_163 : BitVec 32 := 4#32
  let c0_i32_57 : BitVec 32 := 0#32
  let c1_i32_59 : BitVec 32 := 1#32
  let arg14 : BitVec 32 := Scf.iv c0_i32_57 c1_i32_59 k0_t1
  let v298 : BitVec 32 := Scalar.muli c4_i32_163 arg14
  let v350 : BitVec 32 := Scalar.addi v298 c0_i32_212
  let v351 : Index := Scalar.indexCast v350
  let c1_215 : Index := 1#32
  let c0_216 : Index := 0#32
  ![0, 0, v351.toNat, 1, 0]
def k0_off11 (i : grid0.Coords) (k0_t1 : Fin (k0_t1_loop i).trips) (c0_i32_233 : BitVec 32) : Fin 5 → Nat :=
  let c0_234 : Index := 0#32
  let c0_235 : Index := 0#32
  let c4_i32_163 : BitVec 32 := 4#32
  let c0_i32_57 : BitVec 32 := 0#32
  let c1_i32_59 : BitVec 32 := 1#32
  let arg14 : BitVec 32 := Scf.iv c0_i32_57 c1_i32_59 k0_t1
  let v298 : BitVec 32 := Scalar.muli c4_i32_163 arg14
  let v372 : BitVec 32 := Scalar.addi v298 c0_i32_233
  let v373 : Index := Scalar.indexCast v372
  let c3_236 : Index := 3#32
  let c0_237 : Index := 0#32
  ![0, 0, v373.toNat, 3, 0]
def k0_off12 (i : grid0.Coords) (k0_t1 : Fin (k0_t1_loop i).trips) (c0_i32_254 : BitVec 32) : Fin 3 → Nat :=
  let c4_i32_163 : BitVec 32 := 4#32
  let c0_i32_57 : BitVec 32 := 0#32
  let c1_i32_59 : BitVec 32 := 1#32
  let arg14 : BitVec 32 := Scf.iv c0_i32_57 c1_i32_59 k0_t1
  let v298 : BitVec 32 := Scalar.muli c4_i32_163 arg14
  let v396 : BitVec 32 := Scalar.addi v298 c0_i32_254
  let v397 : Index := Scalar.indexCast v396
  let c0_255 : Index := 0#32
  let c0_256 : Index := 0#32
  ![v397.toNat, 0, 0]
@[reducible] def k0_t2_loop (i : grid0.Coords) : Scf.Loop 32 :=
  let c0_i32_57 : BitVec 32 := 0#32
  let arg2 : BitVec 32 := BitVec.ofNat 32 (i 2).val
  let c0_i32_51 : BitVec 32 := 0#32
  let v110 : BitVec 1 := Scalar.cmpi .sgt arg2 c0_i32_51
  let v111 : BitVec 32 := Scalar.extui v110
  let c0_i32_52 : BitVec 32 := 0#32
  let v112 : BitVec 1 := Scalar.cmpi .slt arg2 c0_i32_52
  let v113 : BitVec 32 := Scalar.extui v112
  let v114 : BitVec 32 := Scalar.subi v111 v113
  let c4_i32 : BitVec 32 := 4#32
  let c0_i32_53 : BitVec 32 := 0#32
  let v115 : BitVec 1 := Scalar.cmpi .sgt c4_i32 c0_i32_53
  let v116 : BitVec 32 := Scalar.extui v115
  let c0_i32_54 : BitVec 32 := 0#32
  let v117 : BitVec 1 := Scalar.cmpi .slt c4_i32 c0_i32_54
  let v118 : BitVec 32 := Scalar.extui v117
  let v119 : BitVec 32 := Scalar.subi v116 v118
  let v120 : BitVec 1 := Scalar.cmpi .ne v114 v119
  let v121 : BitVec 32 := Scalar.remsi arg2 c4_i32
  let c0_i32_55 : BitVec 32 := 0#32
  let v122 : BitVec 1 := Scalar.cmpi .ne v121 c0_i32_55
  let v123 : BitVec 1 := Scalar.andi v120 v122
  let v109 : BitVec 32 := Scalar.divsi arg2 c4_i32
  let c1_i32 : BitVec 32 := 1#32
  let v124 : BitVec 32 := Scalar.subi v109 c1_i32
  let v125 : BitVec 32 := Scalar.select v123 v124 v109
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let v127 : BitVec 32 := Scalar.addi c0_i32_57 v126
  let c1_i32_60 : BitVec 32 := 1#32
  ⟨v130, v127, c1_i32_60⟩
def k0_mult3 (i : grid0.Coords) (k0_t2 : Fin (k0_t2_loop i).trips) : BitVec 32 :=
  let c4_i32_163 : BitVec 32 := 4#32
  let c0_i32_57 : BitVec 32 := 0#32
  let arg2 : BitVec 32 := BitVec.ofNat 32 (i 2).val
  let c0_i32_51 : BitVec 32 := 0#32
  let v110 : BitVec 1 := Scalar.cmpi .sgt arg2 c0_i32_51
  let v111 : BitVec 32 := Scalar.extui v110
  let c0_i32_52 : BitVec 32 := 0#32
  let v112 : BitVec 1 := Scalar.cmpi .slt arg2 c0_i32_52
  let v113 : BitVec 32 := Scalar.extui v112
  let v114 : BitVec 32 := Scalar.subi v111 v113
  let c4_i32 : BitVec 32 := 4#32
  let c0_i32_53 : BitVec 32 := 0#32
  let v115 : BitVec 1 := Scalar.cmpi .sgt c4_i32 c0_i32_53
  let v116 : BitVec 32 := Scalar.extui v115
  let c0_i32_54 : BitVec 32 := 0#32
  let v117 : BitVec 1 := Scalar.cmpi .slt c4_i32 c0_i32_54
  let v118 : BitVec 32 := Scalar.extui v117
  let v119 : BitVec 32 := Scalar.subi v116 v118
  let v120 : BitVec 1 := Scalar.cmpi .ne v114 v119
  let v121 : BitVec 32 := Scalar.remsi arg2 c4_i32
  let c0_i32_55 : BitVec 32 := 0#32
  let v122 : BitVec 1 := Scalar.cmpi .ne v121 c0_i32_55
  let v123 : BitVec 1 := Scalar.andi v120 v122
  let v109 : BitVec 32 := Scalar.divsi arg2 c4_i32
  let c1_i32 : BitVec 32 := 1#32
  let v124 : BitVec 32 := Scalar.subi v109 c1_i32
  let v125 : BitVec 32 := Scalar.select v123 v124 v109
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg14 : BitVec 32 := Scf.iv v130 c1_i32_60 k0_t2
  let v298 : BitVec 32 := Scalar.muli c4_i32_163 arg14
  let c256_i32_164 : BitVec 32 := 256#32
  let v299 : BitVec 32 := Scalar.muli v298 c256_i32_164
  v299
def k0_off13 (i : grid0.Coords) (k0_t2 : Fin (k0_t2_loop i).trips) : Fin 3 → Nat :=
  let c0_167 : Index := 0#32
  let c4_i32_163 : BitVec 32 := 4#32
  let c0_i32_57 : BitVec 32 := 0#32
  let arg2 : BitVec 32 := BitVec.ofNat 32 (i 2).val
  let c0_i32_51 : BitVec 32 := 0#32
  let v110 : BitVec 1 := Scalar.cmpi .sgt arg2 c0_i32_51
  let v111 : BitVec 32 := Scalar.extui v110
  let c0_i32_52 : BitVec 32 := 0#32
  let v112 : BitVec 1 := Scalar.cmpi .slt arg2 c0_i32_52
  let v113 : BitVec 32 := Scalar.extui v112
  let v114 : BitVec 32 := Scalar.subi v111 v113
  let c4_i32 : BitVec 32 := 4#32
  let c0_i32_53 : BitVec 32 := 0#32
  let v115 : BitVec 1 := Scalar.cmpi .sgt c4_i32 c0_i32_53
  let v116 : BitVec 32 := Scalar.extui v115
  let c0_i32_54 : BitVec 32 := 0#32
  let v117 : BitVec 1 := Scalar.cmpi .slt c4_i32 c0_i32_54
  let v118 : BitVec 32 := Scalar.extui v117
  let v119 : BitVec 32 := Scalar.subi v116 v118
  let v120 : BitVec 1 := Scalar.cmpi .ne v114 v119
  let v121 : BitVec 32 := Scalar.remsi arg2 c4_i32
  let c0_i32_55 : BitVec 32 := 0#32
  let v122 : BitVec 1 := Scalar.cmpi .ne v121 c0_i32_55
  let v123 : BitVec 1 := Scalar.andi v120 v122
  let v109 : BitVec 32 := Scalar.divsi arg2 c4_i32
  let c1_i32 : BitVec 32 := 1#32
  let v124 : BitVec 32 := Scalar.subi v109 c1_i32
  let v125 : BitVec 32 := Scalar.select v123 v124 v109
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg14 : BitVec 32 := Scf.iv v130 c1_i32_60 k0_t2
  let v298 : BitVec 32 := Scalar.muli c4_i32_163 arg14
  let c256_i32_164 : BitVec 32 := 256#32
  let v299 : BitVec 32 := Scalar.muli v298 c256_i32_164
  let v300 : BitVec 32 := v299
  let v302 : Index := Scalar.indexCast v300
  let c0_168 : Index := 0#32
  ![0, v302.toNat, 0]
def k0_off14 (i : grid0.Coords) (k0_t2 : Fin (k0_t2_loop i).trips) (c0_i32_170 : BitVec 32) : Fin 5 → Nat :=
  let c0_171 : Index := 0#32
  let c0_172 : Index := 0#32
  let c4_i32_163 : BitVec 32 := 4#32
  let c0_i32_57 : BitVec 32 := 0#32
  let arg2 : BitVec 32 := BitVec.ofNat 32 (i 2).val
  let c0_i32_51 : BitVec 32 := 0#32
  let v110 : BitVec 1 := Scalar.cmpi .sgt arg2 c0_i32_51
  let v111 : BitVec 32 := Scalar.extui v110
  let c0_i32_52 : BitVec 32 := 0#32
  let v112 : BitVec 1 := Scalar.cmpi .slt arg2 c0_i32_52
  let v113 : BitVec 32 := Scalar.extui v112
  let v114 : BitVec 32 := Scalar.subi v111 v113
  let c4_i32 : BitVec 32 := 4#32
  let c0_i32_53 : BitVec 32 := 0#32
  let v115 : BitVec 1 := Scalar.cmpi .sgt c4_i32 c0_i32_53
  let v116 : BitVec 32 := Scalar.extui v115
  let c0_i32_54 : BitVec 32 := 0#32
  let v117 : BitVec 1 := Scalar.cmpi .slt c4_i32 c0_i32_54
  let v118 : BitVec 32 := Scalar.extui v117
  let v119 : BitVec 32 := Scalar.subi v116 v118
  let v120 : BitVec 1 := Scalar.cmpi .ne v114 v119
  let v121 : BitVec 32 := Scalar.remsi arg2 c4_i32
  let c0_i32_55 : BitVec 32 := 0#32
  let v122 : BitVec 1 := Scalar.cmpi .ne v121 c0_i32_55
  let v123 : BitVec 1 := Scalar.andi v120 v122
  let v109 : BitVec 32 := Scalar.divsi arg2 c4_i32
  let c1_i32 : BitVec 32 := 1#32
  let v124 : BitVec 32 := Scalar.subi v109 c1_i32
  let v125 : BitVec 32 := Scalar.select v123 v124 v109
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg14 : BitVec 32 := Scf.iv v130 c1_i32_60 k0_t2
  let v298 : BitVec 32 := Scalar.muli c4_i32_163 arg14
  let v306 : BitVec 32 := Scalar.addi v298 c0_i32_170
  let v307 : Index := Scalar.indexCast v306
  let c0_173 : Index := 0#32
  let c0_174 : Index := 0#32
  ![0, 0, v307.toNat, 0, 0]
def k0_off15 (i : grid0.Coords) (k0_t2 : Fin (k0_t2_loop i).trips) (c0_i32_191 : BitVec 32) : Fin 5 → Nat :=
  let c0_192 : Index := 0#32
  let c0_193 : Index := 0#32
  let c4_i32_163 : BitVec 32 := 4#32
  let c0_i32_57 : BitVec 32 := 0#32
  let arg2 : BitVec 32 := BitVec.ofNat 32 (i 2).val
  let c0_i32_51 : BitVec 32 := 0#32
  let v110 : BitVec 1 := Scalar.cmpi .sgt arg2 c0_i32_51
  let v111 : BitVec 32 := Scalar.extui v110
  let c0_i32_52 : BitVec 32 := 0#32
  let v112 : BitVec 1 := Scalar.cmpi .slt arg2 c0_i32_52
  let v113 : BitVec 32 := Scalar.extui v112
  let v114 : BitVec 32 := Scalar.subi v111 v113
  let c4_i32 : BitVec 32 := 4#32
  let c0_i32_53 : BitVec 32 := 0#32
  let v115 : BitVec 1 := Scalar.cmpi .sgt c4_i32 c0_i32_53
  let v116 : BitVec 32 := Scalar.extui v115
  let c0_i32_54 : BitVec 32 := 0#32
  let v117 : BitVec 1 := Scalar.cmpi .slt c4_i32 c0_i32_54
  let v118 : BitVec 32 := Scalar.extui v117
  let v119 : BitVec 32 := Scalar.subi v116 v118
  let v120 : BitVec 1 := Scalar.cmpi .ne v114 v119
  let v121 : BitVec 32 := Scalar.remsi arg2 c4_i32
  let c0_i32_55 : BitVec 32 := 0#32
  let v122 : BitVec 1 := Scalar.cmpi .ne v121 c0_i32_55
  let v123 : BitVec 1 := Scalar.andi v120 v122
  let v109 : BitVec 32 := Scalar.divsi arg2 c4_i32
  let c1_i32 : BitVec 32 := 1#32
  let v124 : BitVec 32 := Scalar.subi v109 c1_i32
  let v125 : BitVec 32 := Scalar.select v123 v124 v109
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg14 : BitVec 32 := Scf.iv v130 c1_i32_60 k0_t2
  let v298 : BitVec 32 := Scalar.muli c4_i32_163 arg14
  let v328 : BitVec 32 := Scalar.addi v298 c0_i32_191
  let v329 : Index := Scalar.indexCast v328
  let c2_194 : Index := 2#32
  let c0_195 : Index := 0#32
  ![0, 0, v329.toNat, 2, 0]
def k0_off16 (i : grid0.Coords) (k0_t2 : Fin (k0_t2_loop i).trips) (c0_i32_212 : BitVec 32) : Fin 5 → Nat :=
  let c0_213 : Index := 0#32
  let c0_214 : Index := 0#32
  let c4_i32_163 : BitVec 32 := 4#32
  let c0_i32_57 : BitVec 32 := 0#32
  let arg2 : BitVec 32 := BitVec.ofNat 32 (i 2).val
  let c0_i32_51 : BitVec 32 := 0#32
  let v110 : BitVec 1 := Scalar.cmpi .sgt arg2 c0_i32_51
  let v111 : BitVec 32 := Scalar.extui v110
  let c0_i32_52 : BitVec 32 := 0#32
  let v112 : BitVec 1 := Scalar.cmpi .slt arg2 c0_i32_52
  let v113 : BitVec 32 := Scalar.extui v112
  let v114 : BitVec 32 := Scalar.subi v111 v113
  let c4_i32 : BitVec 32 := 4#32
  let c0_i32_53 : BitVec 32 := 0#32
  let v115 : BitVec 1 := Scalar.cmpi .sgt c4_i32 c0_i32_53
  let v116 : BitVec 32 := Scalar.extui v115
  let c0_i32_54 : BitVec 32 := 0#32
  let v117 : BitVec 1 := Scalar.cmpi .slt c4_i32 c0_i32_54
  let v118 : BitVec 32 := Scalar.extui v117
  let v119 : BitVec 32 := Scalar.subi v116 v118
  let v120 : BitVec 1 := Scalar.cmpi .ne v114 v119
  let v121 : BitVec 32 := Scalar.remsi arg2 c4_i32
  let c0_i32_55 : BitVec 32 := 0#32
  let v122 : BitVec 1 := Scalar.cmpi .ne v121 c0_i32_55
  let v123 : BitVec 1 := Scalar.andi v120 v122
  let v109 : BitVec 32 := Scalar.divsi arg2 c4_i32
  let c1_i32 : BitVec 32 := 1#32
  let v124 : BitVec 32 := Scalar.subi v109 c1_i32
  let v125 : BitVec 32 := Scalar.select v123 v124 v109
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg14 : BitVec 32 := Scf.iv v130 c1_i32_60 k0_t2
  let v298 : BitVec 32 := Scalar.muli c4_i32_163 arg14
  let v350 : BitVec 32 := Scalar.addi v298 c0_i32_212
  let v351 : Index := Scalar.indexCast v350
  let c1_215 : Index := 1#32
  let c0_216 : Index := 0#32
  ![0, 0, v351.toNat, 1, 0]
def k0_off17 (i : grid0.Coords) (k0_t2 : Fin (k0_t2_loop i).trips) (c0_i32_233 : BitVec 32) : Fin 5 → Nat :=
  let c0_234 : Index := 0#32
  let c0_235 : Index := 0#32
  let c4_i32_163 : BitVec 32 := 4#32
  let c0_i32_57 : BitVec 32 := 0#32
  let arg2 : BitVec 32 := BitVec.ofNat 32 (i 2).val
  let c0_i32_51 : BitVec 32 := 0#32
  let v110 : BitVec 1 := Scalar.cmpi .sgt arg2 c0_i32_51
  let v111 : BitVec 32 := Scalar.extui v110
  let c0_i32_52 : BitVec 32 := 0#32
  let v112 : BitVec 1 := Scalar.cmpi .slt arg2 c0_i32_52
  let v113 : BitVec 32 := Scalar.extui v112
  let v114 : BitVec 32 := Scalar.subi v111 v113
  let c4_i32 : BitVec 32 := 4#32
  let c0_i32_53 : BitVec 32 := 0#32
  let v115 : BitVec 1 := Scalar.cmpi .sgt c4_i32 c0_i32_53
  let v116 : BitVec 32 := Scalar.extui v115
  let c0_i32_54 : BitVec 32 := 0#32
  let v117 : BitVec 1 := Scalar.cmpi .slt c4_i32 c0_i32_54
  let v118 : BitVec 32 := Scalar.extui v117
  let v119 : BitVec 32 := Scalar.subi v116 v118
  let v120 : BitVec 1 := Scalar.cmpi .ne v114 v119
  let v121 : BitVec 32 := Scalar.remsi arg2 c4_i32
  let c0_i32_55 : BitVec 32 := 0#32
  let v122 : BitVec 1 := Scalar.cmpi .ne v121 c0_i32_55
  let v123 : BitVec 1 := Scalar.andi v120 v122
  let v109 : BitVec 32 := Scalar.divsi arg2 c4_i32
  let c1_i32 : BitVec 32 := 1#32
  let v124 : BitVec 32 := Scalar.subi v109 c1_i32
  let v125 : BitVec 32 := Scalar.select v123 v124 v109
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg14 : BitVec 32 := Scf.iv v130 c1_i32_60 k0_t2
  let v298 : BitVec 32 := Scalar.muli c4_i32_163 arg14
  let v372 : BitVec 32 := Scalar.addi v298 c0_i32_233
  let v373 : Index := Scalar.indexCast v372
  let c3_236 : Index := 3#32
  let c0_237 : Index := 0#32
  ![0, 0, v373.toNat, 3, 0]
def k0_off18 (i : grid0.Coords) (k0_t2 : Fin (k0_t2_loop i).trips) (c0_i32_254 : BitVec 32) : Fin 3 → Nat :=
  let c4_i32_163 : BitVec 32 := 4#32
  let c0_i32_57 : BitVec 32 := 0#32
  let arg2 : BitVec 32 := BitVec.ofNat 32 (i 2).val
  let c0_i32_51 : BitVec 32 := 0#32
  let v110 : BitVec 1 := Scalar.cmpi .sgt arg2 c0_i32_51
  let v111 : BitVec 32 := Scalar.extui v110
  let c0_i32_52 : BitVec 32 := 0#32
  let v112 : BitVec 1 := Scalar.cmpi .slt arg2 c0_i32_52
  let v113 : BitVec 32 := Scalar.extui v112
  let v114 : BitVec 32 := Scalar.subi v111 v113
  let c4_i32 : BitVec 32 := 4#32
  let c0_i32_53 : BitVec 32 := 0#32
  let v115 : BitVec 1 := Scalar.cmpi .sgt c4_i32 c0_i32_53
  let v116 : BitVec 32 := Scalar.extui v115
  let c0_i32_54 : BitVec 32 := 0#32
  let v117 : BitVec 1 := Scalar.cmpi .slt c4_i32 c0_i32_54
  let v118 : BitVec 32 := Scalar.extui v117
  let v119 : BitVec 32 := Scalar.subi v116 v118
  let v120 : BitVec 1 := Scalar.cmpi .ne v114 v119
  let v121 : BitVec 32 := Scalar.remsi arg2 c4_i32
  let c0_i32_55 : BitVec 32 := 0#32
  let v122 : BitVec 1 := Scalar.cmpi .ne v121 c0_i32_55
  let v123 : BitVec 1 := Scalar.andi v120 v122
  let v109 : BitVec 32 := Scalar.divsi arg2 c4_i32
  let c1_i32 : BitVec 32 := 1#32
  let v124 : BitVec 32 := Scalar.subi v109 c1_i32
  let v125 : BitVec 32 := Scalar.select v123 v124 v109
  let v126 : BitVec 32 := Scalar.subi v125 c0_i32_57
  let c1_i32_58 : BitVec 32 := 1#32
  let v128 : BitVec 32 := Scalar.divsi v126 c1_i32_58
  let v129 : BitVec 32 := Scalar.muli v128 c1_i32_58
  let v130 : BitVec 32 := Scalar.addi c0_i32_57 v129
  let c1_i32_60 : BitVec 32 := 1#32
  let arg14 : BitVec 32 := Scf.iv v130 c1_i32_60 k0_t2
  let v298 : BitVec 32 := Scalar.muli c4_i32_163 arg14
  let v396 : BitVec 32 := Scalar.addi v298 c0_i32_254
  let v397 : Index := Scalar.indexCast v396
  let c0_255 : Index := 0#32
  let c0_256 : Index := 0#32
  ![v397.toNat, 0, 0]
def k0_cond1 (i : grid0.Coords) : BitVec 1 :=
  let arg2 : BitVec 32 := BitVec.ofNat 32 (i 2).val
  let c4_i32_61 : BitVec 32 := 4#32
  let c0_i32_62 : BitVec 32 := 0#32
  let v131 : BitVec 1 := Scalar.cmpi .eq c4_i32_61 c0_i32_62
  let c1_i32_63 : BitVec 32 := 1#32
  let v132 : BitVec 32 := Scalar.select v131 c1_i32_63 c4_i32_61
  let v133 : BitVec 32 := Scalar.remsi arg2 v132
  let c0_i32_65 : BitVec 32 := 0#32
  let v135 : BitVec 1 := Scalar.cmpi .slt v133 c0_i32_65
  let c0_i32_66 : BitVec 32 := 0#32
  let v136 : BitVec 1 := Scalar.cmpi .slt v132 c0_i32_66
  let v137 : BitVec 1 := Scalar.xori v135 v136
  let c0_i32_64 : BitVec 32 := 0#32
  let v134 : BitVec 1 := Scalar.cmpi .ne v133 c0_i32_64
  let v138 : BitVec 1 := Scalar.andi v137 v134
  let v139 : BitVec 32 := Scalar.addi v133 v132
  let v140 : BitVec 32 := Scalar.select v138 v139 v133
  let c1_i32_67 : BitVec 32 := 1#32
  let v141 : BitVec 1 := Scalar.cmpi .eq v140 c1_i32_67
  let v142 : BitVec 32 := Scalar.extui v141
  let c0_i32_68 : BitVec 32 := 0#32
  let v143 : BitVec 1 := Scalar.cmpi .ne v142 c0_i32_68
  v143

def k0_mult4 (i : grid0.Coords) : BitVec 32 :=
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c256_i32_171 : BitVec 32 := 256#32
  let v316 : BitVec 32 := Scalar.muli v315 c256_i32_171
  v316
def k0_off19 (i : grid0.Coords) : Fin 3 → Nat :=
  let c0_174 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c256_i32_171 : BitVec 32 := 256#32
  let v316 : BitVec 32 := Scalar.muli v315 c256_i32_171
  let v317 : BitVec 32 := v316
  let v319 : Index := Scalar.indexCast v317
  let c0_175 : Index := 0#32
  ![0, v319.toNat, 0]
def k0_off20 (i : grid0.Coords) : Fin 5 → Nat :=
  let c0_178 : Index := 0#32
  let c0_179 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c0_i32_177 : BitVec 32 := 0#32
  let v323 : BitVec 32 := Scalar.addi v315 c0_i32_177
  let v324 : Index := Scalar.indexCast v323
  let c0_180 : Index := 0#32
  let c0_181 : Index := 0#32
  ![0, 0, v324.toNat, 0, 0]
def k0_off21 (i : grid0.Coords) : Fin 5 → Nat :=
  let c0_184 : Index := 0#32
  let c0_185 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c0_i32_183 : BitVec 32 := 0#32
  let v332 : BitVec 32 := Scalar.addi v315 c0_i32_183
  let v333 : Index := Scalar.indexCast v332
  let c2_186 : Index := 2#32
  let c0_187 : Index := 0#32
  ![0, 0, v333.toNat, 2, 0]
def k0_off22 (i : grid0.Coords) : Fin 5 → Nat :=
  let c0_190 : Index := 0#32
  let c0_191 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c0_i32_189 : BitVec 32 := 0#32
  let v341 : BitVec 32 := Scalar.addi v315 c0_i32_189
  let v342 : Index := Scalar.indexCast v341
  let c1_192 : Index := 1#32
  let c0_193 : Index := 0#32
  ![0, 0, v342.toNat, 1, 0]
def k0_off23 (i : grid0.Coords) : Fin 5 → Nat :=
  let c0_196 : Index := 0#32
  let c0_197 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c0_i32_195 : BitVec 32 := 0#32
  let v350 : BitVec 32 := Scalar.addi v315 c0_i32_195
  let v351 : Index := Scalar.indexCast v350
  let c3_198 : Index := 3#32
  let c0_199 : Index := 0#32
  ![0, 0, v351.toNat, 3, 0]
def k0_off24 (i : grid0.Coords) : Fin 3 → Nat :=
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c0_i32_201 : BitVec 32 := 0#32
  let v360 : BitVec 32 := Scalar.addi v315 c0_i32_201
  let v361 : Index := Scalar.indexCast v360
  let c0_202 : Index := 0#32
  let c0_203 : Index := 0#32
  ![v361.toNat, 0, 0]
def k0_cond2 (i : grid0.Coords) : BitVec 1 :=
  let arg2 : BitVec 32 := BitVec.ofNat 32 (i 2).val
  let c4_i32_69 : BitVec 32 := 4#32
  let c0_i32_70 : BitVec 32 := 0#32
  let v144 : BitVec 1 := Scalar.cmpi .eq c4_i32_69 c0_i32_70
  let c1_i32_71 : BitVec 32 := 1#32
  let v145 : BitVec 32 := Scalar.select v144 c1_i32_71 c4_i32_69
  let v146 : BitVec 32 := Scalar.remsi arg2 v145
  let c0_i32_73 : BitVec 32 := 0#32
  let v148 : BitVec 1 := Scalar.cmpi .slt v146 c0_i32_73
  let c0_i32_74 : BitVec 32 := 0#32
  let v149 : BitVec 1 := Scalar.cmpi .slt v145 c0_i32_74
  let v150 : BitVec 1 := Scalar.xori v148 v149
  let c0_i32_72 : BitVec 32 := 0#32
  let v147 : BitVec 1 := Scalar.cmpi .ne v146 c0_i32_72
  let v151 : BitVec 1 := Scalar.andi v150 v147
  let v152 : BitVec 32 := Scalar.addi v146 v145
  let v153 : BitVec 32 := Scalar.select v151 v152 v146
  let c2_i32 : BitVec 32 := 2#32
  let v154 : BitVec 1 := Scalar.cmpi .eq v153 c2_i32
  let v155 : BitVec 32 := Scalar.extui v154
  let c0_i32_75 : BitVec 32 := 0#32
  let v156 : BitVec 1 := Scalar.cmpi .ne v155 c0_i32_75
  v156

def k0_mult5 (i : grid0.Coords) : BitVec 32 :=
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c256_i32_171 : BitVec 32 := 256#32
  let v316 : BitVec 32 := Scalar.muli v315 c256_i32_171
  v316
def k0_off25 (i : grid0.Coords) : Fin 3 → Nat :=
  let c0_174 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c256_i32_171 : BitVec 32 := 256#32
  let v316 : BitVec 32 := Scalar.muli v315 c256_i32_171
  let v317 : BitVec 32 := v316
  let v319 : Index := Scalar.indexCast v317
  let c0_175 : Index := 0#32
  ![0, v319.toNat, 0]
def k0_off26 (i : grid0.Coords) (c0_i32_177 : BitVec 32) : Fin 5 → Nat :=
  let c0_178 : Index := 0#32
  let c0_179 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let v323 : BitVec 32 := Scalar.addi v315 c0_i32_177
  let v324 : Index := Scalar.indexCast v323
  let c0_180 : Index := 0#32
  let c0_181 : Index := 0#32
  ![0, 0, v324.toNat, 0, 0]
def k0_off27 (i : grid0.Coords) (c0_i32_188 : BitVec 32) : Fin 5 → Nat :=
  let c0_189 : Index := 0#32
  let c0_190 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let v337 : BitVec 32 := Scalar.addi v315 c0_i32_188
  let v338 : Index := Scalar.indexCast v337
  let c2_191 : Index := 2#32
  let c0_192 : Index := 0#32
  ![0, 0, v338.toNat, 2, 0]
def k0_off28 (i : grid0.Coords) (c0_i32_199 : BitVec 32) : Fin 5 → Nat :=
  let c0_200 : Index := 0#32
  let c0_201 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let v351 : BitVec 32 := Scalar.addi v315 c0_i32_199
  let v352 : Index := Scalar.indexCast v351
  let c1_202 : Index := 1#32
  let c0_203 : Index := 0#32
  ![0, 0, v352.toNat, 1, 0]
def k0_off29 (i : grid0.Coords) (c0_i32_210 : BitVec 32) : Fin 5 → Nat :=
  let c0_211 : Index := 0#32
  let c0_212 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let v365 : BitVec 32 := Scalar.addi v315 c0_i32_210
  let v366 : Index := Scalar.indexCast v365
  let c3_213 : Index := 3#32
  let c0_214 : Index := 0#32
  ![0, 0, v366.toNat, 3, 0]
def k0_off30 (i : grid0.Coords) (c0_i32_221 : BitVec 32) : Fin 3 → Nat :=
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let v381 : BitVec 32 := Scalar.addi v315 c0_i32_221
  let v382 : Index := Scalar.indexCast v381
  let c0_222 : Index := 0#32
  let c0_223 : Index := 0#32
  ![v382.toNat, 0, 0]
def k0_cond3 (i : grid0.Coords) : BitVec 1 :=
  let arg2 : BitVec 32 := BitVec.ofNat 32 (i 2).val
  let c4_i32_76 : BitVec 32 := 4#32
  let c0_i32_77 : BitVec 32 := 0#32
  let v157 : BitVec 1 := Scalar.cmpi .eq c4_i32_76 c0_i32_77
  let c1_i32_78 : BitVec 32 := 1#32
  let v158 : BitVec 32 := Scalar.select v157 c1_i32_78 c4_i32_76
  let v159 : BitVec 32 := Scalar.remsi arg2 v158
  let c0_i32_80 : BitVec 32 := 0#32
  let v161 : BitVec 1 := Scalar.cmpi .slt v159 c0_i32_80
  let c0_i32_81 : BitVec 32 := 0#32
  let v162 : BitVec 1 := Scalar.cmpi .slt v158 c0_i32_81
  let v163 : BitVec 1 := Scalar.xori v161 v162
  let c0_i32_79 : BitVec 32 := 0#32
  let v160 : BitVec 1 := Scalar.cmpi .ne v159 c0_i32_79
  let v164 : BitVec 1 := Scalar.andi v163 v160
  let v165 : BitVec 32 := Scalar.addi v159 v158
  let v166 : BitVec 32 := Scalar.select v164 v165 v159
  let c3_i32 : BitVec 32 := 3#32
  let v167 : BitVec 1 := Scalar.cmpi .eq v166 c3_i32
  let v168 : BitVec 32 := Scalar.extui v167
  let c0_i32_82 : BitVec 32 := 0#32
  let v169 : BitVec 1 := Scalar.cmpi .ne v168 c0_i32_82
  v169

def k0_mult6 (i : grid0.Coords) : BitVec 32 :=
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c256_i32_171 : BitVec 32 := 256#32
  let v316 : BitVec 32 := Scalar.muli v315 c256_i32_171
  v316
def k0_off31 (i : grid0.Coords) : Fin 3 → Nat :=
  let c0_174 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c256_i32_171 : BitVec 32 := 256#32
  let v316 : BitVec 32 := Scalar.muli v315 c256_i32_171
  let v317 : BitVec 32 := v316
  let v319 : Index := Scalar.indexCast v317
  let c0_175 : Index := 0#32
  ![0, v319.toNat, 0]
def k0_off32 (i : grid0.Coords) (c0_i32_177 : BitVec 32) : Fin 5 → Nat :=
  let c0_178 : Index := 0#32
  let c0_179 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let v323 : BitVec 32 := Scalar.addi v315 c0_i32_177
  let v324 : Index := Scalar.indexCast v323
  let c0_180 : Index := 0#32
  let c0_181 : Index := 0#32
  ![0, 0, v324.toNat, 0, 0]
def k0_off33 (i : grid0.Coords) (c0_i32_193 : BitVec 32) : Fin 5 → Nat :=
  let c0_194 : Index := 0#32
  let c0_195 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let v341 : BitVec 32 := Scalar.addi v315 c0_i32_193
  let v342 : Index := Scalar.indexCast v341
  let c2_196 : Index := 2#32
  let c0_197 : Index := 0#32
  ![0, 0, v342.toNat, 2, 0]
def k0_off34 (i : grid0.Coords) (c0_i32_209 : BitVec 32) : Fin 5 → Nat :=
  let c0_210 : Index := 0#32
  let c0_211 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let v359 : BitVec 32 := Scalar.addi v315 c0_i32_209
  let v360 : Index := Scalar.indexCast v359
  let c1_212 : Index := 1#32
  let c0_213 : Index := 0#32
  ![0, 0, v360.toNat, 1, 0]
def k0_off35 (i : grid0.Coords) (c0_i32_225 : BitVec 32) : Fin 5 → Nat :=
  let c0_226 : Index := 0#32
  let c0_227 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let v377 : BitVec 32 := Scalar.addi v315 c0_i32_225
  let v378 : Index := Scalar.indexCast v377
  let c3_228 : Index := 3#32
  let c0_229 : Index := 0#32
  ![0, 0, v378.toNat, 3, 0]
def k0_off36 (i : grid0.Coords) (c0_i32_241 : BitVec 32) : Fin 3 → Nat :=
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let v397 : BitVec 32 := Scalar.addi v315 c0_i32_241
  let v398 : Index := Scalar.indexCast v397
  let c0_242 : Index := 0#32
  let c0_243 : Index := 0#32
  ![v398.toNat, 0, 0]
def k0_mult7 (i : grid0.Coords) : BitVec 32 :=
  let arg2 : BitVec 32 := BitVec.ofNat 32 (i 2).val
  let c256_i32_110 : BitVec 32 := 256#32
  let v204 : BitVec 32 := Scalar.muli arg2 c256_i32_110
  v204
@[reducible] def k0_t3_loop (i : grid0.Coords) : Scf.Loop 32 :=
  let c0_i32_125 : BitVec 32 := 0#32
  let arg2 : BitVec 32 := BitVec.ofNat 32 (i 2).val
  let c0_i32_118 : BitVec 32 := 0#32
  let v216 : BitVec 1 := Scalar.cmpi .sgt arg2 c0_i32_118
  let v217 : BitVec 32 := Scalar.extui v216
  let c0_i32_119 : BitVec 32 := 0#32
  let v218 : BitVec 1 := Scalar.cmpi .slt arg2 c0_i32_119
  let v219 : BitVec 32 := Scalar.extui v218
  let v220 : BitVec 32 := Scalar.subi v217 v219
  let c4_i32_117 : BitVec 32 := 4#32
  let c0_i32_120 : BitVec 32 := 0#32
  let v221 : BitVec 1 := Scalar.cmpi .sgt c4_i32_117 c0_i32_120
  let v222 : BitVec 32 := Scalar.extui v221
  let c0_i32_121 : BitVec 32 := 0#32
  let v223 : BitVec 1 := Scalar.cmpi .slt c4_i32_117 c0_i32_121
  let v224 : BitVec 32 := Scalar.extui v223
  let v225 : BitVec 32 := Scalar.subi v222 v224
  let v226 : BitVec 1 := Scalar.cmpi .ne v220 v225
  let v227 : BitVec 32 := Scalar.remsi arg2 c4_i32_117
  let c0_i32_122 : BitVec 32 := 0#32
  let v228 : BitVec 1 := Scalar.cmpi .ne v227 c0_i32_122
  let v229 : BitVec 1 := Scalar.andi v226 v228
  let v215 : BitVec 32 := Scalar.divsi arg2 c4_i32_117
  let c1_i32_123 : BitVec 32 := 1#32
  let v230 : BitVec 32 := Scalar.subi v215 c1_i32_123
  let v231 : BitVec 32 := Scalar.select v229 v230 v215
  let v232 : BitVec 32 := Scalar.subi v231 c0_i32_125
  let c1_i32_126 : BitVec 32 := 1#32
  let v234 : BitVec 32 := Scalar.divsi v232 c1_i32_126
  let v235 : BitVec 32 := Scalar.muli v234 c1_i32_126
  let v236 : BitVec 32 := Scalar.addi c0_i32_125 v235
  let c1_i32_127 : BitVec 32 := 1#32
  ⟨c0_i32_125, v236, c1_i32_127⟩
def k0_off37 (i : grid0.Coords) (k0_t3 : Fin (k0_t3_loop i).trips) (c0_i32_166 : BitVec 32) : Fin 3 → Nat :=
  let c4_i32_163 : BitVec 32 := 4#32
  let c0_i32_125 : BitVec 32 := 0#32
  let c1_i32_127 : BitVec 32 := 1#32
  let arg14 : BitVec 32 := Scf.iv c0_i32_125 c1_i32_127 k0_t3
  let v298 : BitVec 32 := Scalar.muli c4_i32_163 arg14
  let v300 : BitVec 32 := Scalar.addi v298 c0_i32_166
  let v301 : Index := Scalar.indexCast v300
  let c0_167 : Index := 0#32
  let c0_168 : Index := 0#32
  ![v301.toNat, 0, 0]
def k0_mult8 (i : grid0.Coords) (k0_t3 : Fin (k0_t3_loop i).trips) : BitVec 32 :=
  let c4_i32_163 : BitVec 32 := 4#32
  let c0_i32_125 : BitVec 32 := 0#32
  let c1_i32_127 : BitVec 32 := 1#32
  let arg14 : BitVec 32 := Scf.iv c0_i32_125 c1_i32_127 k0_t3
  let v298 : BitVec 32 := Scalar.muli c4_i32_163 arg14
  let c256_i32_178 : BitVec 32 := 256#32
  let v342 : BitVec 32 := Scalar.muli v298 c256_i32_178
  v342
def k0_off38 (i : grid0.Coords) (k0_t3 : Fin (k0_t3_loop i).trips) : Fin 3 → Nat :=
  let c0_179 : Index := 0#32
  let c4_i32_163 : BitVec 32 := 4#32
  let c0_i32_125 : BitVec 32 := 0#32
  let c1_i32_127 : BitVec 32 := 1#32
  let arg14 : BitVec 32 := Scf.iv c0_i32_125 c1_i32_127 k0_t3
  let v298 : BitVec 32 := Scalar.muli c4_i32_163 arg14
  let c256_i32_178 : BitVec 32 := 256#32
  let v342 : BitVec 32 := Scalar.muli v298 c256_i32_178
  let v343 : BitVec 32 := v342
  let v344 : Index := Scalar.indexCast v343
  let c0_180 : Index := 0#32
  ![0, v344.toNat, 0]
@[reducible] def k0_t4_loop (i : grid0.Coords) : Scf.Loop 32 :=
  let c0_i32_125 : BitVec 32 := 0#32
  let arg2 : BitVec 32 := BitVec.ofNat 32 (i 2).val
  let c0_i32_118 : BitVec 32 := 0#32
  let v216 : BitVec 1 := Scalar.cmpi .sgt arg2 c0_i32_118
  let v217 : BitVec 32 := Scalar.extui v216
  let c0_i32_119 : BitVec 32 := 0#32
  let v218 : BitVec 1 := Scalar.cmpi .slt arg2 c0_i32_119
  let v219 : BitVec 32 := Scalar.extui v218
  let v220 : BitVec 32 := Scalar.subi v217 v219
  let c4_i32_117 : BitVec 32 := 4#32
  let c0_i32_120 : BitVec 32 := 0#32
  let v221 : BitVec 1 := Scalar.cmpi .sgt c4_i32_117 c0_i32_120
  let v222 : BitVec 32 := Scalar.extui v221
  let c0_i32_121 : BitVec 32 := 0#32
  let v223 : BitVec 1 := Scalar.cmpi .slt c4_i32_117 c0_i32_121
  let v224 : BitVec 32 := Scalar.extui v223
  let v225 : BitVec 32 := Scalar.subi v222 v224
  let v226 : BitVec 1 := Scalar.cmpi .ne v220 v225
  let v227 : BitVec 32 := Scalar.remsi arg2 c4_i32_117
  let c0_i32_122 : BitVec 32 := 0#32
  let v228 : BitVec 1 := Scalar.cmpi .ne v227 c0_i32_122
  let v229 : BitVec 1 := Scalar.andi v226 v228
  let v215 : BitVec 32 := Scalar.divsi arg2 c4_i32_117
  let c1_i32_123 : BitVec 32 := 1#32
  let v230 : BitVec 32 := Scalar.subi v215 c1_i32_123
  let v231 : BitVec 32 := Scalar.select v229 v230 v215
  let v232 : BitVec 32 := Scalar.subi v231 c0_i32_125
  let c1_i32_126 : BitVec 32 := 1#32
  let v234 : BitVec 32 := Scalar.divsi v232 c1_i32_126
  let v235 : BitVec 32 := Scalar.muli v234 c1_i32_126
  let v236 : BitVec 32 := Scalar.addi c0_i32_125 v235
  let v233 : BitVec 32 := Scalar.addi c0_i32_125 v232
  let c1_i32_128 : BitVec 32 := 1#32
  ⟨v236, v233, c1_i32_128⟩
def k0_off39 (i : grid0.Coords) (k0_t4 : Fin (k0_t4_loop i).trips) (c0_i32_166 : BitVec 32) : Fin 3 → Nat :=
  let c4_i32_163 : BitVec 32 := 4#32
  let c0_i32_125 : BitVec 32 := 0#32
  let arg2 : BitVec 32 := BitVec.ofNat 32 (i 2).val
  let c0_i32_118 : BitVec 32 := 0#32
  let v216 : BitVec 1 := Scalar.cmpi .sgt arg2 c0_i32_118
  let v217 : BitVec 32 := Scalar.extui v216
  let c0_i32_119 : BitVec 32 := 0#32
  let v218 : BitVec 1 := Scalar.cmpi .slt arg2 c0_i32_119
  let v219 : BitVec 32 := Scalar.extui v218
  let v220 : BitVec 32 := Scalar.subi v217 v219
  let c4_i32_117 : BitVec 32 := 4#32
  let c0_i32_120 : BitVec 32 := 0#32
  let v221 : BitVec 1 := Scalar.cmpi .sgt c4_i32_117 c0_i32_120
  let v222 : BitVec 32 := Scalar.extui v221
  let c0_i32_121 : BitVec 32 := 0#32
  let v223 : BitVec 1 := Scalar.cmpi .slt c4_i32_117 c0_i32_121
  let v224 : BitVec 32 := Scalar.extui v223
  let v225 : BitVec 32 := Scalar.subi v222 v224
  let v226 : BitVec 1 := Scalar.cmpi .ne v220 v225
  let v227 : BitVec 32 := Scalar.remsi arg2 c4_i32_117
  let c0_i32_122 : BitVec 32 := 0#32
  let v228 : BitVec 1 := Scalar.cmpi .ne v227 c0_i32_122
  let v229 : BitVec 1 := Scalar.andi v226 v228
  let v215 : BitVec 32 := Scalar.divsi arg2 c4_i32_117
  let c1_i32_123 : BitVec 32 := 1#32
  let v230 : BitVec 32 := Scalar.subi v215 c1_i32_123
  let v231 : BitVec 32 := Scalar.select v229 v230 v215
  let v232 : BitVec 32 := Scalar.subi v231 c0_i32_125
  let c1_i32_126 : BitVec 32 := 1#32
  let v234 : BitVec 32 := Scalar.divsi v232 c1_i32_126
  let v235 : BitVec 32 := Scalar.muli v234 c1_i32_126
  let v236 : BitVec 32 := Scalar.addi c0_i32_125 v235
  let c1_i32_128 : BitVec 32 := 1#32
  let arg14 : BitVec 32 := Scf.iv v236 c1_i32_128 k0_t4
  let v298 : BitVec 32 := Scalar.muli c4_i32_163 arg14
  let v300 : BitVec 32 := Scalar.addi v298 c0_i32_166
  let v301 : Index := Scalar.indexCast v300
  let c0_167 : Index := 0#32
  let c0_168 : Index := 0#32
  ![v301.toNat, 0, 0]
def k0_mult9 (i : grid0.Coords) (k0_t4 : Fin (k0_t4_loop i).trips) : BitVec 32 :=
  let c4_i32_163 : BitVec 32 := 4#32
  let c0_i32_125 : BitVec 32 := 0#32
  let arg2 : BitVec 32 := BitVec.ofNat 32 (i 2).val
  let c0_i32_118 : BitVec 32 := 0#32
  let v216 : BitVec 1 := Scalar.cmpi .sgt arg2 c0_i32_118
  let v217 : BitVec 32 := Scalar.extui v216
  let c0_i32_119 : BitVec 32 := 0#32
  let v218 : BitVec 1 := Scalar.cmpi .slt arg2 c0_i32_119
  let v219 : BitVec 32 := Scalar.extui v218
  let v220 : BitVec 32 := Scalar.subi v217 v219
  let c4_i32_117 : BitVec 32 := 4#32
  let c0_i32_120 : BitVec 32 := 0#32
  let v221 : BitVec 1 := Scalar.cmpi .sgt c4_i32_117 c0_i32_120
  let v222 : BitVec 32 := Scalar.extui v221
  let c0_i32_121 : BitVec 32 := 0#32
  let v223 : BitVec 1 := Scalar.cmpi .slt c4_i32_117 c0_i32_121
  let v224 : BitVec 32 := Scalar.extui v223
  let v225 : BitVec 32 := Scalar.subi v222 v224
  let v226 : BitVec 1 := Scalar.cmpi .ne v220 v225
  let v227 : BitVec 32 := Scalar.remsi arg2 c4_i32_117
  let c0_i32_122 : BitVec 32 := 0#32
  let v228 : BitVec 1 := Scalar.cmpi .ne v227 c0_i32_122
  let v229 : BitVec 1 := Scalar.andi v226 v228
  let v215 : BitVec 32 := Scalar.divsi arg2 c4_i32_117
  let c1_i32_123 : BitVec 32 := 1#32
  let v230 : BitVec 32 := Scalar.subi v215 c1_i32_123
  let v231 : BitVec 32 := Scalar.select v229 v230 v215
  let v232 : BitVec 32 := Scalar.subi v231 c0_i32_125
  let c1_i32_126 : BitVec 32 := 1#32
  let v234 : BitVec 32 := Scalar.divsi v232 c1_i32_126
  let v235 : BitVec 32 := Scalar.muli v234 c1_i32_126
  let v236 : BitVec 32 := Scalar.addi c0_i32_125 v235
  let c1_i32_128 : BitVec 32 := 1#32
  let arg14 : BitVec 32 := Scf.iv v236 c1_i32_128 k0_t4
  let v298 : BitVec 32 := Scalar.muli c4_i32_163 arg14
  let c256_i32_178 : BitVec 32 := 256#32
  let v342 : BitVec 32 := Scalar.muli v298 c256_i32_178
  v342
def k0_off40 (i : grid0.Coords) (k0_t4 : Fin (k0_t4_loop i).trips) : Fin 3 → Nat :=
  let c0_179 : Index := 0#32
  let c4_i32_163 : BitVec 32 := 4#32
  let c0_i32_125 : BitVec 32 := 0#32
  let arg2 : BitVec 32 := BitVec.ofNat 32 (i 2).val
  let c0_i32_118 : BitVec 32 := 0#32
  let v216 : BitVec 1 := Scalar.cmpi .sgt arg2 c0_i32_118
  let v217 : BitVec 32 := Scalar.extui v216
  let c0_i32_119 : BitVec 32 := 0#32
  let v218 : BitVec 1 := Scalar.cmpi .slt arg2 c0_i32_119
  let v219 : BitVec 32 := Scalar.extui v218
  let v220 : BitVec 32 := Scalar.subi v217 v219
  let c4_i32_117 : BitVec 32 := 4#32
  let c0_i32_120 : BitVec 32 := 0#32
  let v221 : BitVec 1 := Scalar.cmpi .sgt c4_i32_117 c0_i32_120
  let v222 : BitVec 32 := Scalar.extui v221
  let c0_i32_121 : BitVec 32 := 0#32
  let v223 : BitVec 1 := Scalar.cmpi .slt c4_i32_117 c0_i32_121
  let v224 : BitVec 32 := Scalar.extui v223
  let v225 : BitVec 32 := Scalar.subi v222 v224
  let v226 : BitVec 1 := Scalar.cmpi .ne v220 v225
  let v227 : BitVec 32 := Scalar.remsi arg2 c4_i32_117
  let c0_i32_122 : BitVec 32 := 0#32
  let v228 : BitVec 1 := Scalar.cmpi .ne v227 c0_i32_122
  let v229 : BitVec 1 := Scalar.andi v226 v228
  let v215 : BitVec 32 := Scalar.divsi arg2 c4_i32_117
  let c1_i32_123 : BitVec 32 := 1#32
  let v230 : BitVec 32 := Scalar.subi v215 c1_i32_123
  let v231 : BitVec 32 := Scalar.select v229 v230 v215
  let v232 : BitVec 32 := Scalar.subi v231 c0_i32_125
  let c1_i32_126 : BitVec 32 := 1#32
  let v234 : BitVec 32 := Scalar.divsi v232 c1_i32_126
  let v235 : BitVec 32 := Scalar.muli v234 c1_i32_126
  let v236 : BitVec 32 := Scalar.addi c0_i32_125 v235
  let c1_i32_128 : BitVec 32 := 1#32
  let arg14 : BitVec 32 := Scf.iv v236 c1_i32_128 k0_t4
  let v298 : BitVec 32 := Scalar.muli c4_i32_163 arg14
  let c256_i32_178 : BitVec 32 := 256#32
  let v342 : BitVec 32 := Scalar.muli v298 c256_i32_178
  let v343 : BitVec 32 := v342
  let v344 : Index := Scalar.indexCast v343
  let c0_180 : Index := 0#32
  ![0, v344.toNat, 0]
def k0_cond4 (i : grid0.Coords) : BitVec 1 :=
  let arg2 : BitVec 32 := BitVec.ofNat 32 (i 2).val
  let c4_i32_129 : BitVec 32 := 4#32
  let c0_i32_130 : BitVec 32 := 0#32
  let v237 : BitVec 1 := Scalar.cmpi .eq c4_i32_129 c0_i32_130
  let c1_i32_131 : BitVec 32 := 1#32
  let v238 : BitVec 32 := Scalar.select v237 c1_i32_131 c4_i32_129
  let v239 : BitVec 32 := Scalar.remsi arg2 v238
  let c0_i32_133 : BitVec 32 := 0#32
  let v241 : BitVec 1 := Scalar.cmpi .slt v239 c0_i32_133
  let c0_i32_134 : BitVec 32 := 0#32
  let v242 : BitVec 1 := Scalar.cmpi .slt v238 c0_i32_134
  let v243 : BitVec 1 := Scalar.xori v241 v242
  let c0_i32_132 : BitVec 32 := 0#32
  let v240 : BitVec 1 := Scalar.cmpi .ne v239 c0_i32_132
  let v244 : BitVec 1 := Scalar.andi v243 v240
  let v245 : BitVec 32 := Scalar.addi v239 v238
  let v246 : BitVec 32 := Scalar.select v244 v245 v239
  let c1_i32_135 : BitVec 32 := 1#32
  let v247 : BitVec 1 := Scalar.cmpi .eq v246 c1_i32_135
  let v248 : BitVec 32 := Scalar.extui v247
  let c0_i32_136 : BitVec 32 := 0#32
  let v249 : BitVec 1 := Scalar.cmpi .ne v248 c0_i32_136
  v249

def k0_off41 (i : grid0.Coords) : Fin 3 → Nat :=
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c0_i32_173 : BitVec 32 := 0#32
  let v317 : BitVec 32 := Scalar.addi v315 c0_i32_173
  let v318 : Index := Scalar.indexCast v317
  let c0_174 : Index := 0#32
  let c0_175 : Index := 0#32
  ![v318.toNat, 0, 0]
def k0_mult10 (i : grid0.Coords) : BitVec 32 :=
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c256_i32_176 : BitVec 32 := 256#32
  let v329 : BitVec 32 := Scalar.muli v315 c256_i32_176
  v329
def k0_off42 (i : grid0.Coords) : Fin 3 → Nat :=
  let c0_177 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c256_i32_176 : BitVec 32 := 256#32
  let v329 : BitVec 32 := Scalar.muli v315 c256_i32_176
  let v330 : BitVec 32 := v329
  let v331 : Index := Scalar.indexCast v330
  let c0_178 : Index := 0#32
  ![0, v331.toNat, 0]
def k0_cond5 (i : grid0.Coords) : BitVec 1 :=
  let arg2 : BitVec 32 := BitVec.ofNat 32 (i 2).val
  let c4_i32_137 : BitVec 32 := 4#32
  let c0_i32_138 : BitVec 32 := 0#32
  let v250 : BitVec 1 := Scalar.cmpi .eq c4_i32_137 c0_i32_138
  let c1_i32_139 : BitVec 32 := 1#32
  let v251 : BitVec 32 := Scalar.select v250 c1_i32_139 c4_i32_137
  let v252 : BitVec 32 := Scalar.remsi arg2 v251
  let c0_i32_141 : BitVec 32 := 0#32
  let v254 : BitVec 1 := Scalar.cmpi .slt v252 c0_i32_141
  let c0_i32_142 : BitVec 32 := 0#32
  let v255 : BitVec 1 := Scalar.cmpi .slt v251 c0_i32_142
  let v256 : BitVec 1 := Scalar.xori v254 v255
  let c0_i32_140 : BitVec 32 := 0#32
  let v253 : BitVec 1 := Scalar.cmpi .ne v252 c0_i32_140
  let v257 : BitVec 1 := Scalar.andi v256 v253
  let v258 : BitVec 32 := Scalar.addi v252 v251
  let v259 : BitVec 32 := Scalar.select v257 v258 v252
  let c2_i32_143 : BitVec 32 := 2#32
  let v260 : BitVec 1 := Scalar.cmpi .eq v259 c2_i32_143
  let v261 : BitVec 32 := Scalar.extui v260
  let c0_i32_144 : BitVec 32 := 0#32
  let v262 : BitVec 1 := Scalar.cmpi .ne v261 c0_i32_144
  v262

def k0_off43 (i : grid0.Coords) (c0_i32_173 : BitVec 32) : Fin 3 → Nat :=
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let v317 : BitVec 32 := Scalar.addi v315 c0_i32_173
  let v318 : Index := Scalar.indexCast v317
  let c0_174 : Index := 0#32
  let c0_175 : Index := 0#32
  ![v318.toNat, 0, 0]
def k0_mult11 (i : grid0.Coords) : BitVec 32 :=
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c256_i32_179 : BitVec 32 := 256#32
  let v339 : BitVec 32 := Scalar.muli v315 c256_i32_179
  v339
def k0_off44 (i : grid0.Coords) : Fin 3 → Nat :=
  let c0_180 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c256_i32_179 : BitVec 32 := 256#32
  let v339 : BitVec 32 := Scalar.muli v315 c256_i32_179
  let v340 : BitVec 32 := v339
  let v341 : Index := Scalar.indexCast v340
  let c0_181 : Index := 0#32
  ![0, v341.toNat, 0]
def k0_cond6 (i : grid0.Coords) : BitVec 1 :=
  let arg2 : BitVec 32 := BitVec.ofNat 32 (i 2).val
  let c4_i32_145 : BitVec 32 := 4#32
  let c0_i32_146 : BitVec 32 := 0#32
  let v263 : BitVec 1 := Scalar.cmpi .eq c4_i32_145 c0_i32_146
  let c1_i32_147 : BitVec 32 := 1#32
  let v264 : BitVec 32 := Scalar.select v263 c1_i32_147 c4_i32_145
  let v265 : BitVec 32 := Scalar.remsi arg2 v264
  let c0_i32_149 : BitVec 32 := 0#32
  let v267 : BitVec 1 := Scalar.cmpi .slt v265 c0_i32_149
  let c0_i32_150 : BitVec 32 := 0#32
  let v268 : BitVec 1 := Scalar.cmpi .slt v264 c0_i32_150
  let v269 : BitVec 1 := Scalar.xori v267 v268
  let c0_i32_148 : BitVec 32 := 0#32
  let v266 : BitVec 1 := Scalar.cmpi .ne v265 c0_i32_148
  let v270 : BitVec 1 := Scalar.andi v269 v266
  let v271 : BitVec 32 := Scalar.addi v265 v264
  let v272 : BitVec 32 := Scalar.select v270 v271 v265
  let c3_i32_151 : BitVec 32 := 3#32
  let v273 : BitVec 1 := Scalar.cmpi .eq v272 c3_i32_151
  let v274 : BitVec 32 := Scalar.extui v273
  let c0_i32_152 : BitVec 32 := 0#32
  let v275 : BitVec 1 := Scalar.cmpi .ne v274 c0_i32_152
  v275

def k0_off45 (i : grid0.Coords) (c0_i32_173 : BitVec 32) : Fin 3 → Nat :=
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let v317 : BitVec 32 := Scalar.addi v315 c0_i32_173
  let v318 : Index := Scalar.indexCast v317
  let c0_174 : Index := 0#32
  let c0_175 : Index := 0#32
  ![v318.toNat, 0, 0]
def k0_mult12 (i : grid0.Coords) : BitVec 32 :=
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c256_i32_182 : BitVec 32 := 256#32
  let v349 : BitVec 32 := Scalar.muli v315 c256_i32_182
  v349
def k0_off46 (i : grid0.Coords) : Fin 3 → Nat :=
  let c0_183 : Index := 0#32
  let arg2 : BitVec 32 := BitVec.ofNat 32 (i 2).val
  let c0_i32_164 : BitVec 32 := 0#32
  let v299 : BitVec 1 := Scalar.cmpi .sgt arg2 c0_i32_164
  let v300 : BitVec 32 := Scalar.extui v299
  let c0_i32_165 : BitVec 32 := 0#32
  let v301 : BitVec 1 := Scalar.cmpi .slt arg2 c0_i32_165
  let v302 : BitVec 32 := Scalar.extui v301
  let v303 : BitVec 32 := Scalar.subi v300 v302
  let c4_i32_163 : BitVec 32 := 4#32
  let c0_i32_166 : BitVec 32 := 0#32
  let v304 : BitVec 1 := Scalar.cmpi .sgt c4_i32_163 c0_i32_166
  let v305 : BitVec 32 := Scalar.extui v304
  let c0_i32_167 : BitVec 32 := 0#32
  let v306 : BitVec 1 := Scalar.cmpi .slt c4_i32_163 c0_i32_167
  let v307 : BitVec 32 := Scalar.extui v306
  let v308 : BitVec 32 := Scalar.subi v305 v307
  let v309 : BitVec 1 := Scalar.cmpi .ne v303 v308
  let v310 : BitVec 32 := Scalar.remsi arg2 c4_i32_163
  let c0_i32_168 : BitVec 32 := 0#32
  let v311 : BitVec 1 := Scalar.cmpi .ne v310 c0_i32_168
  let v312 : BitVec 1 := Scalar.andi v309 v311
  let v298 : BitVec 32 := Scalar.divsi arg2 c4_i32_163
  let c1_i32_169 : BitVec 32 := 1#32
  let v313 : BitVec 32 := Scalar.subi v298 c1_i32_169
  let v314 : BitVec 32 := Scalar.select v312 v313 v298
  let c4_i32_170 : BitVec 32 := 4#32
  let v315 : BitVec 32 := Scalar.muli v314 c4_i32_170
  let c256_i32_182 : BitVec 32 := 256#32
  let v349 : BitVec 32 := Scalar.muli v315 c256_i32_182
  let v350 : BitVec 32 := v349
  let v351 : Index := Scalar.indexCast v350
  let c0_184 : Index := 0#32
  ![0, v351.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x8x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "neg" => some ⊥
  | "q_scale" => some (((1 / 8) * (Real.log 2)⁻¹ : ℝ) : EReal)
  | _ => none
-- ==== ReferenceIdeal.lean ====
abbrev S16x2048x16x64 : Shape := ⟨4, ![16, 2048, 16, 64]⟩
abbrev S16x2048x8x64 : Shape := ⟨4, ![16, 2048, 8, 64]⟩
abbrev S16x2048x16 : Shape := ⟨3, ![16, 2048, 16]⟩
abbrev S16x2048x8x2x64 : Shape := ⟨5, ![16, 2048, 8, 2, 64]⟩
abbrev S16x8x2048x2048x2 : Shape := ⟨5, ![16, 8, 2048, 2048, 2]⟩
abbrev S16x8x2x2048x2048 : Shape := ⟨5, ![16, 8, 2, 2048, 2048]⟩
abbrev S_ : Shape := ⟨0, ![]⟩
abbrev S16x16x2048 : Shape := ⟨3, ![16, 16, 2048]⟩
abbrev S16x8x2x2048 : Shape := ⟨4, ![16, 8, 2, 2048]⟩
abbrev S16x8x2x2048x1 : Shape := ⟨5, ![16, 8, 2, 2048, 1]⟩
abbrev S16x8x2x1x2048 : Shape := ⟨5, ![16, 8, 2, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x64x2x2048 : Shape := ⟨5, ![16, 8, 64, 2, 2048]⟩
abbrev S16x2048x4x2x2x64 : Shape := ⟨6, ![16, 2048, 4, 2, 2, 64]⟩
abbrev S16x2048x1024 : Shape := ⟨3, ![16, 2048, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x8x64, .f32⟩
  | .hbm, ⟨2, _⟩ => ⟨S16x2048x8x64, .f32⟩
  | .hbm, ⟨3, _⟩ => ⟨S16x2048x16, .f32⟩
  | .hbm, ⟨4, _⟩ => ⟨S16x2048x8x2x64, .f32⟩
  | .hbm, ⟨5, _⟩ => ⟨S16x8x2048x2048x2, .f32⟩
  | .hbm, ⟨6, _⟩ => ⟨S16x8x2x2048x2048, .f32⟩
  | .hbm, ⟨7, _⟩ => ⟨S_, .f32⟩
  | .hbm, ⟨8, _⟩ => ⟨S16x8x2x2048x2048, .f32⟩
  | .hbm, ⟨9, _⟩ => ⟨S16x8x2x2048x2048, .f32⟩
  | .hbm, ⟨10, _⟩ => ⟨S16x16x2048, .f32⟩
  | .hbm, ⟨11, _⟩ => ⟨S16x8x2x2048, .f32⟩
  | .hbm, ⟨12, _⟩ => ⟨S16x8x2x2048x1, .f32⟩
  | .hbm, ⟨13, _⟩ => ⟨S16x8x2x2048x2048, .f32⟩
  | .hbm, ⟨14, _⟩ => ⟨S16x8x2x2048x2048, .f32⟩
  | .hbm, ⟨15, _⟩ => ⟨S16x8x2x1x2048, .f32⟩
  | .hbm, ⟨16, _⟩ => ⟨S16x8x2x2048x2048, .f32⟩
  | .hbm, ⟨17, _⟩ => ⟨S16x8x2x2048x2048, .f32⟩
  | .hbm, ⟨18, _⟩ => ⟨S2048, .i32⟩
  | .hbm, ⟨19, _⟩ => ⟨S2048x1, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S16x8x2x2048x2048, .i1⟩
  | .hbm, ⟨30, _⟩ => ⟨S16x8x2x2048x2048, .f32⟩
  | .hbm, ⟨31, _⟩ => ⟨S16x8x2x2048x2048, .f32⟩
  | .hbm, ⟨32, _⟩ => ⟨S_, .f32⟩
  | .hbm, ⟨33, _⟩ => ⟨S16x8x2x2048, .f32⟩
  | .hbm, ⟨34, _⟩ => ⟨S_, .f32⟩
  | .hbm, ⟨35, _⟩ => ⟨S16x8x2x2048, .f32⟩
  | .hbm, ⟨36, _⟩ => ⟨S16x8x2x2048, .f32⟩
  | .hbm, ⟨37, _⟩ => ⟨S16x8x2x2048x1, .f32⟩
  | .hbm, ⟨38, _⟩ => ⟨S16x8x2x2048x2048, .f32⟩
  | .hbm, ⟨39, _⟩ => ⟨S16x8x2x2048x2048, .f32⟩
  | .hbm, ⟨40, _⟩ => ⟨S16x8x2x2048x2048, .f32⟩
  | .hbm, ⟨41, _⟩ => ⟨S_, .f32⟩
  | .hbm, ⟨42, _⟩ => ⟨S16x8x2x2048, .f32⟩
  | .hbm, ⟨43, _⟩ => ⟨S16x8x2x2048x1, .f32⟩
  | .hbm, ⟨44, _⟩ => ⟨S16x8x2x2048x2048, .f32⟩
  | .hbm, ⟨45, _⟩ => ⟨S16x8x2x2048x2048, .f32⟩
  | .hbm, ⟨46, _⟩ => ⟨S16x8x64x2x2048, .f32⟩
  | .hbm, ⟨47, _⟩ => ⟨S16x2048x8x2x64, .f32⟩
  | .hbm, ⟨48, _⟩ => ⟨S16x2048x4x2x2x64, .f32⟩
  | .hbm, ⟨49, _⟩ => ⟨S16x2048x4x2x2x64, .f32⟩
  | .hbm, ⟨50, _⟩ => ⟨S16x2048x1024, .f32⟩
  | .hbm, ⟨51, _⟩ => ⟨S16x2048x1024, .bf16⟩
  | _, _ => ⟨S16x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel2.lean ====
abbrev S16x2048x1024 : Shape := ⟨3, ![16, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 14
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024x4096, .f32⟩
  | .hbm, ⟨6, _⟩ => ⟨S1024x4096, .bf16⟩
  | .hbm, ⟨7, _⟩ => ⟨S4096x1024, .f32⟩
  | .hbm, ⟨8, _⟩ => ⟨S4096x1024, .bf16⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S32768x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x2048x1024 : Shape := ⟨3, ![16, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x4096 : Shape := ⟨2, ![1024, 4096]⟩
abbrev S16x2048x4096 : Shape := ⟨3, ![16, 2048, 4096]⟩
abbrev S4096x1024 : Shape := ⟨2, ![4096, 1024]⟩
abbrev S32768x1024 : Shape := ⟨2, ![32768, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S1024x4096, .f32⟩
  | .hbm, ⟨23, _⟩ => ⟨S16x2048x4096, .f32⟩
  | .hbm, ⟨24, _⟩ => ⟨S_, .f32⟩
  | .hbm, ⟨25, _⟩ => ⟨S16x2048x4096, .f32⟩
  | .hbm, ⟨26, _⟩ => ⟨S16x2048x4096, .f32⟩
  | .hbm, ⟨27, _⟩ => ⟨S16x2048x4096, .f32⟩
  | .hbm, ⟨28, _⟩ => ⟨S4096x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S16x2048x1, .f32⟩
  | .hbm, ⟨42, _⟩ => ⟨S16x2048x1024, .f32⟩
  | .hbm, ⟨43, _⟩ => ⟨S16x2048x1024, .f32⟩
  | .hbm, ⟨44, _⟩ => ⟨S1x1x1024, .f32⟩
  | .hbm, ⟨45, _⟩ => ⟨S16x2048x1024, .f32⟩
  | .hbm, ⟨46, _⟩ => ⟨S16x2048x1024, .f32⟩
  | .hbm, ⟨47, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel3.lean ====
abbrev S16x2048x1024 : Shape := ⟨3, ![16, 2048, 1024]⟩
abbrev S32768x1024 : Shape := ⟨2, ![32768, 1024]⟩
abbrev S1x1024x1024 : Shape := ⟨3, ![1, 1024, 1024]⟩
abbrev S16 : Shape := ⟨1, ![16]⟩
abbrev S1024x1024 : Shape := ⟨2, ![1024, 1024]⟩
abbrev S16x64x1024 : Shape := ⟨3, ![16, 64, 1024]⟩
abbrev S_ : Shape := ⟨0, ![]⟩
abbrev S16x1 : Shape := ⟨2, ![16, 1]⟩
abbrev S512x1024 : Shape := ⟨2, ![512, 1024]⟩

abbrev nBuf : Space → Nat
  | .hbm => 28
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x2048x1024, .bf16⟩
  | .hbm, ⟨3, _⟩ => ⟨S32768x1024, .bf16⟩
  | .hbm, ⟨4, _⟩ => ⟨S32768x1024, .bf16⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S16, .i32⟩
  | .hbm, ⟨9, _⟩ => ⟨S16, .i1⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S16x64x1024, .f32⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S16, .i32⟩
  | .hbm, ⟨18, _⟩ => ⟨S16x1, .i32⟩
  | .hbm, ⟨19, _⟩ => ⟨S16x64x1024, .f32⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S32768x1024, .f32⟩
  | .hbm, ⟨25, _⟩ => ⟨S32768x1024, .bf16⟩
  | .hbm, ⟨26, _⟩ => ⟨S32768x1024, .bf16⟩
  | .hbm, ⟨27, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16x2048x1024 : Shape := ⟨3, ![16, 2048, 1024]⟩
abbrev S32768x1024 : Shape := ⟨2, ![32768, 1024]⟩
abbrev S1x1024x1024 : Shape := ⟨3, ![1, 1024, 1024]⟩
abbrev S16x2048x4x2x2x64 : Shape := ⟨6, ![16, 2048, 4, 2, 2, 64]⟩
abbrev S1024x1024 : Shape := ⟨2, ![1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x2048x1024, .bf16⟩
  | .hbm, ⟨3, _⟩ => ⟨S32768x1024, .bf16⟩
  | .hbm, ⟨4, _⟩ => ⟨S32768x1024, .bf16⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S16x2048x1024, .f32⟩
  | .hbm, ⟨9, _⟩ => ⟨S16x2048x1024, .f32⟩
  | .hbm, ⟨10, _⟩ => ⟨S32768x1024, .f32⟩
  | .hbm, ⟨11, _⟩ => ⟨S32768x1024, .f32⟩
  | .hbm, ⟨12, _⟩ => ⟨S16x2048x4x2x2x64, .f32⟩
  | .hbm, ⟨13, _⟩ => ⟨S16x2048x4x2x2x64, .f32⟩
  | .hbm, ⟨14, _⟩ => ⟨S1024x1024, .f32⟩
  | .hbm, ⟨15, _⟩ => ⟨S16x2048x1024, .f32⟩
  | .hbm, ⟨16, _⟩ => ⟨S16x2048x1024, .f32⟩
  | .hbm, ⟨17, _⟩ => ⟨S1024x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S1024x1024, .f32⟩
  | .hbm, ⟨25, _⟩ => ⟨S16x2048x1024, .f32⟩
  | .hbm, ⟨26, _⟩ => ⟨S16x2048x1024, .f32⟩
  | .hbm, ⟨27, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Offs.lean ====
module

public import proofs.«01_k».proof.Proof.Gen.KernelIdeal.Frame
public import Idealize.ShloMosaic.Init

/-! Closed forms of the kernel's offsets, conditions and trip counts over its whole grid. With `q = i 2` the query tile,
the quads of key sections below the diagonal are `q / 4` in number and the remainder is `q % 4`. -/

@[expose] public section
set_option maxRecDepth 16384
open Idealize.ShloMosaic Idealize.ShloMosaic.Tactic
namespace Cert.KernelIdeal.Hand
open Cert.KernelIdeal Cert.KernelIdeal.Gen

theorem trips1_eq : ∀ i : grid0.Coords, (k0_t1_loop i).trips = (i 2).val / 4 := by decide +kernel
theorem trips2_eq : ∀ i : grid0.Coords, (k0_t2_loop i).trips = 0 := fun i => Nat.le_zero.1 (k0_t2_abs i).2.1
theorem trips3_eq : ∀ i : grid0.Coords, (k0_t3_loop i).trips = (i 2).val / 4 := by decide +kernel
theorem trips4_eq : ∀ i : grid0.Coords, (k0_t4_loop i).trips = 0 := fun i => Nat.le_zero.1 (k0_t4_abs i).2.1
theorem cond1_iff : ∀ i : grid0.Coords, k0_cond1 i = 1#1 ↔ (i 2).val % 4 = 1 := by decide +kernel
theorem cond2_iff : ∀ i : grid0.Coords, k0_cond2 i = 1#1 ↔ (i 2).val % 4 = 2 := by decide +kernel
theorem cond3_iff : ∀ i : grid0.Coords, k0_cond3 i = 1#1 ↔ (i 2).val % 4 = 3 := by decide +kernel
theorem cond4_iff : ∀ i : grid0.Coords, k0_cond4 i = 1#1 ↔ (i 2).val % 4 = 1 := by decide +kernel
theorem cond5_iff : ∀ i : grid0.Coords, k0_cond5 i = 1#1 ↔ (i 2).val % 4 = 2 := by decide +kernel
theorem cond6_iff : ∀ i : grid0.Coords, k0_cond6 i = 1#1 ↔ (i 2).val % 4 = 3 := by decide +kernel
theorem off7_eq : ∀ (i : grid0.Coords) (k : Fin (k0_t1_loop i).trips), k0_off7 i k = ![0, 1024 * k.val, 0] := by decide +kernel
theorem off8_eq : ∀ (i : grid0.Coords) (k : Fin (k0_t1_loop i).trips) (r : Fin 4), k0_off8 i k (BitVec.ofNat 32 r.val) = ![0, 0, 4 * k.val + r.val, 0, 0] := by decide +kernel
theorem off9_eq : ∀ (i : grid0.Coords) (k : Fin (k0_t1_loop i).trips) (r : Fin 4), k0_off9 i k (BitVec.ofNat 32 r.val) = ![0, 0, 4 * k.val + r.val, 2, 0] := by decide +kernel
theorem off10_eq : ∀ (i : grid0.Coords) (k : Fin (k0_t1_loop i).trips) (r : Fin 4), k0_off10 i k (BitVec.ofNat 32 r.val) = ![0, 0, 4 * k.val + r.val, 1, 0] := by decide +kernel
theorem off11_eq : ∀ (i : grid0.Coords) (k : Fin (k0_t1_loop i).trips) (r : Fin 4), k0_off11 i k (BitVec.ofNat 32 r.val) = ![0, 0, 4 * k.val + r.val, 3, 0] := by decide +kernel
theorem off12_eq : ∀ (i : grid0.Coords) (k : Fin (k0_t1_loop i).trips) (r : Fin 4), k0_off12 i k (BitVec.ofNat 32 r.val) = ![4 * k.val + r.val, 0, 0] := by decide +kernel
theorem off19_eq : ∀ (i : grid0.Coords), k0_off19 i = ![0, 1024 * ((i 2).val / 4), 0] := by decide +kernel
theorem off20_eq : ∀ (i : grid0.Coords), k0_off20 i = ![0, 0, 4 * ((i 2).val / 4), 0, 0] := by decide +kernel
theorem off21_eq : ∀ (i : grid0.Coords), k0_off21 i = ![0, 0, 4 * ((i 2).val / 4), 2, 0] := by decide +kernel
theorem off22_eq : ∀ (i : grid0.Coords), k0_off22 i = ![0, 0, 4 * ((i 2).val / 4), 1, 0] := by decide +kernel
theorem off23_eq : ∀ (i : grid0.Coords), k0_off23 i = ![0, 0, 4 * ((i 2).val / 4), 3, 0] := by decide +kernel
theorem off24_eq : ∀ (i : grid0.Coords), k0_off24 i = ![4 * ((i 2).val / 4), 0, 0] := by decide +kernel
theorem off25_eq : ∀ (i : grid0.Coords), k0_off25 i = ![0, 1024 * ((i 2).val / 4), 0] := by decide +kernel
theorem off26_eq : ∀ (i : grid0.Coords) (r : Fin 2), k0_off26 i (BitVec.ofNat 32 r.val) = ![0, 0, 4 * ((i 2).val / 4) + r.val, 0, 0] := by decide +kernel
theorem off27_eq : ∀ (i : grid0.Coords) (r : Fin 2), k0_off27 i (BitVec.ofNat 32 r.val) = ![0, 0, 4 * ((i 2).val / 4) + r.val, 2, 0] := by decide +kernel
theorem off28_eq : ∀ (i : grid0.Coords) (r : Fin 2), k0_off28 i (BitVec.ofNat 32 r.val) = ![0, 0, 4 * ((i 2).val / 4) + r.val, 1, 0] := by decide +kernel
theorem off29_eq : ∀ (i : grid0.Coords) (r : Fin 2), k0_off29 i (BitVec.ofNat 32 r.val) = ![0, 0, 4 * ((i 2).val / 4) + r.val, 3, 0] := by decide +kernel
theorem off30_eq : ∀ (i : grid0.Coords) (r : Fin 2), k0_off30 i (BitVec.ofNat 32 r.val) = ![4 * ((i 2).val / 4) + r.val, 0, 0] := by decide +kernel
theorem off31_eq : ∀ (i : grid0.Coords), k0_off31 i = ![0, 1024 * ((i 2).val / 4), 0] := by decide +kernel
theorem off32_eq : ∀ (i : grid0.Coords) (r : Fin 3), k0_off32 i (BitVec.ofNat 32 r.val) = ![0, 0, 4 * ((i 2).val / 4) + r.val, 0, 0] := by decide +kernel
theorem off33_eq : ∀ (i : grid0.Coords) (r : Fin 3), k0_off33 i (BitVec.ofNat 32 r.val) = ![0, 0, 4 * ((i 2).val / 4) + r.val, 2, 0] := by decide +kernel
theorem off34_eq : ∀ (i : grid0.Coords) (r : Fin 3), k0_off34 i (BitVec.ofNat 32 r.val) = ![0, 0, 4 * ((i 2).val / 4) + r.val, 1, 0] := by decide +kernel
theorem off35_eq : ∀ (i : grid0.Coords) (r : Fin 3), k0_off35 i (BitVec.ofNat 32 r.val) = ![0, 0, 4 * ((i 2).val / 4) + r.val, 3, 0] := by decide +kernel
theorem off36_eq : ∀ (i : grid0.Coords) (r : Fin 3), k0_off36 i (BitVec.ofNat 32 r.val) = ![4 * ((i 2).val / 4) + r.val, 0, 0] := by decide +kernel
theorem off37_eq : ∀ (i : grid0.Coords) (k : Fin (k0_t3_loop i).trips) (r : Fin 4), k0_off37 i k (BitVec.ofNat 32 r.val) = ![4 * k.val + r.val, 0, 0] := by decide +kernel
theorem off38_eq : ∀ (i : grid0.Coords) (k : Fin (k0_t3_loop i).trips), k0_off38 i k = ![0, 1024 * k.val, 0] := by decide +kernel
theorem off41_eq : ∀ (i : grid0.Coords), k0_off41 i = ![4 * ((i 2).val / 4), 0, 0] := by decide +kernel
theorem off42_eq : ∀ (i : grid0.Coords), k0_off42 i = ![0, 1024 * ((i 2).val / 4), 0] := by decide +kernel
theorem off43_eq : ∀ (i : grid0.Coords) (r : Fin 2), k0_off43 i (BitVec.ofNat 32 r.val) = ![4 * ((i 2).val / 4) + r.val, 0, 0] := by decide +kernel
theorem off44_eq : ∀ (i : grid0.Coords), k0_off44 i = ![0, 1024 * ((i 2).val / 4), 0] := by decide +kernel
theorem off45_eq : ∀ (i : grid0.Coords) (r : Fin 3), k0_off45 i (BitVec.ofNat 32 r.val) = ![4 * ((i 2).val / 4) + r.val, 0, 0] := by decide +kernel
theorem off46_eq : ∀ (i : grid0.Coords), k0_off46 i = ![0, 1024 * ((i 2).val / 4), 0] := by decide +kernel

instance closedOff_k0_off12 (i : grid0.Coords) (k : Fin (k0_t1_loop i).trips) : ClosedOff (k0_off12 i k 0#32) := ⟨![4 * k.val, 0, 0], off12_eq i k 0⟩
instance closedOff_k0_off12_1 (i : grid0.Coords) (k : Fin (k0_t1_loop i).trips) : ClosedOff (k0_off12 i k 1#32) := ⟨![4 * k.val + 1, 0, 0], off12_eq i k 1⟩
instance closedOff_k0_off12_2 (i : grid0.Coords) (k : Fin (k0_t1_loop i).trips) : ClosedOff (k0_off12 i k 2#32) := ⟨![4 * k.val + 2, 0, 0], off12_eq i k 2⟩
instance closedOff_k0_off12_3 (i : grid0.Coords) (k : Fin (k0_t1_loop i).trips) : ClosedOff (k0_off12 i k 3#32) := ⟨![4 * k.val + 3, 0, 0], off12_eq i k 3⟩
instance closedOff_k0_off24 (i : grid0.Coords) : ClosedOff (k0_off24 i) := ⟨_, off24_eq i⟩
instance closedOff_k0_off30 (i : grid0.Coords) : ClosedOff (k0_off30 i 0#32) := ⟨![4 * ((i 2).val / 4), 0, 0], off30_eq i 0⟩
instance closedOff_k0_off30_1 (i : grid0.Coords) : ClosedOff (k0_off30 i 1#32) := ⟨![4 * ((i 2).val / 4) + 1, 0, 0], off30_eq i 1⟩
instance closedOff_k0_off36 (i : grid0.Coords) : ClosedOff (k0_off36 i 0#32) := ⟨![4 * ((i 2).val / 4), 0, 0], off36_eq i 0⟩
instance closedOff_k0_off36_1 (i : grid0.Coords) : ClosedOff (k0_off36 i 1#32) := ⟨![4 * ((i 2).val / 4) + 1, 0, 0], off36_eq i 1⟩
instance closedOff_k0_off36_2 (i : grid0.Coords) : ClosedOff (k0_off36 i 2#32) := ⟨![4 * ((i 2).val / 4) + 2, 0, 0], off36_eq i 2⟩

end Cert.KernelIdeal.Hand
end
-- ==== Proof.Stages.lean ====
/-
  What the body of `attn_b` computes, in steps: each definition is the value a step leaves in a buffer, as a function of
  the blocks the step reads. Row blocks of 256 are SECTIONS: section `s` of the score buffer holds the scores against key
  block `s`.
-/
module

public import proofs.«01_k».proof.Proof.Offs
public import proofs.«01_k».proof.Proof.Gen.KernelIdeal.Skeleton
public import Idealize.ShloMosaic.Lib.Pipeline.FrameBody

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]

/-- What a unit-stride load of extents `size` at `off` reads of `X`. -/
abbrev cut {s : Shape} {e : EltTy} (X : s.Idx → Elt F e) (off size : Fin s.rank → ℕ) (inb : ∀ a, off a + size a ≤ s.size a) :
    (Rect.unit (s := s) off size inb).shape.Idx → Elt F e := View.ld X (Rect.unit (s := s) off size inb)

/-- The contents `X` after the stores `L`, the last one first. -/
def ov {s : Shape} {e : EltTy} : List (View.Piece (Elt F) s e) → (s.Idx → Elt F e) → s.Idx → Elt F e
  | [], X => X
  | p :: L, X => p.1.overlay (ov L X) p.2

theorem read_writes_eq_ov {sp : Space} {s : Shape} {e : EltTy} (v : View sig .tc sp s e) (f : v.ty.Contents (Elt F)) :
    ∀ L : List (View.Piece (Elt F) s e), v.read (Elt F) (v.writes (Elt F) f L) = ov L (v.read (Elt F) f)
  | [] => rfl
  | p :: L => by
    funext y
    by_cases hy : y ∈ p.1.set
    · obtain ⟨r, w⟩ := p
      obtain ⟨x, rfl⟩ : ∃ x, r.emb x = y := r.exists_idx_of_mem hy
      rw [View.read_writes_cons_emb]; exact (r.overlay_emb _ _ x).symm
    · have hy' : y ∉ Finset.univ.map p.1.emb := by rwa [Rect.map_emb_univ]
      rw [View.writes_cons, View.read_slice_write_of_not_mem p.1 _ _ _ hy', read_writes_eq_ov v f L]
      exact (p.1.overlay_of_not_mem _ _ hy).symm

/-- A store of the whole buffer leaves its payload. -/
theorem ov_whole {s : Shape} {e : EltTy} {off : Fin s.rank → ℕ} (inb : ∀ a, off a + s.size a ≤ s.size a)
    (w : s.Idx → Elt F e) (L : List (View.Piece (Elt F) s e)) (X : s.Idx → Elt F e) (h : ∀ a, off a = 0) :
    ov ((⟨Rect.unit off s.size inb, w⟩ : View.Piece (Elt F) s e) :: L) X = w := by
  obtain rfl : off = fun _ => 0 := funext h
  funext y
  have := (Rect.unit (fun _ => 0) s.size inb).overlay_emb (ov L X) w y
  rwa [show (Rect.unit (fun _ => 0) s.size inb).emb y = y from Rect.emb_whole_apply s y] at this

/-! ## The queries, gathered -/

/-- The four row groups of queries gathered from the query block. -/
def gq (X3 : Vec F S1x256x256 .bf16) (G : Vec F S1024x128 .bf16) : Vec F S1024x128 .bf16 :=
  let a := cut X3 ![0, 0, 0] S1x256x128.size inb_S1x256x256_S1x256x128_0_0_0
  let b := cut X3 ![0, 0, 128] S1x256x128.size inb_S1x256x256_S1x256x128_0_0_128
  ov [⟨Rect.unit (s := S1024x128) ![768, 0] S256x128.size inb_S1024x128_S256x128_768_0, k0_pay81 (iota .tc S256x128 32 [1] iota_S256x128_d1_w32) (k0_pay79 b)⟩,
    ⟨Rect.unit (s := S1024x128) ![512, 0] S256x128.size inb_S1024x128_S256x128_512_0, k0_pay80 b⟩,
    ⟨Rect.unit (s := S1024x128) ![256, 0] S256x128.size inb_S1024x128_S256x128_256_0, k0_pay78 a⟩,
    ⟨Rect.unit (s := S1024x128) ![0, 0] S256x128.size inb_S1024x128_S256x128_0_0, k0_pay77 a⟩] G

/-! ## Scores and running maxima -/
abbrev qq (Q : Vec F S1024x128 .bf16) := cut Q ![0, 0] S1024x128.size inb_S1024x128_S1024x128_0_0
abbrev mm (M : Vec F S1024x128 .f32) := cut M ![0, 0] S1024x128.size inb_S1024x128_S1024x128_0_0
abbrev aa (M : Vec F S1024x256 .f32) := cut M ![0, 0] S1024x256.size inb_S1024x256_S1024x256_0_0

section Score
variable (i : grid0.Coords) (Q : Vec F S1024x128 .bf16) (X4 X5 : Vec F S1x2048x128 .bf16) (X6 : Vec F S1x1x256x4 .f32) (X7 : Vec F S1x1x8x4x256 .f32)

def d48 := k0_pay83 (qq Q) (cut X4 (k0_off1 i) S1x256x128.size (k0_off1_inb i))
def d59 := k0_pay84 (qq Q) (cut X4 (k0_off1 i) S1x256x128.size (k0_off1_inb i)) (cut X7 (k0_off2 i) S1x1x1x1x256.size (k0_off2_inb i))
def d67 := k0_pay85 (cut X7 (k0_off3 i) S1x1x1x1x256.size (k0_off3_inb i))
def d68 := k0_pay86 (qq Q) (cut X4 (k0_off1 i) S1x256x128.size (k0_off1_inb i))
/-- The diagonal block's scores, later keys masked out. -/
def dS : FVec F S1x1024x256 .f32 := k0_pay89 k0_pay82 (d48 i Q X4) (d59 i Q X4 X7) (d67 i X7) (d68 i Q X4) (k0_pay87 (F := F)) (cut X7 (k0_off4 i) S1x1x1x1x256.size (k0_off4_inb i)) (cut X7 (k0_off5 i) S1x1x1x1x256.size (k0_off5_inb i))
/-- The maxima of the diagonal block's scores, lane by lane. -/
def dM : FVec F S1024x128 .f32 := k0_pay90 k0_pay82 (d48 i Q X4) (d59 i Q X4 X7) (d67 i X7) (d68 i Q X4) (k0_pay87 (F := F)) (cut X7 (k0_off4 i) S1x1x1x1x256.size (k0_off4_inb i)) (cut X7 (k0_off5 i) S1x1x1x1x256.size (k0_off5_inb i))
/-- The score buffer once the diagonal block is stored. -/
def scoreD (S : Vec F S8x1024x256 .f32) : Vec F S8x1024x256 .f32 :=
  ov [⟨Rect.unit (s := S8x1024x256) (k0_off6 i) S1x1024x256.size (k0_off6_inb i), dS i Q X4 X7⟩] S

variable (k : Fin (k0_t1_loop i).trips)

def t301 := k0_pay3 (qq Q) (cut X4 (k0_off7 i k) S1x1024x128.size (k0_off7_inb i k))
def t323 := k0_pay4 (qq Q) (cut X4 (k0_off7 i k) S1x1024x128.size (k0_off7_inb i k)) (cut X7 (k0_off8 i k 0#32) S1x1x1x1x256.size (k0_off8_inb i k 0)) (cut X7 (k0_off8 i k 1#32) S1x1x1x1x256.size (k0_off8_inb i k 1)) (cut X7 (k0_off8 i k 2#32) S1x1x1x1x256.size (k0_off8_inb i k 2)) (cut X7 (k0_off8 i k 3#32) S1x1x1x1x256.size (k0_off8_inb i k 3))
def t345 := k0_pay5 (t301 i Q X4 k) (cut X7 (k0_off9 i k 0#32) S1x1x1x1x256.size (k0_off9_inb i k 0)) (cut X7 (k0_off9 i k 1#32) S1x1x1x1x256.size (k0_off9_inb i k 1)) (cut X7 (k0_off9 i k 2#32) S1x1x1x1x256.size (k0_off9_inb i k 2)) (cut X7 (k0_off9 i k 3#32) S1x1x1x1x256.size (k0_off9_inb i k 3))
def t367 := k0_pay8 (t301 i Q X4 k) (k0_pay6 (cut X7 (k0_off10 i k 0#32) S1x1x1x1x256.size (k0_off10_inb i k 0))) (k0_pay7 (cut X7 (k0_off10 i k 1#32) S1x1x1x1x256.size (k0_off10_inb i k 1))) (cut X7 (k0_off10 i k 2#32) S1x1x1x1x256.size (k0_off10_inb i k 2)) (cut X7 (k0_off10 i k 3#32) S1x1x1x1x256.size (k0_off10_inb i k 3))
def t371 := k0_pay9 (cut X7 (k0_off11 i k 0#32) S1x1x1x1x256.size (k0_off11_inb i k 0))
def t375 := k0_pay10 (cut X7 (k0_off11 i k 1#32) S1x1x1x1x256.size (k0_off11_inb i k 1))
def t379 := k0_pay11 (cut X7 (k0_off11 i k 2#32) S1x1x1x1x256.size (k0_off11_inb i k 2))
def t382 := (cut X7 (k0_off11 i k 3#32) S1x1x1x1x256.size (k0_off11_inb i k 3))
def tS0 : FVec F S1x1024x256 .f32 := k0_pay13 (t301 i Q X4 k) (t323 i Q X4 X7 k) (t345 i Q X4 X7 k) (t367 i Q X4 X7 k) (t371 i X7 k) (t375 i X7 k) (t379 i X7 k) (t382 i X7 k)
def tS1 : FVec F S1x1024x256 .f32 := k0_pay14 (t301 i Q X4 k) (t323 i Q X4 X7 k) (t345 i Q X4 X7 k) (t367 i Q X4 X7 k) (t371 i X7 k) (t375 i X7 k) (t379 i X7 k) (t382 i X7 k)
def tS2 : FVec F S1x1024x256 .f32 := k0_pay15 (t301 i Q X4 k) (t323 i Q X4 X7 k) (t345 i Q X4 X7 k) (t367 i Q X4 X7 k) (t371 i X7 k) (t375 i X7 k) (t379 i X7 k) (t382 i X7 k)
def tS3 : FVec F S1x1024x256 .f32 := k0_pay16 (t301 i Q X4 k) (t323 i Q X4 X7 k) (t345 i Q X4 X7 k) (t367 i Q X4 X7 k) (t371 i X7 k) (t375 i X7 k) (t379 i X7 k) (t382 i X7 k)
/-- The score buffer after four more full key blocks. -/
def scoreT (S : Vec F S8x1024x256 .f32) : Vec F S8x1024x256 .f32 :=
  ov [⟨Rect.unit (s := S8x1024x256) (k0_off12 i k 3#32) S1x1024x256.size (k0_off12_inb i k 3), tS3 i Q X4 X7 k⟩, ⟨Rect.unit (s := S8x1024x256) (k0_off12 i k 2#32) S1x1024x256.size (k0_off12_inb i k 2), tS2 i Q X4 X7 k⟩, ⟨Rect.unit (s := S8x1024x256) (k0_off12 i k 1#32) S1x1024x256.size (k0_off12_inb i k 1), tS1 i Q X4 X7 k⟩, ⟨Rect.unit (s := S8x1024x256) (k0_off12 i k 0#32) S1x1024x256.size (k0_off12_inb i k 0), tS0 i Q X4 X7 k⟩] S
/-- The maxima after four more full key blocks. -/
def maxT (M : Vec F S1024x128 .f32) : Vec F S1024x128 .f32 :=
  k0_pay91 (k0_pay17 (t301 i Q X4 k) (t323 i Q X4 X7 k) (t345 i Q X4 X7 k) (t367 i Q X4 X7 k) (t371 i X7 k) (t375 i X7 k) (t379 i X7 k) (t382 i X7 k)) (k0_pay18 (t301 i Q X4 k) (t323 i Q X4 X7 k) (t345 i Q X4 X7 k) (t367 i Q X4 X7 k) (t371 i X7 k) (t375 i X7 k) (t379 i X7 k) (t382 i X7 k)) (k0_pay19 (t301 i Q X4 k) (t323 i Q X4 X7 k) (t345 i Q X4 X7 k) (t367 i Q X4 X7 k) (t371 i X7 k) (t375 i X7 k) (t379 i X7 k) (t382 i X7 k)) (k0_pay20 (t301 i Q X4 k) (t323 i Q X4 X7 k) (t345 i Q X4 X7 k) (t367 i Q X4 X7 k) (t371 i X7 k) (t375 i X7 k) (t379 i X7 k) (t382 i X7 k)) (k0_pay21 (t301 i Q X4 k) (t323 i Q X4 X7 k) (t345 i Q X4 X7 k) (t367 i Q X4 X7 k) (t371 i X7 k) (t375 i X7 k) (t379 i X7 k) (t382 i X7 k)) (k0_pay22 (t301 i Q X4 k) (t323 i Q X4 X7 k) (t345 i Q X4 X7 k) (t367 i Q X4 X7 k) (t371 i X7 k) (t375 i X7 k) (t379 i X7 k) (t382 i X7 k)) (k0_pay23 (t301 i Q X4 k) (t323 i Q X4 X7 k) (t345 i Q X4 X7 k) (t367 i Q X4 X7 k) (t371 i X7 k) (t375 i X7 k) (t379 i X7 k) (t382 i X7 k)) (k0_pay24 (t301 i Q X4 k) (t323 i Q X4 X7 k) (t345 i Q X4 X7 k) (t367 i Q X4 X7 k) (t371 i X7 k) (t375 i X7 k) (t379 i X7 k) (t382 i X7 k)) (mm M)
variable (h1 : k0_cond1 i = 1#1) (h2 : k0_cond2 i = 1#1) (h3 : k0_cond3 i = 1#1)

/-- One more key block before the diagonal: its scores and maxima. -/
def aS : FVec F S1x1024x256 .f32 := k0_pay50 (k0_pay47 (qq Q) (cut X4 (k0_off19 i) S1x256x128.size (k0_off19_inb i h1))) (k0_pay48 (qq Q) (cut X4 (k0_off19 i) S1x256x128.size (k0_off19_inb i h1)) (cut X7 (k0_off20 i) S1x1x1x1x256.size (k0_off20_inb i h1))) (cut X7 (k0_off21 i) S1x1x1x1x256.size (k0_off21_inb i h1)) (cut X7 (k0_off22 i) S1x1x1x1x256.size (k0_off22_inb i h1)) (cut X7 (k0_off23 i) S1x1x1x1x256.size (k0_off23_inb i h1))
def scoreA (S : Vec F S8x1024x256 .f32) : Vec F S8x1024x256 .f32 := ov [⟨Rect.unit (s := S8x1024x256) (k0_off24 i) S1x1024x256.size (k0_off24_inb i h1), aS i Q X4 X7 h1⟩] S
def maxA (M : Vec F S1024x128 .f32) : Vec F S1024x128 .f32 := k0_pay93 (k0_pay51 (k0_pay47 (qq Q) (cut X4 (k0_off19 i) S1x256x128.size (k0_off19_inb i h1))) (k0_pay48 (qq Q) (cut X4 (k0_off19 i) S1x256x128.size (k0_off19_inb i h1)) (cut X7 (k0_off20 i) S1x1x1x1x256.size (k0_off20_inb i h1))) (cut X7 (k0_off21 i) S1x1x1x1x256.size (k0_off21_inb i h1)) (cut X7 (k0_off22 i) S1x1x1x1x256.size (k0_off22_inb i h1)) (cut X7 (k0_off23 i) S1x1x1x1x256.size (k0_off23_inb i h1)) (mm M))

/-- Two more key blocks before the diagonal. -/
def b318 := k0_pay52 (qq Q) (cut X4 (k0_off25 i) S1x512x128.size (k0_off25_inb i h2))
def b332 := k0_pay55 (k0_pay53 (cut X7 (k0_off26 i 0#32) S1x1x1x1x256.size (k0_off26_inb i h2 0)) (cut X7 (k0_off26 i 1#32) S1x1x1x1x256.size (k0_off26_inb i h2 1))) (k0_pay54 (qq Q) (cut X4 (k0_off25 i) S1x512x128.size (k0_off25_inb i h2))) (Named.named κ "log2e" 0x3FB8AA3B#32 : F .f32)
def b346 := k0_pay56 (b318 i Q X4 h2) (cut X7 (k0_off27 i 0#32) S1x1x1x1x256.size (k0_off27_inb i h2 0)) (cut X7 (k0_off27 i 1#32) S1x1x1x1x256.size (k0_off27_inb i h2 1))
def b360 := k0_pay57 (b318 i Q X4 h2) (cut X7 (k0_off28 i 0#32) S1x1x1x1x256.size (k0_off28_inb i h2 0)) (cut X7 (k0_off28 i 1#32) S1x1x1x1x256.size (k0_off28_inb i h2 1))
def bS0 : FVec F S1x1024x256 .f32 := k0_pay95 (b318 i Q X4 h2) (b332 i Q X4 X7 h2) (b346 i Q X4 X7 h2) (b360 i Q X4 X7 h2) (cut X7 (k0_off29 i 0#32) S1x1x1x1x256.size (k0_off29_inb i h2 0)) (cut X7 (k0_off29 i 1#32) S1x1x1x1x256.size (k0_off29_inb i h2 1))
def bS1 : FVec F S1x1024x256 .f32 := k0_pay96 (b318 i Q X4 h2) (b332 i Q X4 X7 h2) (b346 i Q X4 X7 h2) (b360 i Q X4 X7 h2) (cut X7 (k0_off29 i 0#32) S1x1x1x1x256.size (k0_off29_inb i h2 0)) (cut X7 (k0_off29 i 1#32) S1x1x1x1x256.size (k0_off29_inb i h2 1))
def scoreB (S : Vec F S8x1024x256 .f32) : Vec F S8x1024x256 .f32 := ov [⟨Rect.unit (s := S8x1024x256) (k0_off30 i 1#32) S1x1024x256.size (k0_off30_inb i h2 1), bS1 i Q X4 X7 h2⟩, ⟨Rect.unit (s := S8x1024x256) (k0_off30 i 0#32) S1x1024x256.size (k0_off30_inb i h2 0), bS0 i Q X4 X7 h2⟩] S
def maxB (M : Vec F S1024x128 .f32) : Vec F S1024x128 .f32 := k0_pay97 (b318 i Q X4 h2) (b332 i Q X4 X7 h2) (b346 i Q X4 X7 h2) (b360 i Q X4 X7 h2) (cut X7 (k0_off29 i 0#32) S1x1x1x1x256.size (k0_off29_inb i h2 0)) (cut X7 (k0_off29 i 1#32) S1x1x1x1x256.size (k0_off29_inb i h2 1)) (mm M)

/-- Three more key blocks before the diagonal. -/
def c318 := k0_pay58 (qq Q) (cut X4 (k0_off31 i) S1x768x128.size (k0_off31_inb i h3))
def c336 := k0_pay61 (c318 i Q X4 h3) (k0_pay59 (cut X7 (k0_off32 i 0#32) S1x1x1x1x256.size (k0_off32_inb i h3 0))) (k0_pay60 (cut X7 (k0_off32 i 1#32) S1x1x1x1x256.size (k0_off32_inb i h3 1))) (cut X7 (k0_off32 i 2#32) S1x1x1x1x256.size (k0_off32_inb i h3 2))
def c354 := k0_pay62 (c318 i Q X4 h3) (cut X7 (k0_off33 i 0#32) S1x1x1x1x256.size (k0_off33_inb i h3 0)) (cut X7 (k0_off33 i 1#32) S1x1x1x1x256.size (k0_off33_inb i h3 1)) (cut X7 (k0_off33 i 2#32) S1x1x1x1x256.size (k0_off33_inb i h3 2))
def c391 := k0_pay64 (c318 i Q X4 h3) (c336 i Q X4 X7 h3) (c354 i Q X4 X7 h3) (k0_pay63 (cut X7 (k0_off34 i 0#32) S1x1x1x1x256.size (k0_off34_inb i h3 0))) (cut X7 (k0_off34 i 1#32) S1x1x1x1x256.size (k0_off34_inb i h3 1)) (cut X7 (k0_off34 i 2#32) S1x1x1x1x256.size (k0_off34_inb i h3 2)) (cut X7 (k0_off35 i 0#32) S1x1x1x1x256.size (k0_off35_inb i h3 0)) (cut X7 (k0_off35 i 1#32) S1x1x1x1x256.size (k0_off35_inb i h3 1)) (cut X7 (k0_off35 i 2#32) S1x1x1x1x256.size (k0_off35_inb i h3 2))
def c392 := k0_pay65 (c318 i Q X4 h3) (c336 i Q X4 X7 h3) (c354 i Q X4 X7 h3) (k0_pay63 (cut X7 (k0_off34 i 0#32) S1x1x1x1x256.size (k0_off34_inb i h3 0))) (cut X7 (k0_off34 i 1#32) S1x1x1x1x256.size (k0_off34_inb i h3 1)) (cut X7 (k0_off34 i 2#32) S1x1x1x1x256.size (k0_off34_inb i h3 2)) (cut X7 (k0_off35 i 0#32) S1x1x1x1x256.size (k0_off35_inb i h3 0)) (cut X7 (k0_off35 i 1#32) S1x1x1x1x256.size (k0_off35_inb i h3 1)) (cut X7 (k0_off35 i 2#32) S1x1x1x1x256.size (k0_off35_inb i h3 2))
def scoreC (S : Vec F S8x1024x256 .f32) : Vec F S8x1024x256 .f32 := ov [⟨Rect.unit (s := S8x1024x256) (k0_off36 i 2#32) S1x1024x256.size (k0_off36_inb i h3 2), k0_pay100 (c391 i Q X4 X7 h3)⟩, ⟨Rect.unit (s := S8x1024x256) (k0_off36 i 1#32) S1x1024x256.size (k0_off36_inb i h3 1), k0_pay99 (c391 i Q X4 X7 h3)⟩, ⟨Rect.unit (s := S8x1024x256) (k0_off36 i 0#32) S1x1024x256.size (k0_off36_inb i h3 0), k0_pay98 (c392 i Q X4 X7 h3)⟩] S
def maxC (M : Vec F S1024x128 .f32) : Vec F S1024x128 .f32 := k0_pay101 (c391 i Q X4 X7 h3) (mm M)
end Score

section Whole
variable (i : grid0.Coords) (Q : Vec F S1024x128 .bf16) (X4 X5 : Vec F S1x2048x128 .bf16) (X6 : Vec F S1x1x256x4 .f32) (X7 : Vec F S1x1x8x4x256 .f32)
/-- The scores and maxima after the first pass: the loop of four blocks (no trip or one), then the one, two or three blocks left. -/
def score1 (S : Vec F S8x1024x256 .f32) := if h : (k0_t1_loop i).trips = 1 then scoreT i Q X4 X7 ⟨0, h ▸ Nat.one_pos⟩ S else S
def max1 (M : Vec F S1024x128 .f32) := if h : (k0_t1_loop i).trips = 1 then maxT i Q X4 X7 ⟨0, h ▸ Nat.one_pos⟩ M else M
def score2 (S : Vec F S8x1024x256 .f32) := if h : k0_cond1 i = 1#1 then scoreA i Q X4 X7 h S else S
def max2 (M : Vec F S1024x128 .f32) := if h : k0_cond1 i = 1#1 then maxA i Q X4 X7 h M else M
def score3 (S : Vec F S8x1024x256 .f32) := if h : k0_cond2 i = 1#1 then scoreB i Q X4 X7 h S else S
def max3 (M : Vec F S1024x128 .f32) := if h : k0_cond2 i = 1#1 then maxB i Q X4 X7 h M else M
def score4 (S : Vec F S8x1024x256 .f32) := if h : k0_cond3 i = 1#1 then scoreC i Q X4 X7 h S else S
def max4 (M : Vec F S1024x128 .f32) := if h : k0_cond3 i = 1#1 then maxC i Q X4 X7 h M else M

/-! ## The second pass: weights times values, and the weights' sums -/
/-- The row maxima made into the bound the exponentials subtract. -/
def mbOf (M : Vec F S1024x128 .f32) : Vec F S1024x128 .f32 :=
  k0_pay104 (k0_pay102 (cut X6 ![0, 0, 0, 0] S1x1x256x1.size inb_S1x1x256x4_S1x1x256x1_0_0_0_0)) (k0_pay103 (cut X6 ![0, 0, 0, 2] S1x1x256x1.size inb_S1x1x256x4_S1x1x256x1_0_0_0_2))
    (cut X6 ![0, 0, 0, 1] S1x1x256x1.size inb_S1x1x256x4_S1x1x256x1_0_0_0_1) (cut X6 ![0, 0, 0, 3] S1x1x256x1.size inb_S1x1x256x4_S1x1x256x1_0_0_0_3) (mm M)

variable (B : Vec F S1024x128 .f32) (S : Vec F S8x1024x256 .f32)
def accD : Vec F S1024x256 .f32 := k0_pay106 (k0_pay105 (mm B) (cut S (k0_off6 i) S1x1024x256.size (k0_off6_inb i)) (cut X5 (k0_off1 i) S1x256x128.size (k0_off1_inb i)))
def accT (k : Fin (k0_t3_loop i).trips) (A : Vec F S1024x256 .f32) : Vec F S1024x256 .f32 :=
  k0_pay107 (k0_pay66 (mm B) (cut S (k0_off37 i k 0#32) S1x1024x256.size (k0_off37_inb i k 0)) (cut S (k0_off37 i k 1#32) S1x1024x256.size (k0_off37_inb i k 1)) (cut S (k0_off37 i k 2#32) S1x1024x256.size (k0_off37_inb i k 2)) (cut S (k0_off37 i k 3#32) S1x1024x256.size (k0_off37_inb i k 3))) (cut X5 (k0_off38 i k) S1x1024x128.size (k0_off38_inb i k)) (aa A)
def accA (h : k0_cond4 i = 1#1) (A : Vec F S1024x256 .f32) : Vec F S1024x256 .f32 :=
  k0_pay109 (k0_pay68 (mm B) (cut S (k0_off41 i) S1x1024x256.size (k0_off41_inb i h)) (cut X5 (k0_off42 i) S1x256x128.size (k0_off42_inb i h))) (aa A)
def accB (h : k0_cond5 i = 1#1) (A : Vec F S1024x256 .f32) : Vec F S1024x256 .f32 :=
  k0_pay110 (k0_pay69 (mm B) (cut S (k0_off43 i 0#32) S1x1024x256.size (k0_off43_inb i h 0)) (cut S (k0_off43 i 1#32) S1x1024x256.size (k0_off43_inb i h 1))) (cut X5 (k0_off44 i) S1x512x128.size (k0_off44_inb i h)) (aa A)
def accC (h : k0_cond6 i = 1#1) (A : Vec F S1024x256 .f32) : Vec F S1024x256 .f32 :=
  k0_pay111 (mm B) (k0_pay71 (mm B) (cut S (k0_off45 i 0#32) S1x1024x256.size (k0_off45_inb i h 0))) (k0_pay72 (mm B) (cut S (k0_off45 i 0#32) S1x1024x256.size (k0_off45_inb i h 0))) (k0_pay74 (mm B) (cut S (k0_off45 i 1#32) S1x1024x256.size (k0_off45_inb i h 1))) (k0_pay75 (mm B) (cut S (k0_off45 i 1#32) S1x1024x256.size (k0_off45_inb i h 1))) (cut S (k0_off45 i 2#32) S1x1024x256.size (k0_off45_inb i h 2)) (cut X5 (k0_off46 i) S1x768x128.size (k0_off46_inb i h)) (aa A)
def acc1 (A : Vec F S1024x256 .f32) := if h : (k0_t3_loop i).trips = 1 then accT i X5 B S ⟨0, h ▸ Nat.one_pos⟩ A else A
def acc2 (A : Vec F S1024x256 .f32) := if h : k0_cond4 i = 1#1 then accA i X5 B S h A else A
def acc3 (A : Vec F S1024x256 .f32) := if h : k0_cond5 i = 1#1 then accB i X5 B S h A else A
def acc4 (A : Vec F S1024x256 .f32) := if h : k0_cond6 i = 1#1 then accC i X5 B S h A else A
end Whole

section Out
variable (i : grid0.Coords) (X3 : Vec F S1x256x256 .bf16) (X4 X5 : Vec F S1x2048x128 .bf16) (X6 : Vec F S1x1x256x4 .f32) (X7 : Vec F S1x1x8x4x256 .f32)
  (G9 : Vec F S1024x128 .bf16) (G10 : Vec F S8x1024x256 .f32)
/-- The body's buffers at its end, from its blocks and what the query and score buffers held before. -/
def bodyQ := gq X3 G9
def bodyS := let Q := gq X3 G9; score4 i Q X4 X7 (score3 i Q X4 X7 (score2 i Q X4 X7 (score1 i Q X4 X7 (scoreD i Q X4 X7 G10))))
def bodyM := let Q := gq X3 G9; max4 i Q X4 X7 (max3 i Q X4 X7 (max2 i Q X4 X7 (max1 i Q X4 X7 (dM i Q X4 X7))))
def bodyB := mbOf X6 (bodyM i X3 X4 X7 G9)
def bodyA := let S := bodyS i X3 X4 X7 G9 G10; let B := bodyB i X3 X4 X6 X7 G9
  acc4 i X5 B S (acc3 i X5 B S (acc2 i X5 B S (acc1 i X5 B S (accD i X5 B S))))
/-- What the accumulator is stored out as. -/
def outOf (A : Vec F S1024x256 .f32) (G8 : Vec F S1x256x256 .bf16) : Vec F S1x256x256 .bf16 :=
  let v0 : IVec S256x128 32 := iota .tc S256x128 32 [1] iota_S256x128_d1_w32
  ov [⟨Rect.unit (s := S1x256x256) ![0, 0, 128] S1x256x128.size inb_S1x256x256_S1x256x128_0_0_128, k0_pay2 v0 (k0_pay112 (aa A))⟩,
    ⟨Rect.unit (s := S1x256x256) ![0, 0, 0] S1x256x128.size inb_S1x256x256_S1x256x128_0_0_0, k0_pay1 (k0_pay113 v0 (aa A))⟩] G8
def bodyOut (G8 : Vec F S1x256x256 .bf16) := outOf (bodyA i X3 X4 X5 X6 X7 G9 G10) G8
end Out

end Cert.KernelIdeal.Hand
end
-- ==== Proof.Parts.lean ====
/-
  The body of `attn_b`, part by part: each part is run once and leaves in each buffer the value `Proof/Stages.lean` names.
  The same text serves every float semantics.
-/
module

public import proofs.«01_k».proof.Proof.Stages
public import proofs.«01_k».proof.Proof.Gen.KernelIdeal.Frame
public import Idealize.ShloMosaic.Lib.Exec
public import Idealize.ShloMosaic.Lib.Tactic

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]

local notation "𝕄" => MT nD τ sig Unit (Elt F) ℕ (UR sig nD τ) ℕ

/-- A loop of one trip is that trip. -/
theorem for_one {E : Type → Type} {σ : Type} (l : Scf.Loop 32) (hok : l.OK) (init : σ) (body : Fin l.trips → σ → Prog E σ) (h : l.trips = 1) :
    l.for hok init body = body ⟨0, h ▸ Nat.one_pos⟩ init := by
  have hl : List.finRange l.trips = [⟨0, h ▸ Nat.one_pos⟩] := by
    apply List.ext_getElem
    · simp [h]
    · intro n h1 h2; apply Fin.ext; simp at h2 ⊢; omega
  unfold Scf.Loop.for
  rw [Scf.for_eq, hl, Scf.forFrom_cons]
  simp only [Scf.forFrom_nil]
  exact bind_pure _

/-- A loop of no trip does nothing. -/
theorem for_zero {E : Type → Type} {σ : Type} (l : Scf.Loop 32) (hok : l.OK) (init : σ) (body : Fin l.trips → σ → Prog E σ) (h : l.trips = 0) :
    l.for hok init body = pure init := by
  have hl : List.finRange l.trips = [] := List.eq_nil_of_length_eq_zero (by rw [List.length_finRange]; exact h)
  unfold Scf.Loop.for
  rw [Scf.for_eq, hl, Scf.forFrom_nil]; rfl

theorem trips1_cases (i : grid0.Coords) : (k0_t1_loop i).trips = 1 ∨ (k0_t1_loop i).trips = 0 := by
  rw [trips1_eq]; have := (i 2).isLt; change (i 2).val < 8 at this; omega
theorem trips3_cases (i : grid0.Coords) : (k0_t3_loop i).trips = 1 ∨ (k0_t3_loop i).trips = 0 := by
  rw [trips3_eq]; have := (i 2).isLt; change (i 2).val < 8 at this; omega

section Parts
variable (𝒱 : Variants) (c : Dev nD) (bd : Option 𝒱.V) (E : Set ℕ) (i : grid0.Coords)
  (arg3 : Memref sig .tc .vmem S1x256x256 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x1x256x4 .f32) (harg6 : arg6.IsWhole)
  (arg7 : Memref sig .tc .vmem S1x1x8x4x256 .f32) (harg7 : arg7.IsWhole)
  (arg8 : Memref sig .tc .vmem S1x256x256 .bf16) (harg8 : arg8.IsWhole)
  (arg9 : Memref sig .tc .vmem S1024x128 .bf16) (harg9 : arg9.IsWhole)
  (arg10 : Memref sig .tc .vmem S8x1024x256 .f32) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S1024x256 .f32) (harg13 : arg13.IsWhole)
  (X3 : Vec F S1x256x256 .bf16) (X4 X5 : Vec F S1x2048x128 .bf16) (X6 : Vec F S1x1x256x4 .f32) (X7 : Vec F S1x1x8x4x256 .f32)
  (Q : Vec F S1024x128 .bf16) (S : Vec F S8x1024x256 .f32) (M B : Vec F S1024x128 .f32) (A : Vec F S1024x256 .f32) (O : Vec F S1x256x256 .bf16)

/-- Core `c` holds the whole of memref `m` at `X`. -/
abbrev has (c : Dev nD) {sp : Space} {s : Shape} {e : EltTy} (m : Memref sig .tc sp s e) (X : s.Idx → Elt F e) : sProp 𝕄 :=
  owns (c : Thread nD τ) m fullShare X

/-- The query buffer with its first two groups gathered. -/
def gq0 (X3 : Vec F S1x256x256 .bf16) (Q : Vec F S1024x128 .bf16) : Vec F S1024x128 .bf16 := (ov [⟨Rect.unit (s := S1024x128) ![256, 0] S256x128.size inb_S1024x128_S256x128_256_0, k0_pay78 (cut X3 ![0, 0, 0] S1x256x128.size inb_S1x256x256_S1x256x128_0_0_0)⟩, ⟨Rect.unit (s := S1024x128) ![0, 0] S256x128.size inb_S1024x128_S256x128_0_0, k0_pay77 (cut X3 ![0, 0, 0] S1x256x128.size inb_S1x256x256_S1x256x128_0_0_0)⟩] Q)

theorem part21_wp  :
  iprop(has c arg3 X3 ∗ has c arg9 Q)
   ⊢ wp frame (wpE (defs₀ (F := F)) 𝒱 (c : Thread nD τ) bd) E (k0_part21 (F := F) i arg3 harg3 arg4 harg4 arg5 harg5 arg6 harg6 arg7 harg7 arg8 harg8 arg9 harg9 arg10 harg10 arg11 harg11 arg12 harg12 arg13 harg13 )
      (fun r => iprop(⌜∃ a, r = ⟨a, iota .tc S256x128 32 [1] iota_S256x128_d1_w32, k0_pay79 (cut X3 ![0, 0, 128] S1x256x128.size inb_S1x256x256_S1x256x128_0_0_128), k0_pay80 (cut X3 ![0, 0, 128] S1x256x128.size inb_S1x256x256_S1x256x128_0_0_128)⟩⌝ ∗ has c arg3 X3 ∗ has c arg9 (gq0 X3 Q))) := by
  rw [k0_part21_eq_skeleton]; unfold k0_part21_skel
  simp only [has, owns]
  iintro ⟨⟨%f3, %e3, H3⟩, ⟨%f9, %e9, H9⟩⟩
  sl_exec
  sl_step
  isplitr
  · ipureintro; subst e3; exact ⟨_, rfl⟩
  isplitl [H3]
  · iexists _; isplitr; swap; · iexact H3
    ipureintro
    exact e3
  iexists _; isplitr; swap; · iexact H9
  ipureintro
  sl_unfold_words; rw [read_writes_eq_ov]; simp only [View.readAt_eq_ld]; subst e3 e9; rfl

theorem part22_wp (a1 : BitVec 32) :
  iprop(has c arg9 (gq0 X3 Q) ∗ has c arg4 X4 ∗ has c arg7 X7)
   ⊢ wp frame (wpE (defs₀ (F := F)) 𝒱 (c : Thread nD τ) bd) E (k0_part22 (F := F) i arg3 harg3 arg4 harg4 arg5 harg5 arg6 harg6 arg7 harg7 arg8 harg8 arg9 harg9 arg10 harg10 arg11 harg11 arg12 harg12 arg13 harg13 a1 (iota .tc S256x128 32 [1] iota_S256x128_d1_w32) (k0_pay79 (cut X3 ![0, 0, 128] S1x256x128.size inb_S1x256x256_S1x256x128_0_0_128)) (k0_pay80 (cut X3 ![0, 0, 128] S1x256x128.size inb_S1x256x256_S1x256x128_0_0_128)))
      (fun r => iprop(⌜r = ⟨k0_pay82, d48 i (gq X3 Q) X4, d59 i (gq X3 Q) X4 X7, d67 i X7, d68 i (gq X3 Q) X4, k0_pay87⟩⌝ ∗ has c arg9 (gq X3 Q) ∗ has c arg4 X4 ∗ has c arg7 X7)) := by
  rw [k0_part22_eq_skeleton]; unfold k0_part22_skel
  simp only [has, owns]
  iintro ⟨⟨%f9, %e9, H9⟩, ⟨%f4, %e4, H4⟩, ⟨%f7, %e7, H7⟩⟩
  sl_exec
  sl_step
  isplitr
  · ipureintro; sl_unfold_words; simp only [View.readAt_eq_ld, read_writes_eq_ov]; rw [e9]; subst e4 e7; rfl
  isplitl [H9]
  · iexists _; isplitr; swap; · iexact H9
    ipureintro
    rw [read_writes_eq_ov, e9]; rfl
  isplitl [H4]
  · iexists _; isplitr; swap; · iexact H4
    ipureintro
    exact e4
  iexists _; isplitr; swap; · iexact H7
  ipureintro
  exact e7

theorem part23_wp (a1 : BitVec 32) :
  iprop(has c arg7 X7 ∗ has c arg10 S ∗ has c arg11 M)
   ⊢ wp frame (wpE (defs₀ (F := F)) 𝒱 (c : Thread nD τ) bd) E (k0_part23 (F := F) i arg3 harg3 arg4 harg4 arg5 harg5 arg6 harg6 arg7 harg7 arg8 harg8 arg9 harg9 arg10 harg10 arg11 harg11 arg12 harg12 arg13 harg13 a1 k0_pay82 (d48 i Q X4) (d59 i Q X4 X7) (d67 i X7) (d68 i Q X4) (k0_pay87 (F := F)))
      (fun r => iprop(⌜r = dM i Q X4 X7⌝ ∗ has c arg7 X7 ∗ has c arg10 (scoreD i Q X4 X7 S) ∗ has c arg11 M)) := by
  rw [k0_part23_eq_skeleton]; unfold k0_part23_skel
  simp only [has, owns]
  iintro ⟨⟨%f7, %e7, H7⟩, ⟨%f10, %e10, H10⟩, ⟨%f11, %e11, H11⟩⟩
  sl_exec
  sl_step
  isplitr
  · ipureintro; simp only [View.readAt_eq_ld]; subst e7; rfl
  isplitl [H7]
  · iexists _; isplitr; swap; · iexact H7
    ipureintro
    exact e7
  isplitl [H10]
  · iexists _; isplitr; swap; · iexact H10
    ipureintro
    subst e7 e10; sl_unfold_words; rw [read_writes_eq_ov]; simp only [View.readAt_eq_ld]; rfl
  iexists _; isplitr; swap; · iexact H11
  ipureintro
  exact e11

set_option maxHeartbeats 1000000 in
theorem part24_wp (a1 : BitVec 32) (N : Vec F S1024x128 .f32) :
  iprop(has c arg9 Q ∗ has c arg4 X4 ∗ has c arg7 X7 ∗ has c arg10 S ∗ has c arg11 N)
   ⊢ wp frame (wpE (defs₀ (F := F)) 𝒱 (c : Thread nD τ) bd) E (k0_part24 (F := F) i arg3 harg3 arg4 harg4 arg5 harg5 arg6 harg6 arg7 harg7 arg8 harg8 arg9 harg9 arg10 harg10 arg11 harg11 arg12 harg12 arg13 harg13 a1 M)
      (fun _ => iprop(has c arg9 Q ∗ has c arg4 X4 ∗ has c arg7 X7 ∗ has c arg10 (score2 i Q X4 X7 (score1 i Q X4 X7 S)) ∗ has c arg11 (max2 i Q X4 X7 (max1 i Q X4 X7 M)))) := by
  rw [k0_part24_eq_skeleton]; unfold k0_part24_skel
  simp only [has, owns]
  iintro ⟨⟨%f9, %e9, H9⟩, ⟨%f4, %e4, H4⟩, ⟨%f7, %e7, H7⟩, ⟨%f10, %e10, H10⟩, ⟨%f11, %e11, H11⟩⟩
  rcases trips1_cases i with ht | ht <;> by_cases h1 : k0_cond1 i = 1#1
  all_goals simp only [score1, score2, max1, max2, ht, h1, dif_pos, dif_neg, not_false_eq_true, for_zero _ _ _ _ (trips2_eq i), reduceCtorEq, zero_ne_one]
  · rw [for_one _ _ _ _ ht]; unfold k0_t1_body
    sl_exec
    sl_step
    isplitl [H9]
    · iexists _; isplitr; swap; · iexact H9
      ipureintro
      exact e9
    isplitl [H4]
    · iexists _; isplitr; swap; · iexact H4
      ipureintro
      exact e4
    isplitl [H7]
    · iexists _; isplitr; swap; · iexact H7
      ipureintro
      exact e7
    isplitl [H10]
    · iexists _; isplitr; swap; · iexact H10
      ipureintro
      sl_unfold_words; simp only [read_writes_eq_ov, View.readAt_eq_ld]; subst_vars; rfl
    iexists _; isplitr; swap; · iexact H11
    ipureintro
    sl_unfold_words; rw [read_writes_eq_ov, ov_whole _ _ _ _ (by decide)]; simp only [View.readCov, View.readAt_eq_ld, read_writes_eq_ov]; (repeat rw [ov_whole _ _ _ _ (by decide)]); subst_vars; rfl
  · rw [for_one _ _ _ _ ht]; unfold k0_t1_body
    sl_exec
    sl_step
    isplitl [H9]
    · iexists _; isplitr; swap; · iexact H9
      ipureintro
      exact e9
    isplitl [H4]
    · iexists _; isplitr; swap; · iexact H4
      ipureintro
      exact e4
    isplitl [H7]
    · iexists _; isplitr; swap; · iexact H7
      ipureintro
      exact e7
    isplitl [H10]
    · iexists _; isplitr; swap; · iexact H10
      ipureintro
      sl_unfold_words; simp only [read_writes_eq_ov, View.readAt_eq_ld]; subst_vars; rfl
    iexists _; isplitr; swap; · iexact H11
    ipureintro
    sl_unfold_words; rw [read_writes_eq_ov, ov_whole _ _ _ _ (by decide)]; simp only [View.readCov, View.readAt_eq_ld, read_writes_eq_ov]; (repeat rw [ov_whole _ _ _ _ (by decide)]); subst_vars; rfl
  · rw [for_zero _ _ _ _ ht]
    sl_exec
    sl_step
    isplitl [H9]
    · iexists _; isplitr; swap; · iexact H9
      ipureintro
      exact e9
    isplitl [H4]
    · iexists _; isplitr; swap; · iexact H4
      ipureintro
      exact e4
    isplitl [H7]
    · iexists _; isplitr; swap; · iexact H7
      ipureintro
      exact e7
    isplitl [H10]
    · iexists _; isplitr; swap; · iexact H10
      ipureintro
      sl_unfold_words; simp only [read_writes_eq_ov, View.readAt_eq_ld]; subst_vars; rfl
    iexists _; isplitr; swap; · iexact H11
    ipureintro
    sl_unfold_words; rw [read_writes_eq_ov, ov_whole _ _ _ _ (by decide)]; simp only [View.readCov, View.readAt_eq_ld, read_writes_eq_ov]; (repeat rw [ov_whole _ _ _ _ (by decide)]); subst_vars; rfl
  · rw [for_zero _ _ _ _ ht]
    sl_exec
    sl_step
    isplitl [H9]
    · iexists _; isplitr; swap; · iexact H9
      ipureintro
      exact e9
    isplitl [H4]
    · iexists _; isplitr; swap; · iexact H4
      ipureintro
      exact e4
    isplitl [H7]
    · iexists _; isplitr; swap; · iexact H7
      ipureintro
      exact e7
    isplitl [H10]
    · iexists _; isplitr; swap; · iexact H10
      ipureintro
      exact e10
    iexists _; isplitr; swap; · iexact H11
    ipureintro
    sl_unfold_words; rw [read_writes_eq_ov, ov_whole _ _ _ _ (by decide)]

theorem part25_wp (a1 a2 : BitVec 32) :
  iprop(has c arg9 Q ∗ has c arg4 X4 ∗ has c arg7 X7 ∗ has c arg6 X6 ∗ has c arg10 S ∗ has c arg11 M)
   ⊢ wp frame (wpE (defs₀ (F := F)) 𝒱 (c : Thread nD τ) bd) E (k0_part25 (F := F) i arg3 harg3 arg4 harg4 arg5 harg5 arg6 harg6 arg7 harg7 arg8 harg8 arg9 harg9 arg10 harg10 arg11 harg11 arg12 harg12 arg13 harg13 a1 a2)
      (fun r => iprop(⌜r = ⟨k0_pay102 (cut X6 ![0, 0, 0, 0] S1x1x256x1.size inb_S1x1x256x4_S1x1x256x1_0_0_0_0), k0_pay103 (cut X6 ![0, 0, 0, 2] S1x1x256x1.size inb_S1x1x256x4_S1x1x256x1_0_0_0_2), (cut X6 ![0, 0, 0, 1] S1x1x256x1.size inb_S1x1x256x4_S1x1x256x1_0_0_0_1)⟩⌝ ∗ has c arg9 Q ∗ has c arg4 X4 ∗ has c arg7 X7 ∗ has c arg6 X6 ∗ has c arg10 (score4 i Q X4 X7 (score3 i Q X4 X7 S)) ∗ has c arg11 (max4 i Q X4 X7 (max3 i Q X4 X7 M)))) := by
  rw [k0_part25_eq_skeleton]; unfold k0_part25_skel
  simp only [has, owns]
  iintro ⟨⟨%f9, %e9, H9⟩, ⟨%f4, %e4, H4⟩, ⟨%f7, %e7, H7⟩, ⟨%f6, %e6, H6⟩, ⟨%f10, %e10, H10⟩, ⟨%f11, %e11, H11⟩⟩
  by_cases h2 : k0_cond2 i = 1#1 <;> by_cases h3 : k0_cond3 i = 1#1
  · exfalso; rw [cond2_iff] at h2; rw [cond3_iff] at h3; omega
  all_goals simp only [score3, score4, max3, max4, h2, h3, dif_pos, dif_neg, not_false_eq_true]
  · skip
    sl_exec
    sl_step
    isplitr
    · ipureintro; subst e6; rfl
    isplitl [H9]
    · iexists _; isplitr; swap; · iexact H9
      ipureintro
      exact e9
    isplitl [H4]
    · iexists _; isplitr; swap; · iexact H4
      ipureintro
      exact e4
    isplitl [H7]
    · iexists _; isplitr; swap; · iexact H7
      ipureintro
      exact e7
    isplitl [H6]
    · iexists _; isplitr; swap; · iexact H6
      ipureintro
      exact e6
    isplitl [H10]
    · iexists _; isplitr; swap; · iexact H10
      ipureintro
      sl_unfold_words; simp only [read_writes_eq_ov, View.readAt_eq_ld]; subst_vars; rfl
    iexists _; isplitr; swap; · iexact H11
    ipureintro
    sl_unfold_words; rw [read_writes_eq_ov, ov_whole _ _ _ _ (by decide)]; simp only [View.readAt_eq_ld]; subst_vars; rfl
  · skip
    sl_exec
    sl_step
    isplitr
    · ipureintro; subst e6; rfl
    isplitl [H9]
    · iexists _; isplitr; swap; · iexact H9
      ipureintro
      exact e9
    isplitl [H4]
    · iexists _; isplitr; swap; · iexact H4
      ipureintro
      exact e4
    isplitl [H7]
    · iexists _; isplitr; swap; · iexact H7
      ipureintro
      exact e7
    isplitl [H6]
    · iexists _; isplitr; swap; · iexact H6
      ipureintro
      exact e6
    isplitl [H10]
    · iexists _; isplitr; swap; · iexact H10
      ipureintro
      sl_unfold_words; simp only [read_writes_eq_ov, View.readAt_eq_ld]; subst_vars; rfl
    iexists _; isplitr; swap; · iexact H11
    ipureintro
    sl_unfold_words; rw [read_writes_eq_ov, ov_whole _ _ _ _ (by decide)]; simp only [View.readAt_eq_ld]; subst_vars; rfl
  · skip
    sl_exec
    sl_step
    isplitr
    · ipureintro; subst e6; rfl
    isplitl [H9]
    · iexists _; isplitr; swap; · iexact H9
      ipureintro
      exact e9
    isplitl [H4]
    · iexists _; isplitr; swap; · iexact H4
      ipureintro
      exact e4
    isplitl [H7]
    · iexists _; isplitr; swap; · iexact H7
      ipureintro
      exact e7
    isplitl [H6]
    · iexists _; isplitr; swap; · iexact H6
      ipureintro
      exact e6
    isplitl [H10]
    · iexists _; isplitr; swap; · iexact H10
      ipureintro
      exact e10
    iexists _; isplitr; swap; · iexact H11
    ipureintro
    exact e11

theorem part26_wp (a1 : BitVec 32) :
  iprop(has c arg5 X5 ∗ has c arg6 X6 ∗ has c arg10 S ∗ has c arg11 M ∗ has c arg12 B)
   ⊢ wp frame (wpE (defs₀ (F := F)) 𝒱 (c : Thread nD τ) bd) E (k0_part26 (F := F) i arg3 harg3 arg4 harg4 arg5 harg5 arg6 harg6 arg7 harg7 arg8 harg8 arg9 harg9 arg10 harg10 arg11 harg11 arg12 harg12 arg13 harg13 a1 (k0_pay102 (cut X6 ![0, 0, 0, 0] S1x1x256x1.size inb_S1x1x256x4_S1x1x256x1_0_0_0_0)) (k0_pay103 (cut X6 ![0, 0, 0, 2] S1x1x256x1.size inb_S1x1x256x4_S1x1x256x1_0_0_0_2)) (cut X6 ![0, 0, 0, 1] S1x1x256x1.size inb_S1x1x256x4_S1x1x256x1_0_0_0_1))
      (fun r => iprop(⌜r = k0_pay105 (mm (mbOf X6 M)) (cut S (k0_off6 i) S1x1024x256.size (k0_off6_inb i)) (cut X5 (k0_off1 i) S1x256x128.size (k0_off1_inb i))⌝ ∗ has c arg5 X5 ∗ has c arg6 X6 ∗ has c arg10 S ∗ has c arg11 M ∗ has c arg12 (mbOf X6 M))) := by
  rw [k0_part26_eq_skeleton]; unfold k0_part26_skel
  simp only [has, owns]
  iintro ⟨⟨%f5, %e5, H5⟩, ⟨%f6, %e6, H6⟩, ⟨%f10, %e10, H10⟩, ⟨%f11, %e11, H11⟩, ⟨%f12, %e12, H12⟩⟩
  sl_exec
  sl_step
  isplitr
  · ipureintro; sl_unfold_words; simp only [View.readCov, View.readAt_eq_ld, read_writes_eq_ov]; rw [ov_whole _ _ _ _ (by decide)]; subst_vars; rfl
  isplitl [H5]
  · iexists _; isplitr; swap; · iexact H5
    ipureintro
    exact e5
  isplitl [H6]
  · iexists _; isplitr; swap; · iexact H6
    ipureintro
    exact e6
  isplitl [H10]
  · iexists _; isplitr; swap; · iexact H10
    ipureintro
    exact e10
  isplitl [H11]
  · iexists _; isplitr; swap; · iexact H11
    ipureintro
    exact e11
  iexists _; isplitr; swap; · iexact H12
  ipureintro
  sl_unfold_words; rw [read_writes_eq_ov, ov_whole _ _ _ _ (by decide)]; simp only [View.readAt_eq_ld]; subst_vars; rfl

theorem part27_wp (a1 : BitVec 32) (D : FVec F S1024x256 .f32) :
  iprop(has c arg5 X5 ∗ has c arg10 S ∗ has c arg12 B ∗ has c arg13 A)
   ⊢ wp frame (wpE (defs₀ (F := F)) 𝒱 (c : Thread nD τ) bd) E (k0_part27 (F := F) i arg3 harg3 arg4 harg4 arg5 harg5 arg6 harg6 arg7 harg7 arg8 harg8 arg9 harg9 arg10 harg10 arg11 harg11 arg12 harg12 arg13 harg13 a1 D)
      (fun r => iprop(⌜∃ a b, r = ⟨a, b⟩⌝ ∗ has c arg5 X5 ∗ has c arg10 S ∗ has c arg12 B ∗ has c arg13 (acc1 i X5 B S (k0_pay106 D)))) := by
  rw [k0_part27_eq_skeleton]; unfold k0_part27_skel
  simp only [has, owns]
  iintro ⟨⟨%f5, %e5, H5⟩, ⟨%f10, %e10, H10⟩, ⟨%f12, %e12, H12⟩, ⟨%f13, %e13, H13⟩⟩
  rcases trips3_cases i with ht | ht
  all_goals simp only [acc1, ht, dif_pos, dif_neg, not_false_eq_true, for_zero _ _ _ _ (trips4_eq i), reduceCtorEq, zero_ne_one]
  · rw [for_one _ _ _ _ ht]; unfold k0_t3_body
    sl_exec
    sl_step
    isplitr
    · ipureintro; exact ⟨_, _, rfl⟩
    isplitl [H5]
    · iexists _; isplitr; swap; · iexact H5
      ipureintro
      exact e5
    isplitl [H10]
    · iexists _; isplitr; swap; · iexact H10
      ipureintro
      exact e10
    isplitl [H12]
    · iexists _; isplitr; swap; · iexact H12
      ipureintro
      exact e12
    iexists _; isplitr; swap; · iexact H13
    ipureintro
    sl_unfold_words; rw [read_writes_eq_ov, ov_whole _ _ _ _ (by decide)]; simp only [View.readCov, View.readAt_eq_ld, read_writes_eq_ov]; rw [ov_whole _ _ _ _ (by decide)]; subst_vars; rfl
  · rw [for_zero _ _ _ _ ht]
    sl_exec
    sl_step
    isplitr
    · ipureintro; exact ⟨_, _, rfl⟩
    isplitl [H5]
    · iexists _; isplitr; swap; · iexact H5
      ipureintro
      exact e5
    isplitl [H10]
    · iexists _; isplitr; swap; · iexact H10
      ipureintro
      exact e10
    isplitl [H12]
    · iexists _; isplitr; swap; · iexact H12
      ipureintro
      exact e12
    iexists _; isplitr; swap; · iexact H13
    ipureintro
    sl_unfold_words; rw [read_writes_eq_ov, ov_whole _ _ _ _ (by decide)]

theorem part28_wp (a1 : BitVec 32) (v0 : IVec S256x128 32) (a2 a3 : BitVec 32) :
  iprop(has c arg5 X5 ∗ has c arg10 S ∗ has c arg12 B ∗ has c arg13 A)
   ⊢ wp frame (wpE (defs₀ (F := F)) 𝒱 (c : Thread nD τ) bd) E (k0_part28 (F := F) i arg3 harg3 arg4 harg4 arg5 harg5 arg6 harg6 arg7 harg7 arg8 harg8 arg9 harg9 arg10 harg10 arg11 harg11 arg12 harg12 arg13 harg13 a1 v0 a2 a3)
      (fun r => iprop(⌜r = ⟨k0_pay112 (aa (acc4 i X5 B S (acc3 i X5 B S (acc2 i X5 B S A)))), k0_pay113 v0 (aa (acc4 i X5 B S (acc3 i X5 B S (acc2 i X5 B S A))))⟩⌝ ∗ has c arg5 X5 ∗ has c arg10 S ∗ has c arg12 B ∗ has c arg13 (acc4 i X5 B S (acc3 i X5 B S (acc2 i X5 B S A))))) := by
  rw [k0_part28_eq_skeleton]; unfold k0_part28_skel
  simp only [has, owns]
  iintro ⟨⟨%f5, %e5, H5⟩, ⟨%f10, %e10, H10⟩, ⟨%f12, %e12, H12⟩, ⟨%f13, %e13, H13⟩⟩
  by_cases h1 : k0_cond4 i = 1#1 <;> by_cases h2 : k0_cond5 i = 1#1 <;> by_cases h3 : k0_cond6 i = 1#1
  all_goals try (exfalso; rw [cond4_iff] at h1; rw [cond5_iff] at h2; omega)
  all_goals try (exfalso; rw [cond4_iff] at h1; rw [cond6_iff] at h3; omega)
  all_goals try (exfalso; rw [cond5_iff] at h2; rw [cond6_iff] at h3; omega)
  all_goals simp only [acc2, acc3, acc4, h1, h2, h3, dif_pos, dif_neg, not_false_eq_true]
  · skip
    sl_exec
    sl_step
    isplitr
    · ipureintro; sl_unfold_words; simp only [View.readCov, View.readAt_eq_ld, read_writes_eq_ov]; rw [ov_whole _ _ _ _ (by decide)]; subst_vars; rfl
    isplitl [H5]
    · iexists _; isplitr; swap; · iexact H5
      ipureintro
      exact e5
    isplitl [H10]
    · iexists _; isplitr; swap; · iexact H10
      ipureintro
      exact e10
    isplitl [H12]
    · iexists _; isplitr; swap; · iexact H12
      ipureintro
      exact e12
    iexists _; isplitr; swap; · iexact H13
    ipureintro
    sl_unfold_words; rw [read_writes_eq_ov, ov_whole _ _ _ _ (by decide)]; simp only [View.readAt_eq_ld]; subst_vars; rfl
  · skip
    sl_exec
    sl_step
    isplitr
    · ipureintro; sl_unfold_words; simp only [View.readCov, View.readAt_eq_ld, read_writes_eq_ov]; rw [ov_whole _ _ _ _ (by decide)]; subst_vars; rfl
    isplitl [H5]
    · iexists _; isplitr; swap; · iexact H5
      ipureintro
      exact e5
    isplitl [H10]
    · iexists _; isplitr; swap; · iexact H10
      ipureintro
      exact e10
    isplitl [H12]
    · iexists _; isplitr; swap; · iexact H12
      ipureintro
      exact e12
    iexists _; isplitr; swap; · iexact H13
    ipureintro
    sl_unfold_words; rw [read_writes_eq_ov, ov_whole _ _ _ _ (by decide)]; simp only [View.readAt_eq_ld]; subst_vars; rfl
  · skip
    sl_exec
    sl_step
    isplitr
    · ipureintro; sl_unfold_words; simp only [View.readCov, View.readAt_eq_ld, read_writes_eq_ov]; rw [ov_whole _ _ _ _ (by decide)]; subst_vars; rfl
    isplitl [H5]
    · iexists _; isplitr; swap; · iexact H5
      ipureintro
      exact e5
    isplitl [H10]
    · iexists _; isplitr; swap; · iexact H10
      ipureintro
      exact e10
    isplitl [H12]
    · iexists _; isplitr; swap; · iexact H12
      ipureintro
      exact e12
    iexists _; isplitr; swap; · iexact H13
    ipureintro
    sl_unfold_words; rw [read_writes_eq_ov, ov_whole _ _ _ _ (by decide)]; simp only [View.readAt_eq_ld]; subst_vars; rfl
  · skip
    sl_exec
    sl_step
    isplitr
    · ipureintro; subst_vars; rfl
    isplitl [H5]
    · iexists _; isplitr; swap; · iexact H5
      ipureintro
      exact e5
    isplitl [H10]
    · iexists _; isplitr; swap; · iexact H10
      ipureintro
      exact e10
    isplitl [H12]
    · iexists _; isplitr; swap; · iexact H12
      ipureintro
      exact e12
    iexists _; isplitr; swap; · iexact H13
    ipureintro
    exact e13
end Parts

end Cert.KernelIdeal.Hand
end
-- ==== Proof.Sections.lean ====
/-
  The score buffer read section by section, and that the body's results do not depend on what its buffers held before.
-/
module

public import proofs.«01_k».proof.Proof.Stages

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]

theorem off1_eq : ∀ i : grid0.Coords, k0_off1 i = ![0, 256 * (i 2).val, 0] := by decide +kernel
theorem off2_eq : ∀ i : grid0.Coords, k0_off2 i = ![0, 0, (i 2).val, 0, 0] := by decide +kernel
theorem off3_eq : ∀ i : grid0.Coords, k0_off3 i = ![0, 0, (i 2).val, 2, 0] := by decide +kernel
theorem off4_eq : ∀ i : grid0.Coords, k0_off4 i = ![0, 0, (i 2).val, 1, 0] := by decide +kernel
theorem off5_eq : ∀ i : grid0.Coords, k0_off5 i = ![0, 0, (i 2).val, 3, 0] := by decide +kernel
theorem off6_eq' : ∀ i : grid0.Coords, k0_off6 i = ![(i 2).val, 0, 0] := by decide +kernel
theorem lt8 (i : grid0.Coords) : (i 2).val < 8 := (i 2).isLt

theorem off12_0 (i : grid0.Coords) (k : Fin (k0_t1_loop i).trips) : k0_off12 i k 0#32 = ![4 * k.val, 0, 0] := off12_eq i k 0
theorem off12_1 (i : grid0.Coords) (k : Fin (k0_t1_loop i).trips) : k0_off12 i k 1#32 = ![4 * k.val + 1, 0, 0] := off12_eq i k 1
theorem off12_2 (i : grid0.Coords) (k : Fin (k0_t1_loop i).trips) : k0_off12 i k 2#32 = ![4 * k.val + 2, 0, 0] := off12_eq i k 2
theorem off12_3 (i : grid0.Coords) (k : Fin (k0_t1_loop i).trips) : k0_off12 i k 3#32 = ![4 * k.val + 3, 0, 0] := off12_eq i k 3
theorem off30_0 (i : grid0.Coords) : k0_off30 i  0#32 = ![4 * ((i 2).val / 4), 0, 0] := off30_eq i  0
theorem off30_1 (i : grid0.Coords) : k0_off30 i  1#32 = ![4 * ((i 2).val / 4) + 1, 0, 0] := off30_eq i  1
theorem off36_0 (i : grid0.Coords) : k0_off36 i  0#32 = ![4 * ((i 2).val / 4), 0, 0] := off36_eq i  0
theorem off36_1 (i : grid0.Coords) : k0_off36 i  1#32 = ![4 * ((i 2).val / 4) + 1, 0, 0] := off36_eq i  1
theorem off36_2 (i : grid0.Coords) : k0_off36 i  2#32 = ![4 * ((i 2).val / 4) + 2, 0, 0] := off36_eq i  2
theorem off37_0 (i : grid0.Coords) (k : Fin (k0_t3_loop i).trips) : k0_off37 i k 0#32 = ![4 * k.val, 0, 0] := off37_eq i k 0
theorem off37_1 (i : grid0.Coords) (k : Fin (k0_t3_loop i).trips) : k0_off37 i k 1#32 = ![4 * k.val + 1, 0, 0] := off37_eq i k 1
theorem off37_2 (i : grid0.Coords) (k : Fin (k0_t3_loop i).trips) : k0_off37 i k 2#32 = ![4 * k.val + 2, 0, 0] := off37_eq i k 2
theorem off37_3 (i : grid0.Coords) (k : Fin (k0_t3_loop i).trips) : k0_off37 i k 3#32 = ![4 * k.val + 3, 0, 0] := off37_eq i k 3
theorem off43_0 (i : grid0.Coords) : k0_off43 i  0#32 = ![4 * ((i 2).val / 4), 0, 0] := off43_eq i  0
theorem off43_1 (i : grid0.Coords) : k0_off43 i  1#32 = ![4 * ((i 2).val / 4) + 1, 0, 0] := off43_eq i  1
theorem off45_0 (i : grid0.Coords) : k0_off45 i  0#32 = ![4 * ((i 2).val / 4), 0, 0] := off45_eq i  0
theorem off45_1 (i : grid0.Coords) : k0_off45 i  1#32 = ![4 * ((i 2).val / 4) + 1, 0, 0] := off45_eq i  1
theorem off45_2 (i : grid0.Coords) : k0_off45 i  2#32 = ![4 * ((i 2).val / 4) + 2, 0, 0] := off45_eq i  2

theorem cut_congr {s : Shape} {e : EltTy} (X : s.Idx → Elt F e) {off off' : Fin s.rank → ℕ} (size : Fin s.rank → ℕ)
    (inb : ∀ a, off a + size a ≤ s.size a) (inb' : ∀ a, off' a + size a ≤ s.size a) (h : off = off') :
    cut X off size inb = cut X off' size inb' := by subst h; rfl

theorem ov_cons_emb {s : Shape} {e : EltTy} (r : Rect s) (w : r.shape.Idx → Elt F e) (L : List (View.Piece (Elt F) s e)) (X : s.Idx → Elt F e) (x : r.shape.Idx) :
    ov (⟨r, w⟩ :: L) X (r.idx x) = w x := r.overlay_emb _ _ x
theorem ov_cons_not_mem {s : Shape} {e : EltTy} (r : Rect s) (w : r.shape.Idx → Elt F e) (L : List (View.Piece (Elt F) s e)) (X : s.Idx → Elt F e) (y : s.Idx) (h : y ∉ r.set) :
    ov (⟨r, w⟩ :: L) X y = ov L X y := r.overlay_of_not_mem _ _ h

theorem sec_inb (s : ℕ) (hs : s < 8) : ∀ a : Fin 3, (![s, 0, 0] : Fin 3 → ℕ) a + S1x1024x256.size a ≤ S8x1024x256.size a := by
  intro a; fin_cases a
  · show s + 1 ≤ 8; omega
  · show 0 + 1024 ≤ 1024; omega
  · show 0 + 256 ≤ 256; omega

/-- Section `s` of the score buffer. -/
def sec (S : Vec F S8x1024x256 .f32) (s : ℕ) (hs : s < 8) : Vec F S1x1024x256 .f32 := cut S ![s, 0, 0] S1x1024x256.size (sec_inb s hs)

theorem cut_sec (S : Vec F S8x1024x256 .f32) {off : Fin 3 → ℕ} (inb) {s : ℕ} (hs : s < 8) (h : off = ![s, 0, 0]) :
    cut S off S1x1024x256.size inb = sec S s hs := cut_congr S _ _ _ h

abbrev secR (s : ℕ) (hs : s < 8) : Rect S8x1024x256 := Rect.unit (s := S8x1024x256) ![s, 0, 0] S1x1024x256.size (sec_inb s hs)
theorem sec_apply (S : Vec F S8x1024x256 .f32) (s : ℕ) (hs : s < 8) (x : S1x1024x256.Idx) : sec S s hs x = S ((secR s hs).idx x) := rfl
theorem ov_secR (S : Vec F S8x1024x256 .f32) {s : ℕ} (hs : s < 8)  (w : (secR s hs).shape.Idx → Elt F .f32) (L : List (View.Piece (Elt F) S8x1024x256 .f32)) (x : (secR s hs).shape.Idx) :
    ov ((⟨secR s hs, w⟩ : View.Piece (Elt F) S8x1024x256 .f32) :: L) S ((secR s hs).idx x) = w x := ov_cons_emb _ _ _ _ x
theorem sec_ov_apply (S : Vec F S8x1024x256 .f32) {s : ℕ} (hs : s < 8)  (w : (secR s hs).shape.Idx → Elt F .f32) (L : List (View.Piece (Elt F) S8x1024x256 .f32)) (x : (secR s hs).shape.Idx) :
    sec (ov ((⟨secR s hs, w⟩ : View.Piece (Elt F) S8x1024x256 .f32) :: L) S) s hs x = w x := by
  rw [sec_apply, ov_secR]
theorem sec_ov (S : Vec F S8x1024x256 .f32) {s : ℕ} (hs : s < 8)  (w : Vec F S1x1024x256 .f32) (L : List (View.Piece (Elt F) S8x1024x256 .f32))  :
    sec (ov ((⟨secR s hs, w⟩ : View.Piece (Elt F) S8x1024x256 .f32) :: L) S) s hs = w := by
  funext x; exact sec_ov_apply S hs w L x
/-- A section just stored reads as what was stored. -/
theorem sec_ov_eq (S : Vec F S8x1024x256 .f32) {off : Fin 3 → ℕ} (inb) (w : Vec F S1x1024x256 .f32) (L) {s : ℕ} (hs : s < 8) (h : off = ![s, 0, 0]) :
    sec (ov ((⟨Rect.unit (s := S8x1024x256) off S1x1024x256.size inb, w⟩ : View.Piece (Elt F) S8x1024x256 .f32) :: L) S) s hs = w := by
  subst h; exact sec_ov S hs w L
theorem secR_val (s : ℕ) (hs : s < 8) (x : S1x1024x256.Idx) : ((secR s hs).idx x (0 : Fin 3)).val = s := by
  have hx : (x (0 : Fin 3)).val < 1 := (x (0 : Fin 3)).isLt
  show s + 1 * (x (0 : Fin 3)).val = s; omega
theorem secR_not_mem {s t : ℕ} (hs : s < 8) (ht : t < 8) (hst : s ≠ t) (x : S1x1024x256.Idx) : (secR s hs).idx x ∉ (secR t ht).set := by
  rw [Rect.mem_set_unit]; intro hall
  have h0 := hall (0 : Fin 3)
  rw [secR_val] at h0
  change t ≤ s ∧ s < t + 1 at h0
  omega
theorem sec_ov_ne' (S : Vec F S8x1024x256 .f32) {s t : ℕ} (hs : s < 8) (ht : t < 8) (w : Vec F S1x1024x256 .f32) (L : List (View.Piece (Elt F) S8x1024x256 .f32)) (hst : s ≠ t) (x : S1x1024x256.Idx) :
    sec (ov ((⟨secR t ht, w⟩ : View.Piece (Elt F) S8x1024x256 .f32) :: L) S) s hs x = sec (ov L S) s hs x := by
  rw [sec_apply, sec_apply, ov_cons_not_mem _ _ _ _ _ (secR_not_mem hs ht hst x)]
/-- A store to another section leaves this one. -/
theorem sec_ov_ne (S : Vec F S8x1024x256 .f32) {off : Fin 3 → ℕ} (inb : ∀ a, off a + S1x1024x256.size a ≤ S8x1024x256.size a) (w : Vec F S1x1024x256 .f32) (L) {s t : ℕ} (hs : s < 8) (h : off = ![t, 0, 0]) (hst : s ≠ t) :
    sec (ov ((⟨Rect.unit (s := S8x1024x256) off S1x1024x256.size inb, w⟩ : View.Piece (Elt F) S8x1024x256 .f32) :: L) S) s hs = sec (ov L S) s hs := by
  subst h
  have ht : t < 8 := by have h0 := inb (0 : Fin 3); change t + 1 ≤ 8 at h0; omega
  funext x; exact sec_ov_ne' S hs ht w L hst x

section
variable (i : grid0.Coords) (Q : Vec F S1024x128 .bf16) (X4 X5 : Vec F S1x2048x128 .bf16) (X6 : Vec F S1x1x256x4 .f32) (X7 : Vec F S1x1x8x4x256 .f32)

theorem trips1_one (s : ℕ) (h : s < 4 * ((i 2).val / 4)) : 0 < (k0_t1_loop i).trips := by rw [trips1_eq]; omega
theorem c1_of (h : (i 2).val % 4 = 1) : k0_cond1 i = 1#1 := (cond1_iff i).2 h
theorem c2_of (h : (i 2).val % 4 = 2) : k0_cond2 i = 1#1 := (cond2_iff i).2 h
theorem c3_of (h : (i 2).val % 4 = 3) : k0_cond3 i = 1#1 := (cond3_iff i).2 h

/-- The scores against key block `s`, for a block up to the diagonal. -/
def secOf (s : ℕ) : Vec F S1x1024x256 .f32 :=
  if hq : s < (i 2).val then
    if h4 : s < 4 * ((i 2).val / 4) then
      let k : Fin (k0_t1_loop i).trips := ⟨0, trips1_one i s h4⟩
      if s = 0 then tS0 i Q X4 X7 k else if s = 1 then tS1 i Q X4 X7 k else if s = 2 then tS2 i Q X4 X7 k else tS3 i Q X4 X7 k
    else if h1 : (i 2).val % 4 = 1 then aS i Q X4 X7 (c1_of i h1)
    else if h2 : (i 2).val % 4 = 2 then if s % 4 = 0 then bS0 i Q X4 X7 (c2_of i h2) else bS1 i Q X4 X7 (c2_of i h2)
    else if h3 : (i 2).val % 4 = 3 then
      if s % 4 = 0 then k0_pay98 (c392 i Q X4 X7 (c3_of i h3)) else if s % 4 = 1 then k0_pay99 (c391 i Q X4 X7 (c3_of i h3)) else k0_pay100 (c391 i Q X4 X7 (c3_of i h3))
    else dS i Q X4 X7
  else dS i Q X4 X7

theorem sec_score4 (S : Vec F S8x1024x256 .f32) (s : ℕ) (hs : s < 8) (hq : s ≤ (i 2).val) :
    sec (score4 i Q X4 X7 (score3 i Q X4 X7 (score2 i Q X4 X7 (score1 i Q X4 X7 (scoreD i Q X4 X7 S))))) s hs = secOf i Q X4 X7 s := by
  have hD : ∀ (T : Vec F S8x1024x256 .f32), s = (i 2).val → sec (scoreD i Q X4 X7 T) s hs = dS i Q X4 X7 := fun T h =>
    sec_ov_eq _ _ _ _ _ (by rw [off6_eq', h])
  have l8 := lt8 i
  have h1a : ∀ T : Vec F S8x1024x256 .f32, 4 * ((i 2).val / 4) ≤ s → sec (score1 i Q X4 X7 T) s hs = sec T s hs := fun T h => by
    unfold score1; split
    · rename_i ht
      unfold scoreT
      rw [sec_ov_ne _ _ _ _ hs (off12_3 i _), sec_ov_ne _ _ _ _ hs (off12_2 i _), sec_ov_ne _ _ _ _ hs (off12_1 i _), sec_ov_ne _ _ _ _ hs (off12_0 i _)]
      · rfl
      all_goals (rw [trips1_eq] at ht; simp; omega)
    · rfl
  have h1b : ∀ (T : Vec F S8x1024x256 .f32) (h4 : s < 4 * ((i 2).val / 4)), sec (score1 i Q X4 X7 T) s hs =
      (let k : Fin (k0_t1_loop i).trips := ⟨0, trips1_one i s h4⟩
      if s = 0 then tS0 i Q X4 X7 k else if s = 1 then tS1 i Q X4 X7 k else if s = 2 then tS2 i Q X4 X7 k else tS3 i Q X4 X7 k) := fun T h4 => by
    have ht : (k0_t1_loop i).trips = 1 := by rw [trips1_eq]; omega
    simp only [score1, dif_pos ht]
    unfold scoreT
    have h4' : s < 4 := by omega
    interval_cases s
    · rw [sec_ov_ne _ _ _ _ hs (off12_3 i _) (by simp), sec_ov_ne _ _ _ _ hs (off12_2 i _) (by simp), sec_ov_ne _ _ _ _ hs (off12_1 i _) (by simp)]
      exact sec_ov_eq _ _ _ _ hs (off12_0 i _)
    · rw [sec_ov_ne _ _ _ _ hs (off12_3 i _) (by simp), sec_ov_ne _ _ _ _ hs (off12_2 i _) (by simp)]
      exact sec_ov_eq _ _ _ _ hs (off12_1 i _)
    · rw [sec_ov_ne _ _ _ _ hs (off12_3 i _) (by simp)]
      exact sec_ov_eq _ _ _ _ hs (off12_2 i _)
    · exact sec_ov_eq _ _ _ _ hs (off12_3 i _)
  have h2a : ∀ T : Vec F S8x1024x256 .f32, ((i 2).val % 4 = 1 → s ≠ 4 * ((i 2).val / 4)) → sec (score2 i Q X4 X7 T) s hs = sec T s hs := fun T h => by
    unfold score2; split
    · rename_i h1; exact sec_ov_ne _ _ _ _ hs (off24_eq i) (h ((cond1_iff i).1 h1))
    · rfl
  have h3a : ∀ T : Vec F S8x1024x256 .f32, ((i 2).val % 4 = 2 → s < 4 * ((i 2).val / 4) ∨ s = (i 2).val) → sec (score3 i Q X4 X7 T) s hs = sec T s hs := fun T h => by
    unfold score3; split
    · rename_i h2
      have h2' := (cond2_iff i).1 h2
      have := h h2'
      unfold scoreB
      rw [sec_ov_ne _ _ _ _ hs (off30_1 i), sec_ov_ne _ _ _ _ hs (off30_0 i)]
      · rfl
      all_goals (simp; omega)
    · rfl
  have h4a : ∀ T : Vec F S8x1024x256 .f32, ((i 2).val % 4 = 3 → s < 4 * ((i 2).val / 4) ∨ s = (i 2).val) → sec (score4 i Q X4 X7 T) s hs = sec T s hs := fun T h => by
    unfold score4; split
    · rename_i h3
      have h3' := (cond3_iff i).1 h3
      have := h h3'
      unfold scoreC
      rw [sec_ov_ne _ _ _ _ hs (off36_2 i), sec_ov_ne _ _ _ _ hs (off36_1 i), sec_ov_ne _ _ _ _ hs (off36_0 i)]
      · rfl
      all_goals (simp; omega)
    · rfl
  unfold secOf
  by_cases hlt : s < (i 2).val
  · rw [dif_pos hlt]
    by_cases h4 : s < 4 * ((i 2).val / 4)
    · rw [dif_pos h4, h4a _ (fun _ => .inl h4), h3a _ (fun _ => .inl h4), h2a _ (fun _ => by omega), h1b _ h4]
    · rw [dif_neg h4]
      by_cases h1 : (i 2).val % 4 = 1
      · rw [dif_pos h1, h4a _ (by omega), h3a _ (by omega)]
        simp only [score2, dif_pos (c1_of i h1)]
        exact sec_ov_eq _ _ _ _ hs (by rw [off24_eq, show s = 4 * ((i 2).val / 4) by omega])
      rw [dif_neg h1]
      by_cases h2 : (i 2).val % 4 = 2
      · rw [dif_pos h2, h4a _ (by omega)]
        simp only [score3, dif_pos (c2_of i h2)]
        unfold scoreB
        by_cases hr : s % 4 = 0
        · rw [if_pos hr, sec_ov_ne _ _ _ _ hs (off30_1 i) (by simp; omega)]
          exact sec_ov_eq _ _ _ _ hs ((off30_0 i).trans (by congr 1; simp; omega))
        · rw [if_neg hr]
          exact sec_ov_eq _ _ _ _ hs ((off30_1 i).trans (by congr 1; simp; omega))
      rw [dif_neg h2]
      by_cases h3 : (i 2).val % 4 = 3
      · rw [dif_pos h3]
        simp only [score4, dif_pos (c3_of i h3)]
        unfold scoreC
        by_cases hr : s % 4 = 0
        · rw [if_pos hr, sec_ov_ne _ _ _ _ hs (off36_2 i) (by simp; omega), sec_ov_ne _ _ _ _ hs (off36_1 i) (by simp; omega)]
          exact sec_ov_eq _ _ _ _ hs ((off36_0 i).trans (by congr 1; simp; omega))
        rw [if_neg hr]
        by_cases hr1 : s % 4 = 1
        · rw [if_pos hr1, sec_ov_ne _ _ _ _ hs (off36_2 i) (by simp; omega)]
          exact sec_ov_eq _ _ _ _ hs ((off36_1 i).trans (by congr 1; simp; omega))
        · rw [if_neg hr1]
          exact sec_ov_eq _ _ _ _ hs ((off36_2 i).trans (by congr 1; simp; omega))
      omega
  · rw [dif_neg hlt]
    have hse : s = (i 2).val := by omega
    rw [h4a _ (fun _ => .inr hse), h3a _ (fun _ => .inr hse), h2a _ (by omega), h1a _ (by omega)]
    exact hD _ hse

/-- The accumulator's passes read the score buffer at the sections up to the diagonal only. -/
theorem acc_congr (B : Vec F S1024x128 .f32) (S S' : Vec F S8x1024x256 .f32) (h : ∀ s (hs : s < 8), s ≤ (i 2).val → sec S s hs = sec S' s hs) :
    acc4 i X5 B S (acc3 i X5 B S (acc2 i X5 B S (acc1 i X5 B S (accD i X5 B S)))) = acc4 i X5 B S' (acc3 i X5 B S' (acc2 i X5 B S' (acc1 i X5 B S' (accD i X5 B S')))) := by
  have l8 := lt8 i
  have hc : ∀ {off : Fin 3 → ℕ} (inb) (s : ℕ) (hs : s ≤ (i 2).val) (h : off = ![s, 0, 0]), cut S off S1x1024x256.size inb = cut S' off S1x1024x256.size inb :=
    fun inb s hs h' => by rw [cut_sec S inb (by omega) h', cut_sec S' inb (by omega) h', h _ _ hs]
  have hD : accD i X5 B S = accD i X5 B S' := by
    unfold accD; rw [hc _ _ le_rfl (off6_eq' i)]
  have h1 : acc1 i X5 B S = acc1 i X5 B S' := by
    funext A; unfold acc1; split
    · rename_i ht
      rw [trips3_eq] at ht
      unfold accT
      rw [hc (off := k0_off37 i _ 0#32) (k0_off37_inb i _ 0) _ (by simp <;> omega) (off37_0 i _), hc (off := k0_off37 i _ 1#32) (k0_off37_inb i _ 1) _ (by simp <;> omega) (off37_1 i _), hc (off := k0_off37 i _ 2#32) (k0_off37_inb i _ 2) _ (by simp <;> omega) (off37_2 i _), hc (off := k0_off37 i _ 3#32) (k0_off37_inb i _ 3) _ (by simp <;> omega) (off37_3 i _)]
    · rfl
  have h2 : acc2 i X5 B S = acc2 i X5 B S' := by
    funext A; unfold acc2; split
    · unfold accA; rw [hc _ _ (by omega) (off41_eq i)]
    · rfl
  have h3 : acc3 i X5 B S = acc3 i X5 B S' := by
    funext A; unfold acc3; split
    · rename_i hh; have := (cond5_iff i).1 hh
      unfold accB; rw [hc (off := k0_off43 i 0#32) (k0_off43_inb i hh 0) _ (by simp; omega) (off43_0 i), hc (off := k0_off43 i 1#32) (k0_off43_inb i hh 1) _ (by simp; omega) (off43_1 i)]
    · rfl
  have h4 : acc4 i X5 B S = acc4 i X5 B S' := by
    funext A; unfold acc4; split
    · rename_i hh; have := (cond6_iff i).1 hh
      unfold accC; rw [hc (off := k0_off45 i 0#32) (k0_off45_inb i hh 0) _ (by simp; omega) (off45_0 i), hc (off := k0_off45 i 1#32) (k0_off45_inb i hh 1) _ (by simp; omega) (off45_1 i), hc (off := k0_off45 i 2#32) (k0_off45_inb i hh 2) _ (by simp; omega) (off45_2 i)]
    · rfl
  rw [hD, h1, h2, h3, h4]
end

/-- Stores that cover a buffer leave what they store, whatever was there. -/
theorem ov_covered {s : Shape} {e : EltTy} (X X' : s.Idx → Elt F e) : ∀ (L : List (View.Piece (Elt F) s e)), (∀ y, ∃ p ∈ L, y ∈ p.1.set) → ov L X = ov L X' := by
  intro L h; funext y
  obtain ⟨p, hp, hy⟩ := h y
  clear h
  induction L with
  | nil => exact absurd hp List.not_mem_nil
  | cons q L ih =>
    by_cases hq : y ∈ q.1.set
    · obtain ⟨r, w⟩ := q
      obtain ⟨x, rfl⟩ : ∃ x, r.emb x = y := r.exists_idx_of_mem hq
      exact (r.overlay_emb _ _ x).trans (r.overlay_emb _ _ x).symm
    · refine (q.1.overlay_of_not_mem _ _ hq).trans (Eq.trans ?_ (q.1.overlay_of_not_mem _ _ hq).symm)
      rcases List.mem_cons.mp hp with rfl | hp
      · exact absurd hy hq
      · exact ih hp

theorem gq_any (X3 : Vec F S1x256x256 .bf16) (G G' : Vec F S1024x128 .bf16) : gq X3 G = gq X3 G' := by
  unfold gq
  refine ov_covered _ _ _ fun y => ?_
  have y0 : (y (0 : Fin 2)).val < 1024 := (y (0 : Fin 2)).isLt
  have y1 : (y (1 : Fin 2)).val < 128 := (y (1 : Fin 2)).isLt
  have hm : ∀ (o : ℕ) (inb : ∀ a, (![o, 0] : Fin 2 → ℕ) a + S256x128.size a ≤ S1024x128.size a), o ≤ (y (0 : Fin 2)).val → (y (0 : Fin 2)).val < o + 256 → y ∈ (Rect.unit (s := S1024x128) ![o, 0] S256x128.size inb).set := by
    intro o inb h1 h2
    rw [Rect.mem_set_unit]; intro a; fin_cases a
    · exact ⟨h1, h2⟩
    · exact ⟨Nat.zero_le _, by show (y (1 : Fin 2)).val < 0 + 128; omega⟩
  by_cases h3 : 768 ≤ (y (0 : Fin 2)).val
  · exact ⟨_, List.mem_cons_self, hm 768 inb_S1024x128_S256x128_768_0 h3 (by omega)⟩
  by_cases h2 : 512 ≤ (y (0 : Fin 2)).val
  · exact ⟨_, List.mem_cons_of_mem _ List.mem_cons_self, hm 512 inb_S1024x128_S256x128_512_0 h2 (by omega)⟩
  by_cases h1 : 256 ≤ (y (0 : Fin 2)).val
  · exact ⟨_, List.mem_cons_of_mem _ (List.mem_cons_of_mem _ List.mem_cons_self), hm 256 inb_S1024x128_S256x128_256_0 h1 (by omega)⟩
  · exact ⟨_, List.mem_cons_of_mem _ (List.mem_cons_of_mem _ (List.mem_cons_of_mem _ List.mem_cons_self)), hm 0 inb_S1024x128_S256x128_0_0 (Nat.zero_le _) (by omega)⟩

theorem outOf_any (A : Vec F S1024x256 .f32) (G G' : Vec F S1x256x256 .bf16) : outOf A G = outOf A G' := by
  unfold outOf
  refine ov_covered _ _ _ fun y => ?_
  have y0 : (y (0 : Fin 3)).val < 1 := (y (0 : Fin 3)).isLt
  have y1 : (y (1 : Fin 3)).val < 256 := (y (1 : Fin 3)).isLt
  have y2 : (y (2 : Fin 3)).val < 256 := (y (2 : Fin 3)).isLt
  have hm : ∀ (o : ℕ) (inb : ∀ a, (![0, 0, o] : Fin 3 → ℕ) a + S1x256x128.size a ≤ S1x256x256.size a), o ≤ (y (2 : Fin 3)).val → (y (2 : Fin 3)).val < o + 128 → y ∈ (Rect.unit (s := S1x256x256) ![0, 0, o] S1x256x128.size inb).set := by
    intro o inb h1 h2
    rw [Rect.mem_set_unit]; intro a; fin_cases a
    · exact ⟨Nat.zero_le _, by show (y (0 : Fin 3)).val < 0 + 1; omega⟩
    · exact ⟨Nat.zero_le _, by show (y (1 : Fin 3)).val < 0 + 256; omega⟩
    · exact ⟨h1, h2⟩
  by_cases h1 : 128 ≤ (y (2 : Fin 3)).val
  · exact ⟨_, List.mem_cons_self, hm 128 inb_S1x256x256_S1x256x128_0_0_128 h1 (by omega)⟩
  · exact ⟨_, List.mem_cons_of_mem _ List.mem_cons_self, hm 0 inb_S1x256x256_S1x256x128_0_0_0 (Nat.zero_le _) (by omega)⟩

/-- The block the body leaves in its output does not depend on what its buffers held before. -/
theorem bodyOut_any (i : grid0.Coords) (X3 : Vec F S1x256x256 .bf16) (X4 X5 : Vec F S1x2048x128 .bf16) (X6 : Vec F S1x1x256x4 .f32) (X7 : Vec F S1x1x8x4x256 .f32)
    (G9 G9' : Vec F S1024x128 .bf16) (G10 G10' : Vec F S8x1024x256 .f32) (G8 G8' : Vec F S1x256x256 .bf16) :
    bodyOut i X3 X4 X5 X6 X7 G9 G10 G8 = bodyOut i X3 X4 X5 X6 X7 G9' G10' G8' := by
  have hA : bodyA i X3 X4 X5 X6 X7 G9 G10 = bodyA i X3 X4 X5 X6 X7 G9' G10' := by
    have hB : bodyB i X3 X4 X6 X7 G9 = bodyB i X3 X4 X6 X7 G9' := by unfold bodyB bodyM; rw [gq_any X3 G9 G9']
    have hS : ∀ s (hs : s < 8), s ≤ (i 2).val → sec (bodyS i X3 X4 X7 G9 G10) s hs = sec (bodyS i X3 X4 X7 G9' G10') s hs := fun s hs hq => by
      unfold bodyS
      rw [gq_any X3 G9 G9']
      exact (sec_score4 i _ X4 X7 _ s hs hq).trans (sec_score4 i _ X4 X7 _ s hs hq).symm
    unfold bodyA
    rw [hB]
    exact acc_congr i X5 _ _ _ hS
  exact (congrArg (fun A => outOf A G8) hA).trans (outOf_any _ _ _)

end Cert.KernelIdeal.Hand
end
-- ==== Proof.Body.lean ====
/-
  The whole body of `attn_b`: its parts in order, each at what the one before leaves.
-/
module

public import proofs.«01_k».proof.Proof.Parts
public import proofs.«01_k».proof.Proof.Sections

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]

local notation "𝕄" => MT nD τ sig Unit (Elt F) ℕ (UR sig nD τ) ℕ

theorem kernelRun (𝒱 : Variants) (c : Dev nD) (bd : Option 𝒱.V) (E : Set ℕ) (i : grid0.Coords)
  (arg3 : Memref sig .tc .vmem S1x256x256 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x1x256x4 .f32) (harg6 : arg6.IsWhole)
  (arg7 : Memref sig .tc .vmem S1x1x8x4x256 .f32) (harg7 : arg7.IsWhole)
  (arg8 : Memref sig .tc .vmem S1x256x256 .bf16) (harg8 : arg8.IsWhole)
  (arg9 : Memref sig .tc .vmem S1024x128 .bf16) (harg9 : arg9.IsWhole)
  (arg10 : Memref sig .tc .vmem S8x1024x256 .f32) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S1024x256 .f32) (harg13 : arg13.IsWhole)
  (X3 : Vec F S1x256x256 .bf16) (X4 X5 : Vec F S1x2048x128 .bf16) (X6 : Vec F S1x1x256x4 .f32) (X7 : Vec F S1x1x8x4x256 .f32) (G8 : Vec F S1x256x256 .bf16)
  (G9 : Vec F S1024x128 .bf16) (G10 : Vec F S8x1024x256 .f32) (G11 G12 : Vec F S1024x128 .f32) (G13 : Vec F S1024x256 .f32) :
  iprop(has c arg3 X3 ∗ has c arg4 X4 ∗ has c arg5 X5 ∗ has c arg6 X6 ∗ has c arg7 X7 ∗ has c arg8 G8 ∗ has c arg9 G9 ∗ has c arg10 G10 ∗ has c arg11 G11 ∗ has c arg12 G12 ∗ has c arg13 G13)
    ⊢ wp frame (wpE (defs₀ (F := F)) 𝒱 (c : Thread nD τ) bd) E (cc0_attn_b (F := F) i arg3 harg3 arg4 harg4 arg5 harg5 arg6 harg6 arg7 harg7 arg8 harg8 arg9 harg9 arg10 harg10 arg11 harg11 arg12 harg12 arg13 harg13)
      (fun _ => iprop(has c arg3 X3 ∗ has c arg4 X4 ∗ has c arg5 X5 ∗ has c arg6 X6 ∗ has c arg7 X7 ∗ has c arg8 (bodyOut i X3 X4 X5 X6 X7 G9 G10 G8) ∗ has c arg9 (bodyQ X3 G9) ∗ has c arg10 (bodyS i X3 X4 X7 G9 G10) ∗ has c arg11 (bodyM i X3 X4 X7 G9) ∗ has c arg12 (bodyB i X3 X4 X6 X7 G9) ∗ has c arg13 (bodyA i X3 X4 X5 X6 X7 G9 G10))) := by
  rw [cc0_attn_b_eq_skeleton]; unfold cc0_attn_b_skel
  iintro ⟨H3, H4, H5, H6, H7, H8, H9, H10, H11, H12, H13⟩
  rw [wp_bind]
  iapply (wp_wand_r Idealize.ShloMosaic.frame (wpE (defs₀ (F := F)) 𝒱 (c : Thread nD τ) bd) E)
  isplitl [H3 H9]
  · iapply part21_wp
    isplitl [H3]; · iexact H3
    iexact H9
  iintro %r ⟨%hr, H3, H9⟩
  obtain ⟨a, rfl⟩ := hr
  rw [wp_bind]
  iapply (wp_wand_r Idealize.ShloMosaic.frame (wpE (defs₀ (F := F)) 𝒱 (c : Thread nD τ) bd) E)
  isplitl [H9 H4 H7]
  · iapply part22_wp
    isplitl [H9]; · iexact H9
    isplitl [H4]; · iexact H4
    iexact H7
  iintro %r ⟨%hr, H9, H4, H7⟩
  obtain rfl := hr
  rw [wp_bind]
  iapply (wp_wand_r Idealize.ShloMosaic.frame (wpE (defs₀ (F := F)) 𝒱 (c : Thread nD τ) bd) E)
  isplitl [H7 H10 H11]
  · iapply part23_wp
    isplitl [H7]; · iexact H7
    isplitl [H10]; · iexact H10
    iexact H11
  iintro %r ⟨%hr, H7, H10, H11⟩
  obtain rfl := hr
  rw [wp_bind]
  iapply (wp_wand_r Idealize.ShloMosaic.frame (wpE (defs₀ (F := F)) 𝒱 (c : Thread nD τ) bd) E)
  isplitl [H9 H4 H7 H10 H11]
  · iapply part24_wp
    isplitl [H9]; · iexact H9
    isplitl [H4]; · iexact H4
    isplitl [H7]; · iexact H7
    isplitl [H10]; · iexact H10
    iexact H11
  iintro %r ⟨H9, H4, H7, H10, H11⟩
  rw [wp_bind]
  iapply (wp_wand_r Idealize.ShloMosaic.frame (wpE (defs₀ (F := F)) 𝒱 (c : Thread nD τ) bd) E)
  isplitl [H9 H4 H7 H6 H10 H11]
  · iapply part25_wp
    isplitl [H9]; · iexact H9
    isplitl [H4]; · iexact H4
    isplitl [H7]; · iexact H7
    isplitl [H6]; · iexact H6
    isplitl [H10]; · iexact H10
    iexact H11
  iintro %r ⟨%hr, H9, H4, H7, H6, H10, H11⟩
  obtain rfl := hr
  rw [wp_bind]
  iapply (wp_wand_r Idealize.ShloMosaic.frame (wpE (defs₀ (F := F)) 𝒱 (c : Thread nD τ) bd) E)
  isplitl [H5 H6 H10 H11 H12]
  · iapply part26_wp
    isplitl [H5]; · iexact H5
    isplitl [H6]; · iexact H6
    isplitl [H10]; · iexact H10
    isplitl [H11]; · iexact H11
    iexact H12
  iintro %r ⟨%hr, H5, H6, H10, H11, H12⟩
  obtain rfl := hr
  rw [wp_bind]
  iapply (wp_wand_r Idealize.ShloMosaic.frame (wpE (defs₀ (F := F)) 𝒱 (c : Thread nD τ) bd) E)
  isplitl [H5 H10 H12 H13]
  · iapply part27_wp
    isplitl [H5]; · iexact H5
    isplitl [H10]; · iexact H10
    isplitl [H12]; · iexact H12
    iexact H13
  iintro %r ⟨%hr, H5, H10, H12, H13⟩
  obtain ⟨e1, e2, rfl⟩ := hr
  rw [wp_bind]
  iapply (wp_wand_r Idealize.ShloMosaic.frame (wpE (defs₀ (F := F)) 𝒱 (c : Thread nD τ) bd) E)
  isplitl [H5 H10 H12 H13]
  · iapply part28_wp
    isplitl [H5]; · iexact H5
    isplitl [H10]; · iexact H10
    isplitl [H12]; · iexact H12
    iexact H13
  iintro %r ⟨%hr, H5, H10, H12, H13⟩
  obtain rfl := hr
  simp only [has, owns]
  icases H8 with ⟨%f8, %e8, H8⟩
  sl_exec
  sl_step
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; rw [read_writes_eq_ov, e8]; rfl
  isplitl [H9]; · iexact H9
  isplitl [H10]; · iexact H10
  isplitl [H11]; · iexact H11
  isplitl [H12]; · iexact H12
  iexact H13

end Cert.KernelIdeal.Hand
end
-- ==== Proof.Run.lean ====
/-
  The run of `attn_b`: what the pipeline holds at every point, the body there, and what the program leaves.
-/
module

public import proofs.«01_k».proof.Proof.Body
public import proofs.«01_k».proof.Proof.Gen.KernelIdeal.Frame
public import Idealize.ShloMosaic.Lib.Claim

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- Contents for the buffers whose contents do not matter. -/
def zQ : Vec F S1024x128 .bf16 := constant S1024x128 .bf16 0x0000#16
def zS : Vec F S8x1024x256 .f32 := constant S8x1024x256 .f32 0x00000000#32
def zO : Vec F S1x256x256 .bf16 := constant S1x256x256 .bf16 0x0000#16

/-- The block the body leaves at its output window, of the five input blocks at the point `i`. -/
def outBlk (i : grid0.Coords) (X3 : Vec F S1x256x256 .bf16) (X4 X5 : Vec F S1x2048x128 .bf16) (X6 : Vec F S1x1x256x4 .f32) (X7 : Vec F S1x1x8x4x256 .f32) : Vec F S1x256x256 .bf16 :=
  bodyOut i X3 X4 X5 X6 X7 zQ zS zO

/-- The pipeline's data: the inputs stay, the output's buffer ends at `outBlk` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t =
    outBlk (grid0.coords t) (iblk m c 0 t) (iblk m c 1 t) (iblk m c 2 t) (iblk m c 3 t) (iblk m c 4 t) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The scratch buffers and the generator register, as the body takes them. -/
theorem Φ_open (c : Dev nD) : (Pipeline.ΦA spec0 c : sProp 𝕄)
    = iprop(((∃ d, has c (Memref.whole cc0_scratch0) d) ∗ (∃ d, has c (Memref.whole cc0_scratch1) d) ∗ (∃ d, has c (Memref.whole cc0_scratch2) d)
        ∗ (∃ d, has c (Memref.whole cc0_scratch3) d) ∗ (∃ d, has c (Memref.whole cc0_scratch4) d)) ∗ ∃ r, prngReg c r) := by
  have h : ∀ b : Ref sig .tc, (iprop(∃ f : Buf (Elt F) ((c : Thread nD τ).loc b), ((c : Thread nD τ).loc b) ↦{fullShare} f) : sProp 𝕄)
      = iprop(∃ d, owns (c : Thread nD τ) (Memref.whole b) fullShare d) := fun b => by
    simp only [owns_whole_eq]
    refine BI.equiv_iff.mp ⟨(?_ : (_ : sProp 𝕄) ⊢ _), (?_ : (_ : sProp 𝕄) ⊢ _)⟩
    · iintro ⟨%f, H⟩
      iexists f; iexists f
      isplitr; · ipureintro; rfl
      iexact H
    · iintro ⟨%d, %f, -, H⟩
      iexists f; iexact H
  unfold Pipeline.ΦA
  rw [scopedRest0_eq]
  exact congrArg (fun P => iprop(P ∗ ∃ r, prngReg c r)) (by rw [h, h, h, h, h])

set_option maxHeartbeats 1000000 in
/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, Φ_open]
  iintro ⟨⟨⟨⟨%s0, S0⟩, ⟨%s1, S1⟩, ⟨%s2, S2⟩, ⟨%s3, S3⟩, ⟨%s4, S4⟩⟩, Hp⟩, Ho, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := F)) Variants.none (c : Thread nD τ) none) Set.univ)
  isplitl [H0 H1 H2 H3 H4 H5 S0 S1 S2 S3 S4]
  · iapply (kernelRun Variants.none c none Set.univ (grid0.coords t) _ _ _ _ _ _ _ _ _ _ _ _ _ _ _ _ _ _ _ _ _ _
      (iblk m c 0 t) (iblk m c 1 t) (iblk m c 2 t) (iblk m c 3 t) (iblk m c 4 t) ((dats m 0 c).before 5 t d5) s0 s1 s2 s3 s4)
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    iexact S4
  iintro %r ⟨H0, H1, H2, H3, H4, H5, S0, S1, S2, S3, S4⟩
  isplitl [S0 S1 S2 S3 S4 Hp]
  · isplitl [S0 S1 S2 S3 S4]
    · isplitl [S0]; · iexists _; iexact S0
      isplitl [S1]; · iexists _; iexact S1
      isplitl [S2]; · iexists _; iexact S2
      isplitl [S3]; · iexists _; iexact S3
      iexists _; iexact S4
    iexact Hp
  isplitl [Ho]; · iexact Ho
  isplitl [H0]; · iexact H0
  isplitl [H1]; · iexact H1
  isplitl [H2]; · iexact H2
  isplitl [H3]; · iexact H3
  isplitl [H4]; · iexact H4
  unfold outBlk
  rw [bodyOut_any _ _ _ _ _ _ zQ s0 zS s1 zO ((dats m 0 c).before 5 t d5)]
  iexact H5

/-- The body's entry in the program's table, at a point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- From any memory with the counters at zero, every run of the program ends, its output array holding what the
    pipeline's data says and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame at any values: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand
end
-- ==== Proof.Frames.lean ====
/-
  The frames of the two programs: the kernel's is the idealised kernel's run read at machine words, where a named
  constant is the word it stands for and the two programs are one.
-/
module

public import proofs.«01_k».proof.Proof.Run
public import proofs.«01_k».proof.Proof.Gen.Kernel
public import Idealize.ShloMosaic.Lib.Tactic.ProgEq
public import Idealize.ShloMosaic.PureOps.BitExact

@[expose] public section
set_option maxRecDepth 65536
noncomputable section
namespace Cert.Frames
open Idealize.ShloMosaic Idealize.ShloMosaic.TcCoe

/-- At machine words a named constant is the word it stands for. -/
@[reducible] def bitsNamed : Named Bits where
  named _ _ b := FloatOps.ofBits b
attribute [local instance] bitsNamed

theorem main_eq : Cert.KernelIdeal.main (F := Bits) = Cert.Kernel.main (F := Bits) := rfl
theorem attn_eq : Cert.KernelIdeal.cc0_attn_b (F := Bits) = Cert.Kernel.cc0_attn_b (F := Bits) := rfl
theorem defs_eq : Cert.KernelIdeal.defs (F := Bits) = Cert.Kernel.defs (F := Bits) := by
  sl_kernel_rfl

/-- The kernel's frame. -/
theorem frame_Kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [← defs_eq, ← main_eq]
  exact Cert.KernelIdeal.Hand.frame_any (F := Bits) m g

end Cert.Frames
end
-- ==== Proof.Scores.lean ====
module

public import proofs.«01_k».proof.Proof.Sections
public import Idealize.ShloMosaic.Lib.Pointwise

@[expose] public section
set_option maxRecDepth 16384
noncomputable section
namespace Cert.KernelIdeal.Hand
open Cert.KernelIdeal Cert.KernelIdeal.Gen
open Idealize.ShloMosaic Idealize.ShloMosaic.TcCoe

/-- The scale log₂ e. -/
def L2E : EReal := (Named.named κ "log2e" 0x3FB8AA3B#32 : Ideal .f32)

/-- The gate row that serves query row `r`: the four row groups take the rows 0, 2, 1, 3. -/
def hd (r : Fin 1024) : Fin 4 := if r.val < 256 then 0 else if r.val < 512 then 2 else if r.val < 768 then 1 else 3

/-- The score of query row `r` against key `c` of block `s`, before any mask. -/
def sc (Q : Vec Ideal S1024x128 .bf16) (X4 : Vec Ideal S1x2048x128 .bf16) (X7 : Vec Ideal S1x1x8x4x256 .f32) (r : Fin 1024) (s : Fin 8) (c : Fin 256) : EReal :=
  (∑ l : Fin 128, Q (ix2 r l) * X4 (ix3 0 ⟨256 * s.val + c.val, by omega⟩ l)) - X7 (ix5 0 0 s (hd r) c) * L2E

section
variable (Q : Vec Ideal S1024x128 .bf16) (X4 : Vec Ideal S1x2048x128 .bf16) (X7 : Vec Ideal S1x1x8x4x256 .f32)

theorem cut_x4 {N : ℕ} {off : Fin 3 → ℕ} (n : ℕ) (hoff : off = ![0, n, 0]) (inb) (c : Fin N) (x : Fin 128) (hk : n + c.val < 2048) :
    cut (s := S1x2048x128) X4 off ![1, N, 128] inb (ix3 0 c x) = X4 (ix3 0 ⟨n + c.val, hk⟩ x) := by
  subst hoff
  refine congrArg X4 (funext fun a => ?_)
  fin_cases a <;> apply Fin.ext <;> simp [ix3, Rect.emb, Rect.unit]

theorem cut_x7 {off : Fin 5 → ℕ} (s h : ℕ) (hoff : off = ![0, 0, s, h, 0]) (inb) (c : Fin 256) (hs : s < 8) (hh : h < 4) :
    cut (s := S1x1x8x4x256) X7 off ![1, 1, 1, 1, 256] inb (ix5 0 0 0 0 c) = X7 (ix5 0 0 ⟨s, hs⟩ ⟨h, hh⟩ c) := by
  subst hoff
  refine congrArg X7 (funext fun a => ?_)
  fin_cases a <;> apply Fin.ext <;> simp [ix5, Rect.emb, Rect.unit]

theorem qq_at (r : Fin 1024) (x : Fin 128) : qq Q (ix2 r x) = Q (ix2 r x) := by
  refine congrArg Q (funext fun a => ?_)
  fin_cases a <;> apply Fin.ext <;> simp [ix2, Rect.emb, Rect.unit]

theorem mm_at (M : Vec Ideal S1024x128 .f32) (r : Fin 1024) (x : Fin 128) : mm M (ix2 r x) = M (ix2 r x) := by
  refine congrArg M (funext fun a => ?_)
  fin_cases a <;> apply Fin.ext <;> simp [ix2, Rect.emb, Rect.unit]

theorem aa_at (M : Vec Ideal S1024x256 .f32) (r : Fin 1024) (x : Fin 256) : aa M (ix2 r x) = M (ix2 r x) := by
  refine congrArg M (funext fun a => ?_)
  fin_cases a <;> apply Fin.ext <;> simp [ix2, Rect.emb, Rect.unit]

theorem sc_form {N : ℕ} {off4 : Fin 3 → ℕ} {n : ℕ} (hoff4 : off4 = ![0, n, 0]) {inb4} {off7 : Fin 5 → ℕ} {s h : ℕ} (hoff7 : off7 = ![0, 0, s, h, 0]) {inb7}
    {r r' : Fin 1024} {c' : Fin N} {c c'' : Fin 256} {s' : Fin 8} (hr : r'.val = r.val) (hk : n + c'.val = 256 * s'.val + c.val) (hs : s = s'.val) (hh : h = (hd r).val) (hc : c''.val = c.val) :
    (∑ x : Fin 128, qq Q (ix2 r' x) * cut (s := S1x2048x128) X4 off4 ![1, N, 128] inb4 (ix3 0 c' x)) - cut (s := S1x1x8x4x256) X7 off7 ![1, 1, 1, 1, 256] inb7 (ix5 0 0 0 0 c'') * (Named.named κ "log2e" 0x3FB8AA3B#32 : Ideal .f32)
      = sc Q X4 X7 r s' c := by
  obtain rfl : r' = r := Fin.ext hr
  obtain rfl : c'' = c := Fin.ext hc
  subst hs hh
  rw [cut_x7 X7 _ _ hoff7 inb7 _ s'.isLt (hd r').isLt]
  refine congrArg (· - _) (Finset.sum_congr rfl fun x _ => ?_)
  rw [qq_at, cut_x4 X4 n hoff4 inb4 c' x (by omega)]
  simp only [hk]

/-- The causal mask inside the diagonal block: a choice by a comparison of two small words. -/
theorem select_sge {r c : ℕ} (hr : r < 256) (hc : c < 256) (a b : EReal) :
    Scalar.select (IntOp.cmpi .sge (BitVec.ofNat 32 r) (BitVec.ofNat 32 c)) a b = if c ≤ r then a else b := by
  have h : (IntOp.cmpi .sge (BitVec.ofNat 32 r) (BitVec.ofNat 32 c) = 1) ↔ c ≤ r := by
    have e : ∀ n : ℕ, n < 256 → (BitVec.ofNat 32 n).toInt = n := fun n hn => by
      rw [BitVec.toInt_eq_toNat_of_lt (by rw [BitVec.toNat_ofNat, Nat.mod_eq_of_lt] <;> omega), BitVec.toNat_ofNat, Nat.mod_eq_of_lt (by omega)]
    simp only [IntOp.cmpi, BitVec.sle, e r hr, e c hc]
    by_cases h : c ≤ r <;> simp [h]
  unfold Scalar.select
  exact if_congr h rfl rfl

theorem top_pos {p : Prop} {d : Decidable p} {t : p → EReal} {e : ¬p → EReal} {w : EReal} (h : p) (H : t h = w) : @dite _ p d t e = w := (dif_pos h).trans H
theorem top_neg {p : Prop} {d : Decidable p} {t : p → EReal} {e : ¬p → EReal} {w : EReal} (h : ¬p) (H : e h = w) : @dite _ p d t e = w := (dif_neg h).trans H
theorem sub_pos {p : Prop} {d : Decidable p} {t : p → EReal} {e : ¬p → EReal} {a l w : EReal} (h : p) (H : a - t h * l = w) : a - @dite _ p d t e * l = w := by rw [dif_pos h]; exact H
theorem sub_neg {p : Prop} {d : Decidable p} {t : p → EReal} {e : ¬p → EReal} {a l w : EReal} (h : ¬p) (H : a - e h * l = w) : a - @dite _ p d t e * l = w := by rw [dif_neg h]; exact H

theorem neg_bot : (Named.named κ "neg" 0xF149F2CA#32 : Ideal .f32) = (⊥ : EReal) := rfl
end

section Stages
variable (i : grid0.Coords) (Q : Vec Ideal S1024x128 .bf16) (X4 : Vec Ideal S1x2048x128 .bf16) (X7 : Vec Ideal S1x1x8x4x256 .f32)

/-- The diagonal block's score matrix. -/
def dMat : FVec Ideal S1024x256 .f32 := k0_pay88 k0_pay82 (d48 i Q X4) (d59 i Q X4 X7) (d67 i X7) (d68 i Q X4) (k0_pay87 (F := Ideal)) (cut X7 (k0_off4 i) S1x1x1x1x256.size (k0_off4_inb i)) (cut X7 (k0_off5 i) S1x1x1x1x256.size (k0_off5_inb i))
theorem dMat_at (r : Fin 1024) (c : Fin 256) :
    dMat i Q X4 X7 (ix2 r c) = if c.val ≤ r.val % 256 then sc Q X4 X7 r ⟨(i 2).val, lt8 i⟩ c else ⊥ := by
  pointwise [dMat, k0_pay88, k0_pay82, d59, d67, d68, k0_pay84, k0_pay85, k0_pay86, k0_pay87, d48, k0_pay83]
  by_cases g0 : r.val < 256
  · refine top_pos g0 ?_
    rw [select_sge (by omega) c.isLt]; refine if_congr (by omega) ?_ neg_bot; exact sc_form Q X4 X7 (off1_eq i) (off2_eq i) (by first | rfl | omega | (dsimp only; omega) | (simp; omega)) (by first | rfl | omega | (dsimp only; omega) | (simp; omega)) rfl (by unfold hd; split_ifs <;> first | rfl | omega) rfl
  refine top_neg g0 ?_
  by_cases g1 : r.val - 256 < 256
  · refine top_pos g1 ?_
    rw [select_sge (by omega) c.isLt]; refine if_congr (by omega) ?_ neg_bot; exact sc_form Q X4 X7 (off1_eq i) (off3_eq i) (by first | rfl | omega | (dsimp only; omega) | (simp; omega)) (by first | rfl | omega | (dsimp only; omega) | (simp; omega)) rfl (by unfold hd; split_ifs <;> first | rfl | omega) rfl
  refine top_neg g1 ?_
  by_cases g2 : r.val - 256 - 256 < 256
  · refine top_pos g2 ?_
    rw [select_sge (by omega) c.isLt]; refine if_congr (by omega) ?_ neg_bot; exact sc_form Q X4 X7 (off1_eq i) (off4_eq i) (by first | rfl | omega | (dsimp only; omega) | (simp; omega)) (by first | rfl | omega | (dsimp only; omega) | (simp; omega)) rfl (by unfold hd; split_ifs <;> first | rfl | omega) rfl
  refine top_neg g2 ?_
  rw [select_sge (by omega) c.isLt]; refine if_congr (by omega) ?_ neg_bot; exact sc_form Q X4 X7 (off1_eq i) (off5_eq i) (by first | rfl | omega | (dsimp only; omega) | (simp; omega)) (by first | rfl | omega | (dsimp only; omega) | (simp; omega)) rfl (by unfold hd; split_ifs <;> first | rfl | omega) rfl

variable (h1 : k0_cond1 i = 1#1) (h2 : k0_cond2 i = 1#1) (h3 : k0_cond3 i = 1#1)
/-- One earlier block's score matrix. -/
def aMat : FVec Ideal S1024x256 .f32 := k0_pay49 (k0_pay47 (qq Q) (cut X4 (k0_off19 i) S1x256x128.size (k0_off19_inb i h1))) (k0_pay48 (qq Q) (cut X4 (k0_off19 i) S1x256x128.size (k0_off19_inb i h1)) (cut X7 (k0_off20 i) S1x1x1x1x256.size (k0_off20_inb i h1))) (cut X7 (k0_off21 i) S1x1x1x1x256.size (k0_off21_inb i h1)) (cut X7 (k0_off22 i) S1x1x1x1x256.size (k0_off22_inb i h1)) (cut X7 (k0_off23 i) S1x1x1x1x256.size (k0_off23_inb i h1))
theorem aMat_at (r : Fin 1024) (x : Fin 256) (s : Fin 8) (c : Fin 256) (hs : s.val = 4 * ((i 2).val / 4) + x.val / 256) (hc : c.val = x.val % 256) :
    aMat i Q X4 X7 h1 (ix2 r x) = sc Q X4 X7 r s c := by
  pointwise [aMat, k0_pay49, k0_pay48, k0_pay47]
  by_cases g0 : r.val < 256
  · refine top_pos g0 ?_
    exact sc_form Q X4 X7 (off19_eq i) (off20_eq i) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine top_neg g0 ?_
  by_cases g1 : r.val - 256 < 256
  · refine top_pos g1 ?_
    exact sc_form Q X4 X7 (off19_eq i) (off21_eq i) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine top_neg g1 ?_
  by_cases g2 : r.val - 256 - 256 < 256
  · refine top_pos g2 ?_
    exact sc_form Q X4 X7 (off19_eq i) (off22_eq i) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine top_neg g2 ?_
  exact sc_form Q X4 X7 (off19_eq i) (off23_eq i) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))

/-- Two earlier blocks' score matrix. -/
def bMat : FVec Ideal S1024x512 .f32 := k0_pay94 (b318 i Q X4 h2) (b332 i Q X4 X7 h2) (b346 i Q X4 X7 h2) (b360 i Q X4 X7 h2) (cut X7 (k0_off29 i 0#32) S1x1x1x1x256.size (k0_off29_inb i h2 0)) (cut X7 (k0_off29 i 1#32) S1x1x1x1x256.size (k0_off29_inb i h2 1))
theorem bMat_at (r : Fin 1024) (x : Fin 512) (s : Fin 8) (c : Fin 256) (hs : s.val = 4 * ((i 2).val / 4) + x.val / 256) (hc : c.val = x.val % 256) :
    bMat i Q X4 X7 h2 (ix2 r x) = sc Q X4 X7 r s c := by
  pointwise [bMat, k0_pay94, b318, b332, b346, b360, k0_pay52, k0_pay53, k0_pay54, k0_pay55, k0_pay56, k0_pay57]
  by_cases g0 : r.val < 256
  · refine top_pos g0 ?_
    by_cases k0 : x.val < 256
    · refine sub_pos k0 ?_
      exact sc_form Q X4 X7 (off25_eq i) (show k0_off26 i 0#32 = ![0, 0, 4 * ((i 2).val / 4) + 0, 0, 0] from off26_eq i 0) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k0 ?_
    exact sc_form Q X4 X7 (off25_eq i) (show k0_off26 i 1#32 = ![0, 0, 4 * ((i 2).val / 4) + 1, 0, 0] from off26_eq i 1) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine top_neg g0 ?_
  by_cases g1 : r.val - 256 < 256
  · refine top_pos g1 ?_
    by_cases k0 : x.val < 256
    · refine sub_pos k0 ?_
      exact sc_form Q X4 X7 (off25_eq i) (show k0_off27 i 0#32 = ![0, 0, 4 * ((i 2).val / 4) + 0, 2, 0] from off27_eq i 0) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k0 ?_
    exact sc_form Q X4 X7 (off25_eq i) (show k0_off27 i 1#32 = ![0, 0, 4 * ((i 2).val / 4) + 1, 2, 0] from off27_eq i 1) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine top_neg g1 ?_
  by_cases g2 : r.val - 256 - 256 < 256
  · refine top_pos g2 ?_
    by_cases k0 : x.val < 256
    · refine sub_pos k0 ?_
      exact sc_form Q X4 X7 (off25_eq i) (show k0_off28 i 0#32 = ![0, 0, 4 * ((i 2).val / 4) + 0, 1, 0] from off28_eq i 0) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k0 ?_
    exact sc_form Q X4 X7 (off25_eq i) (show k0_off28 i 1#32 = ![0, 0, 4 * ((i 2).val / 4) + 1, 1, 0] from off28_eq i 1) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine top_neg g2 ?_
  by_cases k0 : x.val < 256
  · refine sub_pos k0 ?_
    exact sc_form Q X4 X7 (off25_eq i) (show k0_off29 i 0#32 = ![0, 0, 4 * ((i 2).val / 4) + 0, 3, 0] from off29_eq i 0) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine sub_neg k0 ?_
  exact sc_form Q X4 X7 (off25_eq i) (show k0_off29 i 1#32 = ![0, 0, 4 * ((i 2).val / 4) + 1, 3, 0] from off29_eq i 1) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))

theorem cMat_at (r : Fin 1024) (x : Fin 768) (s : Fin 8) (c : Fin 256) (hs : s.val = 4 * ((i 2).val / 4) + x.val / 256) (hc : c.val = x.val % 256) :
    c391 i Q X4 X7 h3 (ix2 r x) = sc Q X4 X7 r s c := by
  pointwise [c391, c318, c336, c354, k0_pay58, k0_pay59, k0_pay60, k0_pay61, k0_pay62, k0_pay63, k0_pay64]
  by_cases g0 : r.val < 256
  · refine top_pos g0 ?_
    by_cases k0 : x.val < 256
    · refine sub_pos k0 ?_
      exact sc_form Q X4 X7 (off31_eq i) (show k0_off32 i 0#32 = ![0, 0, 4 * ((i 2).val / 4) + 0, 0, 0] from off32_eq i 0) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k0 ?_
    by_cases k1 : x.val - 256 < 256
    · refine sub_pos k1 ?_
      exact sc_form Q X4 X7 (off31_eq i) (show k0_off32 i 1#32 = ![0, 0, 4 * ((i 2).val / 4) + 1, 0, 0] from off32_eq i 1) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k1 ?_
    exact sc_form Q X4 X7 (off31_eq i) (show k0_off32 i 2#32 = ![0, 0, 4 * ((i 2).val / 4) + 2, 0, 0] from off32_eq i 2) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine top_neg g0 ?_
  by_cases g1 : r.val - 256 < 256
  · refine top_pos g1 ?_
    by_cases k0 : x.val < 256
    · refine sub_pos k0 ?_
      exact sc_form Q X4 X7 (off31_eq i) (show k0_off33 i 0#32 = ![0, 0, 4 * ((i 2).val / 4) + 0, 2, 0] from off33_eq i 0) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k0 ?_
    by_cases k1 : x.val - 256 < 256
    · refine sub_pos k1 ?_
      exact sc_form Q X4 X7 (off31_eq i) (show k0_off33 i 1#32 = ![0, 0, 4 * ((i 2).val / 4) + 1, 2, 0] from off33_eq i 1) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k1 ?_
    exact sc_form Q X4 X7 (off31_eq i) (show k0_off33 i 2#32 = ![0, 0, 4 * ((i 2).val / 4) + 2, 2, 0] from off33_eq i 2) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine top_neg g1 ?_
  by_cases g2 : r.val - 256 - 256 < 256
  · refine top_pos g2 ?_
    by_cases k0 : x.val < 256
    · refine sub_pos k0 ?_
      exact sc_form Q X4 X7 (off31_eq i) (show k0_off34 i 0#32 = ![0, 0, 4 * ((i 2).val / 4) + 0, 1, 0] from off34_eq i 0) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k0 ?_
    by_cases k1 : x.val - 256 < 256
    · refine sub_pos k1 ?_
      exact sc_form Q X4 X7 (off31_eq i) (show k0_off34 i 1#32 = ![0, 0, 4 * ((i 2).val / 4) + 1, 1, 0] from off34_eq i 1) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k1 ?_
    exact sc_form Q X4 X7 (off31_eq i) (show k0_off34 i 2#32 = ![0, 0, 4 * ((i 2).val / 4) + 2, 1, 0] from off34_eq i 2) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine top_neg g2 ?_
  by_cases k0 : x.val < 256
  · refine sub_pos k0 ?_
    exact sc_form Q X4 X7 (off31_eq i) (show k0_off35 i 0#32 = ![0, 0, 4 * ((i 2).val / 4) + 0, 3, 0] from off35_eq i 0) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine sub_neg k0 ?_
  by_cases k1 : x.val - 256 < 256
  · refine sub_pos k1 ?_
    exact sc_form Q X4 X7 (off31_eq i) (show k0_off35 i 1#32 = ![0, 0, 4 * ((i 2).val / 4) + 1, 3, 0] from off35_eq i 1) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine sub_neg k1 ?_
  exact sc_form Q X4 X7 (off31_eq i) (show k0_off35 i 2#32 = ![0, 0, 4 * ((i 2).val / 4) + 2, 3, 0] from off35_eq i 2) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))

variable (k : Fin (k0_t1_loop i).trips)
/-- Four earlier blocks' score matrix. -/
def tMat : FVec Ideal S1024x1024 .f32 := k0_pay12 (t301 i Q X4 k) (t323 i Q X4 X7 k) (t345 i Q X4 X7 k) (t367 i Q X4 X7 k) (t371 i X7 k) (t375 i X7 k) (t379 i X7 k) (t382 i X7 k)
theorem tMat_at (r : Fin 1024) (x : Fin 1024) (s : Fin 8) (c : Fin 256) (hs : s.val = 4 * k.val + x.val / 256) (hc : c.val = x.val % 256) :
    tMat i Q X4 X7 k (ix2 r x) = sc Q X4 X7 r s c := by
  pointwise [tMat, k0_pay12, t301, t323, t345, t367, t371, t375, t379, t382, k0_pay3, k0_pay4, k0_pay5, k0_pay6, k0_pay7, k0_pay8, k0_pay9, k0_pay10, k0_pay11]
  by_cases g0 : r.val < 256
  · refine top_pos g0 ?_
    by_cases k0 : x.val < 256
    · refine sub_pos k0 ?_
      exact sc_form Q X4 X7 (off7_eq i k) (show k0_off8 i k 0#32 = ![0, 0, 4 * k.val + 0, 0, 0] from off8_eq i k 0) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k0 ?_
    by_cases k1 : x.val - 256 < 256
    · refine sub_pos k1 ?_
      exact sc_form Q X4 X7 (off7_eq i k) (show k0_off8 i k 1#32 = ![0, 0, 4 * k.val + 1, 0, 0] from off8_eq i k 1) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k1 ?_
    by_cases k2 : x.val - 256 - 256 < 256
    · refine sub_pos k2 ?_
      exact sc_form Q X4 X7 (off7_eq i k) (show k0_off8 i k 2#32 = ![0, 0, 4 * k.val + 2, 0, 0] from off8_eq i k 2) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k2 ?_
    exact sc_form Q X4 X7 (off7_eq i k) (show k0_off8 i k 3#32 = ![0, 0, 4 * k.val + 3, 0, 0] from off8_eq i k 3) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine top_neg g0 ?_
  by_cases g1 : r.val - 256 < 256
  · refine top_pos g1 ?_
    by_cases k0 : x.val < 256
    · refine sub_pos k0 ?_
      exact sc_form Q X4 X7 (off7_eq i k) (show k0_off9 i k 0#32 = ![0, 0, 4 * k.val + 0, 2, 0] from off9_eq i k 0) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k0 ?_
    by_cases k1 : x.val - 256 < 256
    · refine sub_pos k1 ?_
      exact sc_form Q X4 X7 (off7_eq i k) (show k0_off9 i k 1#32 = ![0, 0, 4 * k.val + 1, 2, 0] from off9_eq i k 1) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k1 ?_
    by_cases k2 : x.val - 256 - 256 < 256
    · refine sub_pos k2 ?_
      exact sc_form Q X4 X7 (off7_eq i k) (show k0_off9 i k 2#32 = ![0, 0, 4 * k.val + 2, 2, 0] from off9_eq i k 2) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k2 ?_
    exact sc_form Q X4 X7 (off7_eq i k) (show k0_off9 i k 3#32 = ![0, 0, 4 * k.val + 3, 2, 0] from off9_eq i k 3) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine top_neg g1 ?_
  by_cases g2 : r.val - 256 - 256 < 256
  · refine top_pos g2 ?_
    by_cases k0 : x.val < 256
    · refine sub_pos k0 ?_
      exact sc_form Q X4 X7 (off7_eq i k) (show k0_off10 i k 0#32 = ![0, 0, 4 * k.val + 0, 1, 0] from off10_eq i k 0) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k0 ?_
    by_cases k1 : x.val - 256 < 256
    · refine sub_pos k1 ?_
      exact sc_form Q X4 X7 (off7_eq i k) (show k0_off10 i k 1#32 = ![0, 0, 4 * k.val + 1, 1, 0] from off10_eq i k 1) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k1 ?_
    by_cases k2 : x.val - 256 - 256 < 256
    · refine sub_pos k2 ?_
      exact sc_form Q X4 X7 (off7_eq i k) (show k0_off10 i k 2#32 = ![0, 0, 4 * k.val + 2, 1, 0] from off10_eq i k 2) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
    refine sub_neg k2 ?_
    exact sc_form Q X4 X7 (off7_eq i k) (show k0_off10 i k 3#32 = ![0, 0, 4 * k.val + 3, 1, 0] from off10_eq i k 3) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine top_neg g2 ?_
  by_cases k0 : x.val < 256
  · refine sub_pos k0 ?_
    exact sc_form Q X4 X7 (off7_eq i k) (show k0_off11 i k 0#32 = ![0, 0, 4 * k.val + 0, 3, 0] from off11_eq i k 0) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine sub_neg k0 ?_
  by_cases k1 : x.val - 256 < 256
  · refine sub_pos k1 ?_
    exact sc_form Q X4 X7 (off7_eq i k) (show k0_off11 i k 1#32 = ![0, 0, 4 * k.val + 1, 3, 0] from off11_eq i k 1) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine sub_neg k1 ?_
  by_cases k2 : x.val - 256 - 256 < 256
  · refine sub_pos k2 ?_
    exact sc_form Q X4 X7 (off7_eq i k) (show k0_off11 i k 2#32 = ![0, 0, 4 * k.val + 2, 3, 0] from off11_eq i k 2) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
  refine sub_neg k2 ?_
  exact sc_form Q X4 X7 (off7_eq i k) (show k0_off11 i k 3#32 = ![0, 0, 4 * k.val + 3, 3, 0] from off11_eq i k 3) (by first | rfl | omega | (dsimp only; omega) | (simp; omega)) (by first | rfl | omega | (dsimp only; omega) | (simp; omega)) (by first | rfl | omega | (dsimp only; omega) | (simp; omega)) (by unfold hd; split_ifs <;> first | rfl | omega) (by first | rfl | omega | (dsimp only; omega) | (simp; omega))
end Stages

end Cert.KernelIdeal.Hand
end
-- ==== Proof.Acc.lean ====
module

public import proofs.«01_k».proof.Proof.Scores

@[expose] public section
set_option maxRecDepth 16384
noncomputable section
namespace Cert.KernelIdeal.Hand
open Cert.KernelIdeal Cert.KernelIdeal.Gen
open Idealize.ShloMosaic Idealize.ShloMosaic.TcCoe

section Sections
variable (i : grid0.Coords) (Q : Vec Ideal S1024x128 .bf16) (X4 : Vec Ideal S1x2048x128 .bf16) (X7 : Vec Ideal S1x1x8x4x256 .f32)

theorem secOf_at (r : Fin 1024) (s : Fin 8) (c : Fin 256) (hq : s.val ≤ (i 2).val) :
    secOf i Q X4 X7 s.val (ix3 0 r c) = if 256 * s.val + c.val ≤ 256 * (i 2).val + r.val % 256 then sc Q X4 X7 r s c else ⊥ := by
  have hs8 := s.isLt
  have hi8 := lt8 i
  have hD : s.val = (i 2).val → dS i Q X4 X7 (ix3 0 r c) = if 256 * s.val + c.val ≤ 256 * (i 2).val + r.val % 256 then sc Q X4 X7 r s c else ⊥ := fun e => by
    pointwise [dS, k0_pay89]
    refine (dMat_at i Q X4 X7 r c).trans (if_congr (by omega) ?_ rfl)
    rw [show (⟨(i 2).val, lt8 i⟩ : Fin 8) = s from Fin.ext e.symm]
  unfold secOf
  split
  · rename_i h
    rw [if_pos (by omega)]
    split
    · have hk : ∀ k : Fin (k0_t1_loop i).trips, k.val = 0 := fun k => by have := k.isLt; have e := trips1_eq i; omega
      dsimp only
      split
      · pointwise [tS0, k0_pay13]; exact tMat_at i Q X4 X7 _ r _ s c (by first | rfl | omega | (dsimp only; omega) | (simp; omega)) (by first | rfl | omega | (dsimp only; omega) | (simp; omega))
      split
      · pointwise [tS1, k0_pay14]; exact tMat_at i Q X4 X7 _ r _ s c (by first | rfl | omega | (dsimp only; omega) | (simp; omega)) (by first | rfl | omega | (dsimp only; omega) | (simp; omega))
      split
      · pointwise [tS2, k0_pay15]; exact tMat_at i Q X4 X7 _ r _ s c (by first | rfl | omega | (dsimp only; omega) | (simp; omega)) (by first | rfl | omega | (dsimp only; omega) | (simp; omega))
      · pointwise [tS3, k0_pay16]; exact tMat_at i Q X4 X7 _ r _ s c (by first | rfl | omega | (dsimp only; omega) | (simp; omega)) (by first | rfl | omega | (dsimp only; omega) | (simp; omega))
    split
    · rename_i hA
      pointwise [aS, k0_pay50]; exact aMat_at i Q X4 X7 (c1_of i hA) r _ s c (by first | rfl | omega | (dsimp only; omega) | (simp; omega)) (by first | rfl | omega | (dsimp only; omega) | (simp; omega))
    split
    · split
      · pointwise [bS0, k0_pay95]; exact bMat_at i Q X4 X7 _ r _ s c (by first | rfl | omega | (dsimp only; omega) | (simp; omega)) (by first | rfl | omega | (dsimp only; omega) | (simp; omega))
      · pointwise [bS1, k0_pay96]; exact bMat_at i Q X4 X7 _ r _ s c (by first | rfl | omega | (dsimp only; omega) | (simp; omega)) (by first | rfl | omega | (dsimp only; omega) | (simp; omega))
    split
    · split
      · pointwise [k0_pay98, c392, k0_pay65]; exact cMat_at i Q X4 X7 _ r _ s c (by first | rfl | omega | (dsimp only; omega) | (simp; omega)) (by first | rfl | omega | (dsimp only; omega) | (simp; omega))
      split
      · pointwise [k0_pay99]; exact cMat_at i Q X4 X7 _ r _ s c (by first | rfl | omega | (dsimp only; omega) | (simp; omega)) (by first | rfl | omega | (dsimp only; omega) | (simp; omega))
      · pointwise [k0_pay100]; exact cMat_at i Q X4 X7 _ r _ s c (by first | rfl | omega | (dsimp only; omega) | (simp; omega)) (by first | rfl | omega | (dsimp only; omega) | (simp; omega))
    · omega
  · exact hD (by omega)

/-! ## The running maxima stay finite -/
/-- Row `r` of the maxima has no `⊤` and some entry above `⊥`. -/
def Good (M : Vec Ideal S1024x128 .f32) (r : Fin 1024) : Prop := (∀ l, M (ix2 r l) ≠ (⊤ : EReal)) ∧ ∃ l, M (ix2 r l) ≠ (⊥ : EReal)

theorem max_ne_top {a b : EReal} (ha : a ≠ ⊤) (hb : b ≠ ⊤) : max a b ≠ ⊤ := by
  rcases max_choice a b with h | h <;> rw [h] <;> assumption
theorem max_ne_bot {a b : EReal} (ha : a ≠ ⊥) : max a b ≠ ⊥ := fun h => ha (by rw [eq_bot_iff, ← h]; exact le_max_left a b)

variable (hfin : ∀ (r : Fin 1024) (s : Fin 8) (c : Fin 256), ∃ z : ℝ, sc Q X4 X7 r s c = (z : EReal))
include hfin

theorem sc_ne_top (r s c) : sc Q X4 X7 r s c ≠ ⊤ := by obtain ⟨z, h⟩ := hfin r s c; rw [h]; exact EReal.coe_ne_top z
theorem sc_ne_bot (r s c) : sc Q X4 X7 r s c ≠ ⊥ := by obtain ⟨z, h⟩ := hfin r s c; rw [h]; exact EReal.coe_ne_bot z

theorem dMat_ne (r c) : dMat i Q X4 X7 (ix2 r c) ≠ (⊤ : EReal) := by
  rw [dMat_at]; split
  · exact sc_ne_top Q X4 X7 hfin _ _ _
  · exact bot_ne_top

theorem good_d (r) : Good (dM i Q X4 X7) r := by
  refine ⟨fun l => ?_, 0, ?_⟩
  · pointwise [dM, k0_pay90]
    exact max_ne_top (dMat_ne i Q X4 X7 hfin r _) (dMat_ne i Q X4 X7 hfin r _)
  · pointwise [dM, k0_pay90]
    refine max_ne_bot ?_
    rw [show ∀ x, (k0_pay88 k0_pay82 (d48 i Q X4) (d59 i Q X4 X7) (d67 i X7) (d68 i Q X4) (k0_pay87 (F := Ideal)) (cut X7 (k0_off4 i) S1x1x1x1x256.size (k0_off4_inb i)) (cut X7 (k0_off5 i) S1x1x1x1x256.size (k0_off5_inb i)) : FVec Ideal S1024x256 .f32) (ix2 r x) = _ from fun x => dMat_at i Q X4 X7 r x]
    rw [if_pos (by simp)]
    exact sc_ne_bot Q X4 X7 hfin _ _ _

theorem tMat_ne (k r x) : tMat i Q X4 X7 k (ix2 r x) ≠ (⊤ : EReal) := by
  have hk : k.val = 0 := by have := k.isLt; have e := trips1_eq i; have := lt8 i; omega
  rw [tMat_at i Q X4 X7 k r x ⟨4 * k.val + x.val / 256, by omega⟩ ⟨x.val % 256, by omega⟩ rfl rfl]; exact sc_ne_top Q X4 X7 hfin _ _ _
theorem aMat_ne (h1 r x) : aMat i Q X4 X7 h1 (ix2 r x) ≠ (⊤ : EReal) := by
  have := lt8 i
  rw [aMat_at i Q X4 X7 h1 r x ⟨4 * ((i 2).val / 4) + x.val / 256, by omega⟩ ⟨x.val % 256, by omega⟩ rfl rfl]; exact sc_ne_top Q X4 X7 hfin _ _ _
theorem bMat_ne (h1 r x) : bMat i Q X4 X7 h1 (ix2 r x) ≠ (⊤ : EReal) := by
  have := lt8 i
  rw [bMat_at i Q X4 X7 h1 r x ⟨4 * ((i 2).val / 4) + x.val / 256, by omega⟩ ⟨x.val % 256, by omega⟩ rfl rfl]; exact sc_ne_top Q X4 X7 hfin _ _ _
theorem cMat_ne (h1 r x) : c391 i Q X4 X7 h1 (ix2 r x) ≠ (⊤ : EReal) := by
  have := lt8 i
  rw [cMat_at i Q X4 X7 h1 r x ⟨4 * ((i 2).val / 4) + x.val / 256, by omega⟩ ⟨x.val % 256, by omega⟩ rfl rfl]; exact sc_ne_top Q X4 X7 hfin _ _ _

theorem good_T (k) (M : Vec Ideal S1024x128 .f32) (r) (h : Good M r) : Good (maxT i Q X4 X7 k M) r := by
  have t := tMat_ne i Q X4 X7 hfin k r
  refine ⟨fun l => ?_, h.2.choose, ?_⟩
  · pointwise [maxT, k0_pay91, k0_pay17, k0_pay18, k0_pay19, k0_pay20, k0_pay21, k0_pay22, k0_pay23, k0_pay24]
    exact max_ne_top (max_ne_top (max_ne_top (max_ne_top (max_ne_top (max_ne_top (max_ne_top (max_ne_top (by rw [mm_at]; exact h.1 l) (t _)) (t _)) (t _)) (t _)) (t _)) (t _)) (t _)) (t _)
  · pointwise [maxT, k0_pay91, k0_pay17, k0_pay18, k0_pay19, k0_pay20, k0_pay21, k0_pay22, k0_pay23, k0_pay24]
    exact max_ne_bot (max_ne_bot (max_ne_bot (max_ne_bot (max_ne_bot (max_ne_bot (max_ne_bot (max_ne_bot (by rw [mm_at]; exact h.2.choose_spec))))))))

theorem good_A (h1) (M : Vec Ideal S1024x128 .f32) (r) (h : Good M r) : Good (maxA i Q X4 X7 h1 M) r := by
  have t := aMat_ne i Q X4 X7 hfin h1 r
  refine ⟨fun l => ?_, h.2.choose, ?_⟩
  · pointwise [maxA, k0_pay93, k0_pay51]
    exact max_ne_top (max_ne_top (by rw [mm_at]; exact h.1 l) (t _)) (t _)
  · pointwise [maxA, k0_pay93, k0_pay51]
    exact max_ne_bot (max_ne_bot (by rw [mm_at]; exact h.2.choose_spec))

theorem good_B (h1) (M : Vec Ideal S1024x128 .f32) (r) (h : Good M r) : Good (maxB i Q X4 X7 h1 M) r := by
  have t := bMat_ne i Q X4 X7 hfin h1 r
  refine ⟨fun l => ?_, h.2.choose, ?_⟩
  · pointwise [maxB, k0_pay97]
    exact max_ne_top (max_ne_top (max_ne_top (max_ne_top (by rw [mm_at]; exact h.1 l) (t _)) (t _)) (t _)) (t _)
  · pointwise [maxB, k0_pay97]
    exact max_ne_bot (max_ne_bot (max_ne_bot (max_ne_bot (by rw [mm_at]; exact h.2.choose_spec))))

theorem good_C (h1) (M : Vec Ideal S1024x128 .f32) (r) (h : Good M r) : Good (maxC i Q X4 X7 h1 M) r := by
  have t := cMat_ne i Q X4 X7 hfin h1 r
  refine ⟨fun l => ?_, h.2.choose, ?_⟩
  · pointwise [maxC, k0_pay101]
    exact max_ne_top (max_ne_top (max_ne_top (max_ne_top (max_ne_top (max_ne_top (by rw [mm_at]; exact h.1 l) (t _)) (t _)) (t _)) (t _)) (t _)) (t _)
  · pointwise [maxC, k0_pay101]
    exact max_ne_bot (max_ne_bot (max_ne_bot (max_ne_bot (max_ne_bot (max_ne_bot (by rw [mm_at]; exact h.2.choose_spec))))))

theorem good_all (r) : Good (max4 i Q X4 X7 (max3 i Q X4 X7 (max2 i Q X4 X7 (max1 i Q X4 X7 (dM i Q X4 X7))))) r := by
  have hd := good_d i Q X4 X7 hfin r
  have h1 : Good (max1 i Q X4 X7 (dM i Q X4 X7)) r := by unfold max1; split <;> [exact good_T i Q X4 X7 hfin _ _ r hd; exact hd]
  have h2 : Good (max2 i Q X4 X7 (max1 i Q X4 X7 (dM i Q X4 X7))) r := by unfold max2; split <;> [exact good_A i Q X4 X7 hfin _ _ r h1; exact h1]
  have h3 : Good (max3 i Q X4 X7 (max2 i Q X4 X7 (max1 i Q X4 X7 (dM i Q X4 X7)))) r := by unfold max3; split <;> [exact good_B i Q X4 X7 hfin _ _ r h2; exact h2]
  unfold max4; split <;> [exact good_C i Q X4 X7 hfin _ _ r h3; exact h3]
end Sections

/-! ## The bound the exponentials subtract -/
theorem real_dite {p : Prop} {d : Decidable p} {t : p → EReal} {e : ¬p → EReal} (ht : ∀ h, ∃ z : ℝ, t h = (z : EReal)) (he : ∀ h, ∃ z : ℝ, e h = (z : EReal)) :
    ∃ z : ℝ, @dite _ p d t e = (z : EReal) := by
  by_cases h : p
  · rw [dif_pos h]; exact ht h
  · rw [dif_neg h]; exact he h

theorem L2E_eq : (Named.named κ "log2e" 0x3FB8AA3B#32 : Ideal .f32) = (((Real.log 2)⁻¹ : ℝ) : EReal) := rfl

theorem real_shift {m a l : EReal} (hm : ∃ z : ℝ, m = (z : EReal)) (ha : ∃ z : ℝ, a = (z : EReal)) (hl : ∃ z : ℝ, l = (z : EReal)) : ∃ z : ℝ, m + a * l - a * l = (z : EReal) := by
  obtain ⟨x, rfl⟩ := hm; obtain ⟨y, rfl⟩ := ha; obtain ⟨z, rfl⟩ := hl
  exact ⟨x + y * z - y * z, by push_cast; rfl⟩

theorem fold_real (M : Vec Ideal S1024x128 .f32) (r : Fin 1024) (hM : Good M r) :
    ∃ z : ℝ, Finset.fold max (Ideal.ofBits FTy.f32 4286578688#32) (fun x : Fin 128 => mm M (ix2 r x)) Finset.univ = (z : EReal) := by
  have hb : Ideal.ofBits FTy.f32 4286578688#32 = (⊥ : EReal) := by simp [Ideal.ofBits, Ideal.ieee]
  have hm : (fun x : Fin 128 => (mm M (ix2 r x) : EReal)) = fun x => M (ix2 r x) := funext fun x => mm_at M r x
  rw [hb]
  have h1 : Finset.fold max (⊥ : EReal) (fun x : Fin 128 => (mm M (ix2 r x) : EReal)) Finset.univ ≠ ⊤ := by
    rw [hm]; exact ne_of_lt ((Finset.fold_max_lt _).2 ⟨bot_lt_top, fun x _ => lt_top_iff_ne_top.2 (hM.1 x)⟩)
  have h2 : Finset.fold max (⊥ : EReal) (fun x : Fin 128 => (mm M (ix2 r x) : EReal)) Finset.univ ≠ ⊥ := by
    rw [hm]; obtain ⟨l, hl⟩ := hM.2
    exact ne_of_gt ((Finset.lt_fold_max _).2 (Or.inr ⟨l, Finset.mem_univ l, bot_lt_iff_ne_bot.2 hl⟩))
  exact ⟨_, (EReal.coe_toReal h1 h2).symm⟩

theorem mb_at (X6 : Vec Ideal S1x1x256x4 .f32) (M : Vec Ideal S1024x128 .f32) (r : Fin 1024) (hM : Good M r) (hX : ∀ j, ∃ z : ℝ, X6 j = (z : EReal)) :
    ∃ z : ℝ, ∀ l, mbOf X6 M (ix2 r l) = (z : EReal) := by
  have hl : ∀ l, mbOf X6 M (ix2 r l) = mbOf X6 M (ix2 r 0) := fun l => by
    pointwise [mbOf, k0_pay104, k0_pay103, k0_pay102]
  have h0 : ∃ z : ℝ, mbOf X6 M (ix2 r 0) = (z : EReal) := by
    pointwise [mbOf, k0_pay104, k0_pay103, k0_pay102]
    exact real_shift (fold_real M r hM) (real_dite (fun _ => hX _) (fun _ => real_dite (fun _ => hX _) (fun _ => real_dite (fun _ => hX _) (fun _ => hX _)))) ⟨_, L2E_eq⟩
  exact h0.imp fun z hz l => (hl l).trans hz

/-! ## The sums of weights times values -/
section Acc
variable (i : grid0.Coords) (X5 : Vec Ideal S1x2048x128 .bf16) (B : Vec Ideal S1024x128 .f32) (S : Vec Ideal S8x1024x256 .f32) (A : Vec Ideal S1024x256 .f32)

/-- What key `key` adds to entry `(r, l)` of the sums: its weight times its value, or its weight alone in the upper half of the lanes. -/
def tk (μ : EReal) (r : Fin 1024) (l : Fin 256) (key : ℕ) : EReal :=
  if h : key < 2048 then FloatOps.exp2 (F := Ideal) (φ := .f32) (S (ix3 ⟨key / 256, by omega⟩ r ⟨key % 256, by omega⟩) - μ) * (if hl : l.val < 128 then X5 (ix3 0 ⟨key, h⟩ ⟨l.val, hl⟩) else 1) else 0

theorem mul_pos' {p : Prop} {d : Decidable p} {t : p → EReal} {e : ¬p → EReal} {b w : EReal} (h : p) (H : t h * b = w) : @dite _ p d t e * b = w := by rw [dif_pos h]; exact H
theorem mul_neg' {p : Prop} {d : Decidable p} {t : p → EReal} {e : ¬p → EReal} {b w : EReal} (h : ¬p) (H : e h * b = w) : @dite _ p d t e * b = w := by rw [dif_neg h]; exact H

theorem cut_s {off : Fin 3 → ℕ} (n : ℕ) (hoff : off = ![n, 0, 0]) (inb) (r : Fin 1024) (c : Fin 256) (hn : n < 8) :
    cut (s := S8x1024x256) S off ![1, 1024, 256] inb (ix3 0 r c) = S (ix3 ⟨n, hn⟩ r c) := by
  subst hoff
  refine congrArg S (funext fun a => ?_)
  fin_cases a <;> apply Fin.ext <;> simp [ix3, Rect.emb, Rect.unit]

variable {B} {μ : EReal} {r : Fin 1024} (hB : ∀ x, B (ix2 r x) = μ)
include hB

theorem tk_form {N : ℕ} {l : Fin 256} {off : Fin 3 → ℕ} {n : ℕ} (hoff : off = ![n, 0, 0]) {inb} {off5 : Fin 3 → ℕ} {n5 : ℕ} (hoff5 : off5 = ![0, n5, 0]) {inb5}
    {c : Fin 256} {x : Fin 128} {c5 : Fin N} {d : Decidable (l.val < 128)} {key : ℕ} (hk : key < 2048) (hn : n = key / 256) (hc : c.val = key % 256) (h5 : n5 + c5.val = key) :
    FloatOps.exp2 (F := Ideal) (φ := .f32) (cut (s := S8x1024x256) S off ![1, 1024, 256] inb (ix3 0 r c) - mm B (ix2 r x)) *
        (@dite _ (l.val < 128) d (fun h => cut (s := S1x2048x128) X5 off5 ![1, N, 128] inb5 (ix3 0 c5 ⟨l.val, h⟩)) (fun _ => (1 : EReal))) = tk X5 S μ r l key := by
  subst hn h5
  obtain ⟨cv, hcv⟩ := c
  dsimp only at hc
  subst hc
  rw [tk, dif_pos hk, cut_s S _ hoff inb r ⟨_, hcv⟩ (by omega), mm_at, hB x]
  by_cases hl : l.val < 128
  · rw [dif_pos hl, dif_pos hl, cut_x4 X5 n5 hoff5 inb5 c5 _ hk]
  · rw [dif_neg hl, dif_neg hl]
omit hB in
theorem sum_ico (N n : ℕ) (f : Fin N → EReal) (g : ℕ → EReal) (h : ∀ x, f x = g (n + x.val)) : ∑ x, f x = ∑ key ∈ Finset.Ico n (n + N), g key := by
  rw [Finset.sum_Ico_eq_sum_range, Nat.add_sub_cancel_left, ← Fin.sum_univ_eq_sum_range (fun t => g (n + t))]
  exact Finset.sum_congr rfl fun x _ => h x
omit hB in
theorem sum_two (n : ℕ) (f f' : Fin 128 → EReal) (g : ℕ → EReal) (h : ∀ x, f x = g (n + x.val)) (h' : ∀ x, f' x = g (n + 128 + x.val)) : (∑ x, f x) + ∑ x, f' x = ∑ key ∈ Finset.Ico n (n + 256), g key := by
  rw [sum_ico 128 n f g h, sum_ico 128 (n + 128) f' g h', Finset.sum_Ico_consecutive _ (by omega) (by omega)]

theorem accD_at (l : Fin 256) : accD i X5 B S (ix2 r l) = ∑ key ∈ Finset.Ico (256 * (i 2).val) (256 * (i 2).val + 256), tk X5 S μ r l key := by
  have := lt8 i
  pointwise [accD, k0_pay105, k0_pay106]
  refine sum_two _ _ _ _ (fun x => ?_) (fun x => ?_)
  · exact tk_form X5 S hB (off6_eq' i) (off1_eq i) (by omega) (by omega) (by simp; omega) (by simp)
  · exact tk_form X5 S hB (off6_eq' i) (off1_eq i) (by omega) (by omega) (by simp; omega) (by simp; omega)

theorem accA_at (h) (l : Fin 256) : accA i X5 B S h A (ix2 r l) = A (ix2 r l) + ∑ key ∈ Finset.Ico (1024 * ((i 2).val / 4)) (1024 * ((i 2).val / 4) + 256), tk X5 S μ r l key := by
  have := lt8 i
  pointwise [accA, k0_pay109, k0_pay68]
  rw [aa_at]
  refine congrArg (_ + ·) (sum_two _ _ _ _ (fun x => ?_) (fun x => ?_))
  · exact tk_form X5 S hB (off41_eq i) (off42_eq i) (by omega) (by omega) (by simp; omega) (by simp)
  · exact tk_form X5 S hB (off41_eq i) (off42_eq i) (by omega) (by omega) (by simp; omega) (by simp; omega)

theorem accB_at (h) (l : Fin 256) : accB i X5 B S h A (ix2 r l) = A (ix2 r l) + ∑ key ∈ Finset.Ico (1024 * ((i 2).val / 4)) (1024 * ((i 2).val / 4) + 512), tk X5 S μ r l key := by
  have := lt8 i
  pointwise [accB, k0_pay110, k0_pay69]
  rw [aa_at]
  refine congrArg (_ + ·) (sum_ico 512 _ _ _ (fun x => ?_))
  by_cases k0 : x.val < 128
  · refine mul_pos' k0 ?_
    exact tk_form X5 S hB (show k0_off43 i 0#32 = ![4 * ((i 2).val / 4) + 0, 0, 0] from off43_eq i 0) (off44_eq i) (by omega) (by first | rfl | omega | (dsimp only; omega) | (simp; omega)) (by first | rfl | omega | (dsimp only; omega) | (simp; omega)) (by first | rfl | omega | (dsimp only; omega) | (simp; omega))
  refine mul_neg' k0 ?_
  by_cases k1 : x.val - 128 < 128
  · refine mul_pos' k1 ?_
    exact tk_form X5 S hB (show k0_off43 i 0#32 = ![4 * ((i 2).val / 4) + 0, 0, 0] from off43_eq i 0) (off44_eq i) (by omega) (by first | rfl | omega | (dsimp only; omega) | (simp; omega)) (by first | rfl | omega | (dsimp only; omega) | (simp; omega)) (by first | rfl | omega | (dsimp only; omega) | (simp; omega))
  refine mul_neg' k1 ?_
  by_cases k2 : x.val - 128 - 128 < 128
  · refine mul_pos' k2 ?_
    exact tk_form X5 S hB (show k0_off43 i 1#32 = ![4 * ((i 2).val / 4) + 1, 0, 0] from off43_eq i 1) (off44_eq i) (by omega) (by first | rfl | omega | (dsimp only; omega) | (simp; omega)) (by first | rfl | omega | (dsimp only; omega) | (simp; omega)) (by first | rfl | omega | (dsimp only; omega) | (simp; omega))
  refine mul_neg' k2 ?_
  exact tk_form X5 S hB (show k0_off43 i 1#32 = ![4 * ((i 2).val / 4) + 1, 0, 0] from off43_eq i 1) (off44_eq i) (by omega) (by first | rfl | omega | (dsimp only; omega) | (simp; omega)) (by first | rfl | omega | (dsimp only; omega) | (simp; omega)) (by first | rfl | omega | (dsimp only; omega) | (simp; omega))

theorem accC_at (h) (l : Fin 256) : accC i X5 B S h A (ix2 r l) = A (ix2 r l) + ∑ key ∈ Finset.Ico (1024 * ((i 2).val / 4)) (1024 * ((i 2).val / 4) + 768), tk X5 S μ r l key := by
  have := lt8 i
  pointwise [accC, k0_pay111, k0_pay70, k0_pay71, k0_pay72, k0_pay73, k0_pay74, k0_pay75]
  rw [aa_at]
  refine congrArg (_ + ·) (sum_ico 768 _ _ _ (fun x => ?_))
  by_cases k0 : x.val < 128
  · refine mul_pos' k0 ?_
    exact tk_form X5 S hB (show k0_off45 i 0#32 = ![4 * ((i 2).val / 4) + 0, 0, 0] from off45_eq i 0) (off46_eq i) (by omega) (by first | rfl | omega | (dsimp only; omega) | (simp; omega)) (by first | rfl | omega | (dsimp only; omega) | (simp; omega)) (by first | rfl | omega | (dsimp only; omega) | (simp; omega))
  refine mul_neg' k0 ?_
  by_cases k1 : x.val - 128 < 128
  · refine mul_pos' k1 ?_
    exact tk_form X5 S hB (show k0_off45 i 0#32 = ![4 * ((i 2).val / 4) + 0, 0, 0] from off45_eq i 0) (off46_eq i) (by omega) (by first | rfl | omega | (dsimp only; omega) | (simp; omega)) (by first | rfl | omega | (dsimp only; omega) | (simp; omega)) (by first | rfl | omega | (dsimp only; omega) | (simp; omega))
  refine mul_neg' k1 ?_
  by_cases k2 : x.val - 128 - 128 < 128
  · refine mul_pos' k2 ?_
    exact tk_form X5 S hB (show k0_off45 i 1#32 = ![4 * ((i 2).val / 4) + 1, 0, 0] from off45_eq i 1) (off46_eq i) (by omega) (by first | rfl | omega | (dsimp only; omega) | (simp; omega)) (by first | rfl | omega | (dsimp only; omega) | (simp; omega)) (by first | rfl | omega | (dsimp only; omega) | (simp; omega))
  refine mul_neg' k2 ?_
  by_cases k3 : x.val - 128 - 128 - 128 < 128
  · refine mul_pos' k3 ?_
    exact tk_form X5 S hB (show k0_off45 i 1#32 = ![4 * ((i 2).val / 4) + 1, 0, 0] from off45_eq i 1) (off46_eq i) (by omega) (by first | rfl | omega | (dsimp only; omega) | (simp; omega)) (by first | rfl | omega | (dsimp only; omega) | (simp; omega)) (by first | rfl | omega | (dsimp only; omega) | (simp; omega))
  refine mul_neg' k3 ?_
  by_cases k4 : x.val - 128 - 128 - 128 - 128 < 128
  · refine mul_pos' k4 ?_
    exact tk_form X5 S hB (show k0_off45 i 2#32 = ![4 * ((i 2).val / 4) + 2, 0, 0] from off45_eq i 2) (off46_eq i) (by omega) (by first | rfl | omega | (dsimp only; omega) | (simp; omega)) (by first | rfl | omega | (dsimp only; omega) | (simp; omega)) (by first | rfl | omega | (dsimp only; omega) | (simp; omega))
  refine mul_neg' k4 ?_
  exact tk_form X5 S hB (show k0_off45 i 2#32 = ![4 * ((i 2).val / 4) + 2, 0, 0] from off45_eq i 2) (off46_eq i) (by omega) (by first | rfl | omega | (dsimp only; omega) | (simp; omega)) (by first | rfl | omega | (dsimp only; omega) | (simp; omega)) (by first | rfl | omega | (dsimp only; omega) | (simp; omega))

theorem accT_at (k) (l : Fin 256) : accT i X5 B S k A (ix2 r l) = A (ix2 r l) + ∑ key ∈ Finset.Ico (1024 * k.val) (1024 * k.val + 1024), tk X5 S μ r l key := by
  have hk : k.val = 0 := by have := k.isLt; have e := trips3_eq i; have := lt8 i; omega
  pointwise [accT, k0_pay107, k0_pay66]
  rw [aa_at]
  refine congrArg (_ + ·) (sum_ico 1024 _ _ _ (fun x => ?_))
  by_cases k0 : x.val < 128
  · refine mul_pos' k0 ?_
    exact tk_form X5 S hB (show k0_off37 i k 0#32 = ![4 * k.val + 0, 0, 0] from off37_eq i k 0) (off38_eq i k) (by omega) (by first | rfl | omega | (dsimp only; omega) | (simp; omega)) (by first | rfl | omega | (dsimp only; omega) | (simp; omega)) (by first | rfl | omega | (dsimp only; omega) | (simp; omega))
  refine mul_neg' k0 ?_
  by_cases k1 : x.val - 128 < 128
  · refine mul_pos' k1 ?_
    exact tk_form X5 S hB (show k0_off37 i k 0#32 = ![4 * k.val + 0, 0, 0] from off37_eq i k 0) (off38_eq i k) (by omega) (by first | rfl | omega | (dsimp only; omega) | (simp; omega)) (by first | rfl | omega | (dsimp only; omega) | (simp; omega)) (by first | rfl | omega | (dsimp only; omega) | (simp; omega))
  refine mul_neg' k1 ?_
  by_cases k2 : x.val - 128 - 128 < 128
  · refine mul_pos' k2 ?_
    exact tk_form X5 S hB (show k0_off37 i k 1#32 = ![4 * k.val + 1, 0, 0] from off37_eq i k 1) (off38_eq i k) (by omega) (by first | rfl | omega | (dsimp only; omega) | (simp; omega)) (by first | rfl | omega | (dsimp only; omega) | (simp; omega)) (by first | rfl | omega | (dsimp only; omega) | (simp; omega))
  refine mul_neg' k2 ?_
  by_cases k3 : x.val - 128 - 128 - 128 < 128
  · refine mul_pos' k3 ?_
    exact tk_form X5 S hB (show k0_off37 i k 1#32 = ![4 * k.val + 1, 0, 0] from off37_eq i k 1) (off38_eq i k) (by omega) (by first | rfl | omega | (dsimp only; omega) | (simp; omega)) (by first | rfl | omega | (dsimp only; omega) | (simp; omega)) (by first | rfl | omega | (dsimp only; omega) | (simp; omega))
  refine mul_neg' k3 ?_
  by_cases k4 : x.val - 128 - 128 - 128 - 128 < 128
  · refine mul_pos' k4 ?_
    exact tk_form X5 S hB (show k0_off37 i k 2#32 = ![4 * k.val + 2, 0, 0] from off37_eq i k 2) (off38_eq i k) (by omega) (by first | rfl | omega | (dsimp only; omega) | (simp; omega)) (by first | rfl | omega | (dsimp only; omega) | (simp; omega)) (by first | rfl | omega | (dsimp only; omega) | (simp; omega))
  refine mul_neg' k4 ?_
  by_cases k5 : x.val - 128 - 128 - 128 - 128 - 128 < 128
  · refine mul_pos' k5 ?_
    exact tk_form X5 S hB (show k0_off37 i k 2#32 = ![4 * k.val + 2, 0, 0] from off37_eq i k 2) (off38_eq i k) (by omega) (by first | rfl | omega | (dsimp only; omega) | (simp; omega)) (by first | rfl | omega | (dsimp only; omega) | (simp; omega)) (by first | rfl | omega | (dsimp only; omega) | (simp; omega))
  refine mul_neg' k5 ?_
  by_cases k6 : x.val - 128 - 128 - 128 - 128 - 128 - 128 < 128
  · refine mul_pos' k6 ?_
    exact tk_form X5 S hB (show k0_off37 i k 3#32 = ![4 * k.val + 3, 0, 0] from off37_eq i k 3) (off38_eq i k) (by omega) (by first | rfl | omega | (dsimp only; omega) | (simp; omega)) (by first | rfl | omega | (dsimp only; omega) | (simp; omega)) (by first | rfl | omega | (dsimp only; omega) | (simp; omega))
  refine mul_neg' k6 ?_
  exact tk_form X5 S hB (show k0_off37 i k 3#32 = ![4 * k.val + 3, 0, 0] from off37_eq i k 3) (off38_eq i k) (by omega) (by first | rfl | omega | (dsimp only; omega) | (simp; omega)) (by first | rfl | omega | (dsimp only; omega) | (simp; omega)) (by first | rfl | omega | (dsimp only; omega) | (simp; omega))

/-- The sums at the body's end run over the keys of every block up to the diagonal one. -/
theorem acc_at (l : Fin 256) : acc4 i X5 B S (acc3 i X5 B S (acc2 i X5 B S (acc1 i X5 B S (accD i X5 B S)))) (ix2 r l) = ∑ key ∈ Finset.range (256 * (i 2).val + 256), tk X5 S μ r l key := by
  have h8 := lt8 i
  have e1 : acc1 i X5 B S (accD i X5 B S) (ix2 r l) = (∑ key ∈ Finset.Ico (256 * (i 2).val) (256 * (i 2).val + 256), tk X5 S μ r l key) + ∑ key ∈ Finset.Ico 0 (1024 * ((i 2).val / 4)), tk X5 S μ r l key := by
    have e := trips3_eq i
    unfold acc1; split
    · rw [accT_at i X5 S _ hB, accD_at i X5 S hB]
      rw [show (i 2).val / 4 = 1 by omega]; rfl
    · rw [accD_at i X5 S hB, show (i 2).val / 4 = 0 by omega]; simp
  have e2 : ∀ A' : Vec Ideal S1024x256 .f32, acc4 i X5 B S (acc3 i X5 B S (acc2 i X5 B S A')) (ix2 r l) = A' (ix2 r l) + ∑ key ∈ Finset.Ico (1024 * ((i 2).val / 4)) (256 * (i 2).val), tk X5 S μ r l key := fun A' => by
    unfold acc4 acc3 acc2
    have c4 := cond4_iff i; have c5 := cond5_iff i; have c6 := cond6_iff i
    rcases (show (i 2).val % 4 = 0 ∨ (i 2).val % 4 = 1 ∨ (i 2).val % 4 = 2 ∨ (i 2).val % 4 = 3 by omega) with h | h | h | h
    · rw [dif_neg (fun hc => by have := c6.1 hc; omega), dif_neg (fun hc => by have := c5.1 hc; omega), dif_neg (fun hc => by have := c4.1 hc; omega), show 1024 * ((i 2).val / 4) = 256 * (i 2).val by omega]; simp
    · rw [dif_neg (fun hc => by have := c6.1 hc; omega), dif_neg (fun hc => by have := c5.1 hc; omega), dif_pos (c4.2 h), accA_at i X5 S _ hB, show 1024 * ((i 2).val / 4) + 256 = 256 * (i 2).val by omega]
    · rw [dif_neg (fun hc => by have := c6.1 hc; omega), dif_pos (c5.2 h), dif_neg (fun hc => by have := c4.1 hc; omega), accB_at i X5 S _ hB, show 1024 * ((i 2).val / 4) + 512 = 256 * (i 2).val by omega]
    · rw [dif_pos (c6.2 h), dif_neg (fun hc => by have := c5.1 hc; omega), dif_neg (fun hc => by have := c4.1 hc; omega), accC_at i X5 S _ hB, show 1024 * ((i 2).val / 4) + 768 = 256 * (i 2).val by omega]
  rw [e2, e1, add_assoc, Finset.sum_Ico_consecutive _ (by omega) (by omega), add_comm, Finset.sum_Ico_consecutive _ (by omega) (by omega), Finset.range_eq_Ico]
end Acc

end Cert.KernelIdeal.Hand
end
-- ==== Proof.Gather.lean ====
/-
  The two ends of the body at an element: the query rows it gathers from its block (four groups of rows, each with one
  half of the lanes kept, times the scale), and the block it stores out (numerator over denominator).
-/
module

public import proofs.«01_k».proof.Proof.Acc

@[expose] public section
set_option maxRecDepth 16384
noncomputable section
namespace Cert.KernelIdeal.Hand
open Cert.KernelIdeal Cert.KernelIdeal.Gen
open Idealize.ShloMosaic Idealize.ShloMosaic.TcCoe

/-- The scale (1/8) log₂ e that the queries are multiplied by. -/
def QS : EReal := (Named.named κ "q_scale" 0x3E38AA3B#32 : Ideal .f32)
theorem QS_eq : QS = (((1 / 8) * (Real.log 2)⁻¹ : ℝ) : EReal) := rfl

/-- A choice by whether a lane is below 64. -/
theorem select_slt64 {l : ℕ} (hl : l < 128) (a b : EReal) :
    Scalar.select (IntOp.cmpi .slt (BitVec.ofNat 32 l) 64#32) a b = if l < 64 then a else b := by
  have h : (IntOp.cmpi .slt (BitVec.ofNat 32 l) 64#32 = 1) ↔ l < 64 := by
    have e : (BitVec.ofNat 32 l).toInt = l := by
      rw [BitVec.toInt_eq_toNat_of_lt (by rw [BitVec.toNat_ofNat, Nat.mod_eq_of_lt] <;> omega), BitVec.toNat_ofNat, Nat.mod_eq_of_lt (by omega)]
    have e' : (64#32 : BitVec 32).toInt = 64 := by decide
    simp only [IntOp.cmpi, BitVec.slt, e, e']
    by_cases h : l < 64 <;> simp [h] <;> omega
  unfold Scalar.select
  exact if_congr h rfl rfl

/-- A choice by whether a lane is 64 or above. -/
theorem select_sge64 {l : ℕ} (hl : l < 128) (a b : EReal) :
    Scalar.select (IntOp.cmpi .sge (BitVec.ofNat 32 l) 64#32) a b = if l < 64 then b else a := by
  rw [show (64#32 : BitVec 32) = BitVec.ofNat 32 64 from rfl, select_sge (by omega) (by omega)]
  by_cases h : l < 64
  · rw [if_neg (by omega), if_pos h]
  · rw [if_pos (by omega), if_neg h]

theorem cut_x3 (X3 : Vec Ideal S1x256x256 .bf16) {off : Fin 3 → ℕ} (n : ℕ) (hoff : off = ![0, 0, n]) (inb) (a : Fin 256) (l : Fin 128) (h : n + l.val < 256) :
    cut (s := S1x256x256) X3 off S1x256x128.size inb (ix3 0 a l) = X3 (ix3 0 a ⟨n + l.val, h⟩) := by
  subst hoff
  refine congrArg X3 (funext fun b => ?_)
  fin_cases b <;> apply Fin.ext <;> simp [ix3, Rect.emb, Rect.unit]

section Rows
variable {off : Fin 2 → ℕ} (n : ℕ) (hoff : off = ![n, 0]) (inb : ∀ a, off a + S256x128.size a ≤ S1024x128.size a) (w : Vec Ideal S256x128 .bf16)
  (L : List (View.Piece (Elt Ideal) S1024x128 .bf16)) (X : Vec Ideal S1024x128 .bf16)
include hoff
/-- Rows just stored read as stored. -/
theorem ov_row (a : Fin 256) (l : Fin 128) (r : Fin 1024) (h : r.val = n + a.val) :
    ov ((⟨Rect.unit (s := S1024x128) off S256x128.size inb, w⟩ : View.Piece (Elt Ideal) S1024x128 .bf16) :: L) X (ix2 r l) = w (ix2 a l) := by
  subst hoff
  have := (Rect.unit (s := S1024x128) ![n, 0] S256x128.size inb).overlay_emb (ov L X) w (ix2 a l)
  rwa [show (Rect.unit (s := S1024x128) ![n, 0] S256x128.size inb).emb (ix2 a l) = ix2 r l from by
    funext b; fin_cases b <;> apply Fin.ext <;> simp [ix2, Rect.emb, Rect.unit, h]] at this
/-- Rows stored elsewhere leave a row as it was. -/
theorem ov_row_ne (l : Fin 128) (r : Fin 1024) (h : r.val < n ∨ n + 256 ≤ r.val) :
    ov ((⟨Rect.unit (s := S1024x128) off S256x128.size inb, w⟩ : View.Piece (Elt Ideal) S1024x128 .bf16) :: L) X (ix2 r l) = ov L X (ix2 r l) := by
  subst hoff
  refine (Rect.unit (s := S1024x128) ![n, 0] S256x128.size inb).overlay_of_not_mem _ _ fun hm => ?_
  obtain ⟨x, hx⟩ := (Rect.unit (s := S1024x128) ![n, 0] S256x128.size inb).exists_idx_of_mem hm
  have h0 := congrArg (fun j => (j 0 : Fin _).val) hx
  have h1 : (x 0 : Fin _).val < 256 := (x 0).isLt
  simp [ix2, Rect.emb, Rect.unit] at h0
  omega
end Rows

/-- Row `256 g + a` of the gathered queries: the query row `a`, one half of the lanes kept, times the scale. -/
theorem gq_at (X3 : Vec Ideal S1x256x256 .bf16) (G : Vec Ideal S1024x128 .bf16) (g : Fin 4) (a : Fin 256) (l : Fin 128) :
    gq X3 G (ix2 ⟨256 * g.val + a.val, by omega⟩ l) = if l.val / 64 = g.val % 2 then X3 (ix3 0 a ⟨128 * (g.val / 2) + l.val, by omega⟩) * QS else 0 := by
  have hl := l.isLt
  have ha := a.isLt
  obtain ⟨g, hg⟩ := g
  have hw1 : k0_pay77 (cut X3 ![0, 0, 0] S1x256x128.size inb_S1x256x256_S1x256x128_0_0_0) (ix2 a l) = if l.val < 64 then X3 (ix3 0 a ⟨0 + l.val, by omega⟩) * QS else 0 := by
    pointwise [k0_pay77, k0_pay76]
    rw [select_slt64 hl, cut_x3 X3 0 rfl _ a l (by omega)]
    simp only [Nat.zero_add]
    rfl
  have hw2 : k0_pay78 (cut X3 ![0, 0, 0] S1x256x128.size inb_S1x256x256_S1x256x128_0_0_0) (ix2 a l) = if l.val < 64 then 0 else X3 (ix3 0 a ⟨0 + l.val, by omega⟩) * QS := by
    pointwise [k0_pay78, k0_pay76]
    rw [select_sge64 hl, cut_x3 X3 0 rfl _ a l (by omega)]
    simp only [Nat.zero_add]
    rfl
  have hw3 : k0_pay80 (cut X3 ![0, 0, 128] S1x256x128.size inb_S1x256x256_S1x256x128_0_0_128) (ix2 a l) = if l.val < 64 then X3 (ix3 0 a ⟨128 + l.val, by omega⟩) * QS else 0 := by
    pointwise [k0_pay80, k0_pay79]
    rw [select_slt64 hl, cut_x3 X3 128 rfl _ a l (by omega)]
    rfl
  have hw4 : k0_pay81 (iota .tc S256x128 32 [1] iota_S256x128_d1_w32) (k0_pay79 (cut X3 ![0, 0, 128] S1x256x128.size inb_S1x256x256_S1x256x128_0_0_128)) (ix2 a l) = if l.val < 64 then 0 else X3 (ix3 0 a ⟨128 + l.val, by omega⟩) * QS := by
    pointwise [k0_pay81, k0_pay79]
    rw [select_sge64 hl, cut_x3 X3 128 rfl _ a l (by omega)]
    rfl
  unfold gq
  dsimp only
  interval_cases g
  · rw [ov_row_ne 768 rfl, ov_row_ne 512 rfl, ov_row_ne 256 rfl, ov_row 0 rfl _ _ _ _ a l _ (by simp), hw1]
    · exact if_congr (by omega) (by simp) rfl
    all_goals (left; dsimp only; omega)
  · rw [ov_row_ne 768 rfl, ov_row_ne 512 rfl, ov_row 256 rfl _ _ _ _ a l _ (by simp), hw2]
    · by_cases h : l.val < 64
      · rw [if_pos h, if_neg (by omega)]
      · rw [if_neg h, if_pos (by omega)]; (try simp)
    all_goals (left; dsimp only; omega)
  · rw [ov_row_ne 768 rfl, ov_row 512 rfl _ _ _ _ a l _ (by simp), hw3]
    · exact if_congr (by omega) (by simp) rfl
    all_goals (left; dsimp only; omega)
  · rw [ov_row 768 rfl _ _ _ _ a l _ (by simp), hw4]
    by_cases h : l.val < 64
    · rw [if_pos h, if_neg (by omega)]
    · rw [if_neg h, if_pos (by omega)]

section Cols
variable {off : Fin 3 → ℕ} (n : ℕ) (hoff : off = ![0, 0, n]) (inb : ∀ a, off a + S1x256x128.size a ≤ S1x256x256.size a) (w : Vec Ideal S1x256x128 .bf16)
  (L : List (View.Piece (Elt Ideal) S1x256x256 .bf16)) (X : Vec Ideal S1x256x256 .bf16)
include hoff
theorem ov_col (a : Fin 256) (l : Fin 128) (c : Fin 256) (h : c.val = n + l.val) :
    ov ((⟨Rect.unit (s := S1x256x256) off S1x256x128.size inb, w⟩ : View.Piece (Elt Ideal) S1x256x256 .bf16) :: L) X (ix3 0 a c) = w (ix3 0 a l) := by
  subst hoff
  have := (Rect.unit (s := S1x256x256) ![0, 0, n] S1x256x128.size inb).overlay_emb (ov L X) w (ix3 0 a l)
  rwa [show (Rect.unit (s := S1x256x256) ![0, 0, n] S1x256x128.size inb).emb (ix3 0 a l) = ix3 0 a c from by
    funext b; fin_cases b <;> apply Fin.ext <;> simp [ix3, Rect.emb, Rect.unit, h]] at this
theorem ov_col_ne (a : Fin 256) (c : Fin 256) (h : c.val < n) :
    ov ((⟨Rect.unit (s := S1x256x256) off S1x256x128.size inb, w⟩ : View.Piece (Elt Ideal) S1x256x256 .bf16) :: L) X (ix3 0 a c) = ov L X (ix3 0 a c) := by
  subst hoff
  refine (Rect.unit (s := S1x256x256) ![0, 0, n] S1x256x128.size inb).overlay_of_not_mem _ _ fun hm => ?_
  obtain ⟨x, hx⟩ := (Rect.unit (s := S1x256x256) ![0, 0, n] S1x256x128.size inb).exists_idx_of_mem hm
  have h0 := congrArg (fun j => (j 2 : Fin _).val) hx
  simp [ix3, Rect.emb, Rect.unit] at h0
  omega
end Cols

/-- The block stored out at row `a`, column `c`: numerator over denominator of the row group that column belongs to. -/
theorem outOf_at (A : Vec Ideal S1024x256 .f32) (G8 : Vec Ideal S1x256x256 .bf16) (a c : Fin 256) :
    outOf A G8 (ix3 0 a c) = Ideal.div (A (ix2 ⟨256 * (c.val / 64) + a.val, by omega⟩ ⟨c.val % 128, by omega⟩)) (A (ix2 ⟨256 * (c.val / 64) + a.val, by omega⟩ ⟨128 + c.val % 128, by omega⟩)) := by
  have ha := a.isLt
  have hc := c.isLt
  have hsel : ∀ (r r' : Fin 1024) (l l1 l2 : ℕ) (hl : l < 128) (h1 h2), r.val = 256 * (c.val / 64) + a.val → l = c.val % 128 → l1 = l → l2 = 128 + l →
      Ideal.div (aa A (ix2 r ⟨l1, h1⟩)) (aa A (ix2 r ⟨l2, h2⟩)) = Ideal.div (A (ix2 ⟨256 * (c.val / 64) + a.val, by omega⟩ ⟨c.val % 128, by omega⟩)) (A (ix2 ⟨256 * (c.val / 64) + a.val, by omega⟩ ⟨128 + c.val % 128, by omega⟩)) := by
    intro r r' l l1 l2 hl h1 h2 e1 e2 e3 e4
    rw [show r = ⟨256 * (c.val / 64) + a.val, by omega⟩ from Fin.ext e1, aa_at, aa_at]
    subst e3 e4 e2
    rfl
  unfold outOf
  dsimp only
  by_cases h : c.val < 128
  · rw [ov_col_ne 128 rfl _ _ _ _ a c h, ov_col 0 rfl _ _ _ _ a ⟨c.val, h⟩ c (by simp)]
    pointwise [k0_pay1, k0_pay113, k0_pay112]
    rw [select_slt64 h]
    split
    · exact hsel _ 0 c.val _ _ h _ _ (by dsimp only; omega) (by omega) (by first | rfl | omega | simp) (by first | rfl | omega | simp)
    · exact hsel _ 0 c.val _ _ h _ _ (by dsimp only; omega) (by omega) (by first | rfl | omega | simp) (by first | rfl | omega | simp)
  · rw [ov_col 128 rfl _ _ _ _ a ⟨c.val - 128, by omega⟩ c (by dsimp only; omega)]
    pointwise [k0_pay2, k0_pay112]
    rw [select_slt64 (by omega)]
    split
    · exact hsel _ 0 (c.val - 128) _ _ (by omega) _ _ (by dsimp only; omega) (by omega) (by first | rfl | omega | simp) (by first | rfl | omega | simp)
    · exact hsel _ 0 (c.val - 128) _ _ (by omega) _ _ (by dsimp only; omega) (by omega) (by first | rfl | omega | simp) (by first | rfl | omega | simp)

end Cert.KernelIdeal.Hand
end
-- ==== Proof.Core.lean ====
/-
  What the block is: the softmax of the scores over the keys up to the row's own position, applied to the values, which
  may be any extended reals.
-/
module

public import proofs.«01_k».proof.Proof.Gather
public import proofs.«01_k».proof.Proof.Run

@[expose] public section
set_option maxRecDepth 16384
noncomputable section
namespace Cert.KernelIdeal.Hand
open Cert.KernelIdeal Cert.KernelIdeal.Gen
open Idealize.ShloMosaic Idealize.ShloMosaic.TcCoe

/-! ## The softmax, and the same with every weight scaled by one positive number -/
/-- The weight of a key: the exponential of its score up to position `t`, nothing after it. -/
def wt (t : ℕ) (L : Fin 2048 → ℝ) (j : Fin 2048) : ℝ := if j.val ≤ t then Real.exp (L j) else 0
/-- The softmax of the scores `L` up to position `t`, applied to the values `v`. -/
def soft (t : ℕ) (L : Fin 2048 → ℝ) (v : Fin 2048 → EReal) : EReal := ∑ j, v j * ((wt t L j / ∑ k, wt t L k : ℝ) : EReal)

theorem wt_nonneg (t L j) : 0 ≤ wt t L j := by unfold wt; split <;> [exact (Real.exp_pos _).le; exact le_rfl]
theorem wt_sum_pos (t L) : 0 < ∑ k, wt t L k :=
  Finset.sum_pos' (fun k _ => wt_nonneg t L k) ⟨0, Finset.mem_univ _, by unfold wt; rw [if_pos (show (0 : Fin 2048).val ≤ t from Nat.zero_le _)]; exact Real.exp_pos _⟩

theorem coe_sum' {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem sum_mul_real {ι : Type} (s : Finset ι) (f : ι → EReal) {c : ℝ} (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- Weights over their sum, applied to values: a positive factor common to the weights cancels. -/
theorem div_eq_soft (t : ℕ) (L : Fin 2048 → ℝ) (v : Fin 2048 → EReal) {C : ℝ} (hC : 0 < C) :
    Ideal.div (∑ j, v j * ((C * wt t L j : ℝ) : EReal)) (∑ j : Fin 2048, (1 : EReal) * ((C * wt t L j : ℝ) : EReal)) = soft t L v := by
  have hZ := wt_sum_pos t L
  have hD : (∑ j : Fin 2048, (1 : EReal) * ((C * wt t L j : ℝ) : EReal)) = ((C * ∑ k, wt t L k : ℝ) : EReal) := by
    rw [Finset.mul_sum, coe_sum']
    exact Finset.sum_congr rfl fun j _ => one_mul _
  rw [hD]
  unfold Ideal.div soft
  rw [if_neg (by exact_mod_cast (mul_pos hC hZ).ne'), ← EReal.coe_inv, sum_mul_real _ _ (inv_nonneg.2 (mul_pos hC hZ).le)]
  refine Finset.sum_congr rfl fun j _ => ?_
  rw [mul_assoc, ← EReal.coe_mul]
  refine congrArg (fun x : ℝ => v j * (x : EReal)) ?_
  field_simp

/-- The softmax with its maximum subtracted first, each weight divided by the weights' sum. -/
theorem soft_of_shift (t : ℕ) (L : Fin 2048 → ℝ) (v : Fin 2048 → EReal) (m : ℝ) (j : Fin 2048) :
    Ideal.div (((Real.exp (-m) * wt t L j : ℝ)) : EReal) (∑ k : Fin 2048, ((Real.exp (-m) * wt t L k : ℝ) : EReal)) = ((wt t L j / ∑ k, wt t L k : ℝ) : EReal) := by
  have hZ := wt_sum_pos t L
  have hm := Real.exp_pos (-m)
  rw [← coe_sum', ← Finset.mul_sum]
  unfold Ideal.div
  rw [if_neg (by exact_mod_cast (mul_pos hm hZ).ne'), ← EReal.coe_inv, ← EReal.coe_mul]
  congr 1
  field_simp

/-! ## Sums over the keys visited are sums over all keys -/
theorem tk_sum (X5 : Vec Ideal S1x2048x128 .bf16) (S : Vec Ideal S8x1024x256 .f32) (μ : EReal) (r : Fin 1024) (l : Fin 256) (N t : ℕ) (hN : N ≤ 2048) (ht : t < N)
    (L : Fin 2048 → ℝ) (V : Fin 2048 → EReal) (C : ℝ)
    (h : ∀ key : Fin 2048, key.val < N → tk X5 S μ r l key.val = V key * ((C * wt t L key : ℝ) : EReal)) :
    ∑ key ∈ Finset.range N, tk X5 S μ r l key = ∑ j, V j * ((C * wt t L j : ℝ) : EReal) := by
  have e1 : ∑ key ∈ Finset.range N, tk X5 S μ r l key = ∑ key ∈ Finset.range N, (if hk : key < 2048 then V ⟨key, hk⟩ * ((C * wt t L ⟨key, hk⟩ : ℝ) : EReal) else 0) :=
    Finset.sum_congr rfl fun key hkey => by
      have hlt := Finset.mem_range.1 hkey
      rw [dif_pos (by omega : key < 2048)]
      exact h ⟨key, by omega⟩ hlt
  rw [e1, Finset.sum_subset (Finset.range_subset_range.2 hN) fun key hk hk' => ?_, Finset.sum_range]
  · exact Finset.sum_congr rfl fun j _ => by rw [dif_pos j.isLt]
  · have h1 := Finset.mem_range.1 hk
    have h2 : ¬ key < N := fun h => hk' (Finset.mem_range.2 h)
    rw [dif_pos h1]
    unfold wt
    rw [if_neg (by dsimp only; omega)]
    simp

/-! ## The block -/
theorem sec_at (S : Vec Ideal S8x1024x256 .f32) (s : ℕ) (hs : s < 8) (r : Fin 1024) (c : Fin 256) : sec S s hs (ix3 0 r c) = S (ix3 ⟨s, hs⟩ r c) :=
  cut_s S s rfl _ r c hs

theorem real_mul {a b : EReal} (ha : ∃ z : ℝ, a = (z : EReal)) (hb : ∃ z : ℝ, b = (z : EReal)) : ∃ z : ℝ, a * b = (z : EReal) := by
  obtain ⟨x, rfl⟩ := ha; obtain ⟨y, rfl⟩ := hb; exact ⟨x * y, (EReal.coe_mul x y).symm⟩
theorem real_sub {a b : EReal} (ha : ∃ z : ℝ, a = (z : EReal)) (hb : ∃ z : ℝ, b = (z : EReal)) : ∃ z : ℝ, a - b = (z : EReal) := by
  obtain ⟨x, rfl⟩ := ha; obtain ⟨y, rfl⟩ := hb; exact ⟨x - y, (EReal.coe_sub x y).symm⟩
theorem real_sum {ι : Type} (s : Finset ι) {f : ι → EReal} (hf : ∀ k, ∃ z : ℝ, f k = (z : EReal)) : ∃ z : ℝ, ∑ k ∈ s, f k = (z : EReal) := by
  choose g hg using hf
  exact ⟨∑ k ∈ s, g k, by rw [coe_sum']; exact Finset.sum_congr rfl fun k _ => hg k⟩

section Block
variable (i : grid0.Coords) (X3 : Vec Ideal S1x256x256 .bf16) (X4 X5 : Vec Ideal S1x2048x128 .bf16) (X6 : Vec Ideal S1x1x256x4 .f32) (X7 : Vec Ideal S1x1x8x4x256 .f32)
  (h3 : ∀ j, ∃ z : ℝ, X3 j = (z : EReal)) (h4 : ∀ j, ∃ z : ℝ, X4 j = (z : EReal)) (h6 : ∀ j, ∃ z : ℝ, X6 j = (z : EReal)) (h7 : ∀ j, ∃ z : ℝ, X7 j = (z : EReal))

include h3 in
theorem gq_real (G : Vec Ideal S1024x128 .bf16) (r : Fin 1024) (l : Fin 128) : ∃ z : ℝ, gq X3 G (ix2 r l) = (z : EReal) := by
  have e := gq_at X3 G ⟨r.val / 256, by omega⟩ ⟨r.val % 256, by omega⟩ l
  rw [show (⟨256 * (⟨r.val / 256, by omega⟩ : Fin 4).val + (⟨r.val % 256, by omega⟩ : Fin 256).val, by dsimp only; omega⟩ : Fin 1024) = r from Fin.ext (by dsimp only; omega)] at e
  rw [e]
  split
  · exact real_mul (h3 _) ⟨_, QS_eq⟩
  · exact ⟨0, rfl⟩

include h3 h4 h7 in
theorem sc_real (G : Vec Ideal S1024x128 .bf16) (r : Fin 1024) (s : Fin 8) (c : Fin 256) : ∃ z : ℝ, sc (gq X3 G) X4 X7 r s c = (z : EReal) :=
  real_sub (real_sum _ fun l => real_mul (gq_real X3 h3 G r l) (h4 _)) (real_mul (h7 _) ⟨_, L2E_eq⟩)

include h3 h4 h6 h7 in
/-- The block at row `a`, column `c` is the softmax of the row's scores, for scores `L` that the kernel's are shifted and scaled from. -/
theorem outBlk_soft (a c : Fin 256) (L : Fin 2048 → ℝ) (C0 : ℝ)
    (hL : ∀ key : Fin 2048, sc (gq X3 zQ) X4 X7 ⟨256 * (c.val / 64) + a.val, by omega⟩ ⟨key.val / 256, by omega⟩ ⟨key.val % 256, by omega⟩ = (((L key - C0) * (Real.log 2)⁻¹ : ℝ) : EReal)) :
    outBlk i X3 X4 X5 X6 X7 (ix3 0 a c) = soft (256 * (i 2).val + a.val) L (fun j => X5 (ix3 0 j ⟨c.val % 128, by omega⟩)) := by
  have hq := lt8 i
  have ha := a.isLt
  have hl2 : Real.log 2 ≠ 0 := (Real.log_pos (by norm_num)).ne'
  set r : Fin 1024 := ⟨256 * (c.val / 64) + a.val, by omega⟩ with hr
  have hrm : r.val % 256 = a.val := by rw [hr]; dsimp only; omega
  obtain ⟨z, hz⟩ := mb_at X6 _ r (good_all i (gq X3 zQ) X4 X7 (sc_real X3 X4 X7 h3 h4 h7 zQ) r) h6
  have hS : ∀ key : Fin 2048, key.val < 256 * (i 2).val + 256 → bodyS i X3 X4 X7 zQ zS (ix3 ⟨key.val / 256, by omega⟩ r ⟨key.val % 256, by omega⟩) =
      if key.val ≤ 256 * (i 2).val + a.val then (((L key - C0) * (Real.log 2)⁻¹ : ℝ) : EReal) else ⊥ := by
    intro key hk
    rw [← sec_at (bodyS i X3 X4 X7 zQ zS) (key.val / 256) (by omega) r ⟨key.val % 256, by omega⟩]
    unfold bodyS
    rw [sec_score4 i _ X4 X7 _ (key.val / 256) (by omega) (by omega), secOf_at i _ X4 X7 r ⟨key.val / 256, by omega⟩ ⟨key.val % 256, by omega⟩ (by dsimp only; omega), hrm, hL key]
    refine if_congr ?_ rfl rfl
    dsimp only; omega
  have hC : 0 < Real.exp (-(C0 + z * Real.log 2)) := Real.exp_pos _
  have hw : ∀ key : Fin 2048, key.val < 256 * (i 2).val + 256 →
      FloatOps.exp2 (F := Ideal) (φ := .f32) (bodyS i X3 X4 X7 zQ zS (ix3 ⟨key.val / 256, by omega⟩ r ⟨key.val % 256, by omega⟩) - (z : EReal)) =
        ((Real.exp (-(C0 + z * Real.log 2)) * wt (256 * (i 2).val + a.val) L key : ℝ) : EReal) := by
    intro key hk
    rw [hS key hk]
    unfold wt
    by_cases h : key.val ≤ 256 * (i 2).val + a.val
    · rw [if_pos h, if_pos h, ← EReal.coe_sub]
      show ((Real.rpow 2 _ : ℝ) : EReal) = _
      rw [← Real.exp_add]
      congr 1
      rw [Real.rpow_eq_pow, Real.rpow_def_of_pos (by norm_num)]
      congr 1
      field_simp
      ring
    · rw [if_neg h, if_neg h, mul_zero]
      show Ideal.exp2 _ = _
      rw [show (⊥ : EReal) - (z : EReal) = ⊥ from rfl]
      rfl
  have hsum : ∀ (l : Fin 256) (V : Fin 2048 → EReal), (∀ j, (if hl : l.val < 128 then X5 (ix3 0 j ⟨l.val, hl⟩) else 1) = V j) →
      bodyA i X3 X4 X5 X6 X7 zQ zS (ix2 r l) = ∑ j, V j * ((Real.exp (-(C0 + z * Real.log 2)) * wt (256 * (i 2).val + a.val) L j : ℝ) : EReal) := by
    intro l V hV
    unfold bodyA
    dsimp only
    have hB : ∀ x, bodyB i X3 X4 X6 X7 zQ (ix2 r x) = (z : EReal) := hz
    refine (acc_at i X5 _ hB l).trans ?_
    refine tk_sum X5 _ _ r l _ _ (by omega) (by omega) L V _ fun key hk => ?_
    unfold tk
    rw [dif_pos key.isLt, hw key hk, ← hV key, mul_comm]
  unfold outBlk bodyOut
  rw [outOf_at, ← hr, hsum _ (fun j => X5 (ix3 0 j ⟨c.val % 128, by omega⟩)) (fun j => by rw [dif_pos (by dsimp only; omega)]),
    hsum _ (fun _ => 1) (fun j => by rw [dif_neg (by dsimp only; omega)])]
  exact div_eq_soft _ L _ hC

/-- A sum over 128 lanes with one half kept is the sum over that half. -/
theorem lanes_half (f : Fin 256 → EReal) (X4 : Fin 128 → EReal) (g : Fin 4) :
    ∑ l : Fin 128, (if l.val / 64 = g.val % 2 then f ⟨128 * (g.val / 2) + l.val, by omega⟩ else 0) * X4 l = ∑ d : Fin 64, f ⟨64 * g.val + d.val, by omega⟩ * X4 ⟨64 * (g.val % 2) + d.val, by omega⟩ := by
  have hsplit := Fin.sum_univ_add (M := EReal) (a := 64) (b := 64) fun l : Fin 128 => (if l.val / 64 = g.val % 2 then f ⟨128 * (g.val / 2) + l.val, by omega⟩ else 0) * X4 l
  refine hsplit.trans ?_
  have hc : ∀ d : Fin 64, (Fin.castAdd 64 d).val = d.val := fun _ => rfl
  have hn : ∀ d : Fin 64, (Fin.natAdd 64 d).val = 64 + d.val := fun _ => rfl
  have h0 : ∀ (h : g.val % 2 = 0) (d : Fin 64), (if (Fin.castAdd 64 d).val / 64 = g.val % 2 then f ⟨128 * (g.val / 2) + (Fin.castAdd 64 d).val, by rw [hc]; omega⟩ else 0) * X4 (Fin.castAdd 64 d) = f ⟨64 * g.val + d.val, by omega⟩ * X4 ⟨64 * (g.val % 2) + d.val, by omega⟩ := by
    intro h d
    rw [if_pos (by rw [hc]; omega)]
    exact congrArg₂ (fun x y => f x * X4 y) (Fin.ext (by dsimp only; rw [hc]; omega)) (Fin.ext (by rw [hc]; dsimp only; omega))
  have h1 : ∀ (h : g.val % 2 = 1) (d : Fin 64), (if (Fin.natAdd 64 d).val / 64 = g.val % 2 then f ⟨128 * (g.val / 2) + (Fin.natAdd 64 d).val, by rw [hn]; omega⟩ else 0) * X4 (Fin.natAdd 64 d) = f ⟨64 * g.val + d.val, by omega⟩ * X4 ⟨64 * (g.val % 2) + d.val, by omega⟩ := by
    intro h d
    rw [if_pos (by rw [hn]; omega)]
    exact congrArg₂ (fun x y => f x * X4 y) (Fin.ext (by dsimp only; rw [hn]; omega)) (Fin.ext (by rw [hn]; dsimp only; omega))
  rcases Nat.mod_two_eq_zero_or_one g.val with h | h
  · refine (congrArg₂ (· + ·) (Finset.sum_congr rfl fun d _ => h0 h d) (Finset.sum_eq_zero fun d _ => ?_)).trans (add_zero _)
    rw [if_neg (by rw [hn]; omega), zero_mul]
  · refine (congrArg₂ (· + ·) (Finset.sum_eq_zero fun d _ => ?_) (Finset.sum_congr rfl fun d _ => h1 h d)).trans (zero_add _)
    rw [if_neg (by rw [hc]; omega), zero_mul]

/-- The score of row `a` in row group `g`, as a sum over the head's 64 lanes. -/
theorem sc_block (G : Vec Ideal S1024x128 .bf16) (g : Fin 4) (a : Fin 256) (s : Fin 8) (k : Fin 256) :
    sc (gq X3 G) X4 X7 ⟨256 * g.val + a.val, by omega⟩ s k =
      (∑ d : Fin 64, X3 (ix3 0 a ⟨64 * g.val + d.val, by omega⟩) * QS * X4 (ix3 0 ⟨256 * s.val + k.val, by omega⟩ ⟨64 * (g.val % 2) + d.val, by omega⟩))
        - X7 (ix5 0 0 s ⟨2 * (g.val % 2) + g.val / 2, by omega⟩ k) * L2E := by
  unfold sc
  have hh : hd ⟨256 * g.val + a.val, by omega⟩ = ⟨2 * (g.val % 2) + g.val / 2, by omega⟩ := by
    have ha := a.isLt
    obtain ⟨g, hg⟩ := g
    unfold hd
    interval_cases g
    · rw [if_pos (by dsimp only; omega)]; exact Fin.ext (show 0 = 2 * (0 % 2) + 0 / 2 by norm_num)
    · rw [if_neg (by dsimp only; omega), if_pos (by dsimp only; omega)]; exact Fin.ext (show 2 = 2 * (1 % 2) + 1 / 2 by norm_num)
    · rw [if_neg (by dsimp only; omega), if_neg (by dsimp only; omega), if_pos (by dsimp only; omega)]; exact Fin.ext (show 1 = 2 * (2 % 2) + 2 / 2 by norm_num)
    · rw [if_neg (by dsimp only; omega), if_neg (by dsimp only; omega), if_neg (by dsimp only; omega)]; exact Fin.ext (show 3 = 2 * (3 % 2) + 3 / 2 by norm_num)
  rw [hh]
  refine congrArg (· - _) ((Finset.sum_congr rfl fun l _ => by rw [gq_at]).trans (lanes_half (fun x => X3 (ix3 0 a x) * QS) _ g))
end Block

end Cert.KernelIdeal.Hand
end
-- ==== Proof.Final.lean ====
/-
  The arrays the windows are cut from, read at an element of the arguments.
-/
module

public import proofs.«01_k».proof.Proof.Core
public import Idealize.ShloMosaic.Lib.Claim
public import Idealize.ShloMosaic.Lib.Pipeline.ValueKit
public import Idealize.ShloMosaic.Lib.Pipeline.Covers

@[expose] public section
set_option maxRecDepth 16384
noncomputable section
namespace Cert.KernelIdeal.Hand
open Cert.KernelIdeal Cert.KernelIdeal.Gen
open Idealize.ShloMosaic Idealize.ShloMosaic.TcCoe

section Host
variable (m : (ℓ : Loc nD τ sig) → Buf (Elt Ideal) ℓ) (c : Dev nD)

theorem V_v3 (b : Fin 16) (T : Fin 2048) (x : Fin 1024) :
    V m c main_v3 (ix3 b T x) = m ((c.tc : Thread nD τ).loc main_arg0) (ix4 b T ⟨4 * (x.val / 256) + 2 * (x.val / 64 % 2) + x.val / 128 % 2, by omega⟩ ⟨x.val % 64, by omega⟩) := by
  entry_read
  pointwise
  blk_ext
theorem V_v5 (b : Fin 16) (T : Fin 2048) (x : Fin 512) :
    V m c main_v5 (ix3 b T x) = m ((c.tc : Thread nD τ).loc main_arg1) (ix4 b T ⟨x.val / 64, by omega⟩ ⟨x.val % 64, by omega⟩) := by
  entry_read
  pointwise
theorem V_v7 (b : Fin 16) (T : Fin 2048) (x : Fin 512) :
    V m c main_v7 (ix3 b T x) = m ((c.tc : Thread nD τ).loc main_arg2) (ix4 b T ⟨x.val / 64, by omega⟩ ⟨x.val % 64, by omega⟩) := by
  entry_read
  pointwise
theorem V_v10 (b : Fin 16) (p : Fin 4) (T : Fin 2048) (h : Fin 4) :
    V m c main_v10 (ix4 b p T h) = m ((c.tc : Thread nD τ).loc main_arg3) (ix3 b T ⟨4 * p.val + h.val, by omega⟩) := by
  entry_read
  pointwise
  blk_ext
theorem V_v12 (b : Fin 16) (p : Fin 4) (s : Fin 8) (h : Fin 4) (k : Fin 256) :
    V m c main_v12 (ix5 b p s h k) = m ((c.tc : Thread nD τ).loc main_arg3) (ix3 b ⟨256 * s.val + k.val, by omega⟩ ⟨4 * p.val + h.val, by omega⟩) := by
  entry_read
  pointwise
  blk_ext
end Host

/-! ## The windows' blocks -/
theorem idx0 : ∀ t : Fin grid0.N, win0_0.index t = ![(grid0.coords t 0).val, (grid0.coords t 2).val, (grid0.coords t 1).val] := by decide +kernel
theorem idx1 : ∀ t : Fin grid0.N, win0_1.index t = ![(grid0.coords t 0).val, 0, (grid0.coords t 1).val] := by decide +kernel
theorem idx2 : ∀ t : Fin grid0.N, win0_2.index t = ![(grid0.coords t 0).val, 0, (grid0.coords t 1).val] := by decide +kernel
theorem idx3 : ∀ t : Fin grid0.N, win0_3.index t = ![(grid0.coords t 0).val, (grid0.coords t 1).val, (grid0.coords t 2).val, 0] := by decide +kernel
theorem idx4 : ∀ t : Fin grid0.N, win0_4.index t = ![(grid0.coords t 0).val, (grid0.coords t 1).val, 0, 0, 0] := by decide +kernel
theorem idx5 : ∀ t : Fin grid0.N, win0_5.index t = ![(grid0.coords t 0).val, (grid0.coords t 2).val, (grid0.coords t 1).val] := by decide +kernel

theorem lt16 (i : grid0.Coords) : (i 0).val < 16 := (i 0).isLt
theorem lt4 (i : grid0.Coords) : (i 1).val < 4 := (i 1).isLt

section Blocks
variable (m : (ℓ : Loc nD τ sig) → Buf (Elt Ideal) ℓ) (c : Dev nD) (t : Fin cfg0.N)

theorem iblk0_at (a x : Fin 256) : iblk m c 0 t (ix3 0 a x) = V m c main_v3 (ix3 ⟨(grid0.coords t 0).val, lt16 _⟩ ⟨256 * (grid0.coords t 2).val + a.val, by have := lt8 (grid0.coords t); omega⟩ ⟨256 * (grid0.coords t 1).val + x.val, by have := lt4 (grid0.coords t); omega⟩) := by
  blk_ext [iblk, idx0 t]
theorem iblk1_at (k : Fin 2048) (x : Fin 128) : iblk m c 1 t (ix3 0 k x) = V m c main_v5 (ix3 ⟨(grid0.coords t 0).val, lt16 _⟩ k ⟨128 * (grid0.coords t 1).val + x.val, by have := lt4 (grid0.coords t); omega⟩) := by
  blk_ext [iblk, idx1 t]
theorem iblk2_at (k : Fin 2048) (x : Fin 128) : iblk m c 2 t (ix3 0 k x) = V m c main_v7 (ix3 ⟨(grid0.coords t 0).val, lt16 _⟩ k ⟨128 * (grid0.coords t 1).val + x.val, by have := lt4 (grid0.coords t); omega⟩) := by
  blk_ext [iblk, idx2 t]
theorem iblk3_at (a : Fin 256) (h : Fin 4) : iblk m c 3 t (ix4 0 0 a h) = V m c main_v10 (ix4 ⟨(grid0.coords t 0).val, lt16 _⟩ ⟨(grid0.coords t 1).val, lt4 _⟩ ⟨256 * (grid0.coords t 2).val + a.val, by have := lt8 (grid0.coords t); omega⟩ h) := by
  blk_ext [iblk, idx3 t]
theorem iblk4_at (s : Fin 8) (h : Fin 4) (k : Fin 256) : iblk m c 4 t (ix5 0 0 s h k) = V m c main_v12 (ix5 ⟨(grid0.coords t 0).val, lt16 _⟩ ⟨(grid0.coords t 1).val, lt4 _⟩ s h k) := by
  blk_ext [iblk, idx4 t]
end Blocks

theorem eta0 (j : S1x256x256.Idx) : ∃ a x : Fin 256, j = ix3 0 a x := ⟨j 1, j 2, by
  funext b; fin_cases b
  · exact Subsingleton.elim (α := Fin 1) _ _
  · rfl
  · rfl⟩
theorem eta1 (j : S1x2048x128.Idx) : ∃ (a : Fin 2048) (x : Fin 128), j = ix3 0 a x := ⟨j 1, j 2, by
  funext b; fin_cases b
  · exact Subsingleton.elim (α := Fin 1) _ _
  · rfl
  · rfl⟩
theorem eta3 (j : S1x1x256x4.Idx) : ∃ (a : Fin 256) (x : Fin 4), j = ix4 0 0 a x := ⟨j 2, j 3, by
  funext b; fin_cases b
  · exact Subsingleton.elim (α := Fin 1) _ _
  · exact Subsingleton.elim (α := Fin 1) _ _
  · rfl
  · rfl⟩
theorem eta4 (j : S1x1x8x4x256.Idx) : ∃ (s : Fin 8) (h : Fin 4) (x : Fin 256), j = ix5 0 0 s h x := ⟨j 2, j 3, j 4, by
  funext b; fin_cases b
  · exact Subsingleton.elim (α := Fin 1) _ _
  · exact Subsingleton.elim (α := Fin 1) _ _
  · rfl
  · rfl
  · rfl⟩

/-! ## The attention, from the arguments -/
/-- The score of query position `T` of head `h` against a key: the scaled product, shifted by the gates. -/
def logit (A0 : Vec Ideal S16x2048x16x64 .f32) (A1 : Vec Ideal S16x2048x8x64 .f32) (A3 : Vec Ideal S16x2048x16 .f32) (b : Fin 16) (T : Fin 2048) (h : Fin 16) (key : Fin 2048) : ℝ :=
  (∑ d : Fin 64, EReal.toReal (A1 (ix4 b key ⟨h.val / 2, by omega⟩ d)) * EReal.toReal (A0 (ix4 b T h d))) * (1 / 8) + EReal.toReal (A3 (ix3 b T h)) - EReal.toReal (A3 (ix3 b key h))

/-- The head that stands at a column of the result. -/
def hdOf (x : Fin 1024) : Fin 16 := ⟨4 * (x.val / 256) + 2 * (x.val / 64 % 2) + x.val / 128 % 2, by omega⟩

/-- The result: at each column the softmax of its head's scores up to the row's position, applied to that head's values. -/
def attn (A0 : Vec Ideal S16x2048x16x64 .f32) (A1 A2 : Vec Ideal S16x2048x8x64 .f32) (A3 : Vec Ideal S16x2048x16 .f32) (b : Fin 16) (T : Fin 2048) (x : Fin 1024) : EReal :=
  soft T.val (logit A0 A1 A3 b T (hdOf x)) fun key => A2 (ix4 b key ⟨(hdOf x).val / 2, by omega⟩ ⟨x.val % 64, by omega⟩)

section Kernel
variable {A0 : Vec Ideal S16x2048x16x64 .f32} {A1 A2 : Vec Ideal S16x2048x8x64 .f32} {A3 : Vec Ideal S16x2048x16 .f32}
  (f0 : ∀ j, ∃ z : ℝ, A0 j = (z : EReal)) (f1 : ∀ j, ∃ z : ℝ, A1 j = (z : EReal)) (f3 : ∀ j, ∃ z : ℝ, A3 j = (z : EReal))

theorem coe_of {a : EReal} (h : ∃ z : ℝ, a = (z : EReal)) : a = (EReal.toReal a : EReal) := by obtain ⟨z, rfl⟩ := h; rfl

include f0 f1 f3 in
/-- A block of the result, from what its input blocks are cut from. -/
theorem block_attn (b : Fin 16) (p : Fin 4) (i : grid0.Coords) (X3 : Vec Ideal S1x256x256 .bf16) (X4 X5 : Vec Ideal S1x2048x128 .bf16) (X6 : Vec Ideal S1x1x256x4 .f32) (X7 : Vec Ideal S1x1x8x4x256 .f32)
    (e3 : ∀ (a x : Fin 256), X3 (ix3 0 a x) = A0 (ix4 b ⟨256 * (i 2).val + a.val, by have := lt8 i; omega⟩ ⟨4 * p.val + 2 * (x.val / 64 % 2) + x.val / 128, by omega⟩ ⟨x.val % 64, by omega⟩))
    (e4 : ∀ (k : Fin 2048) (l : Fin 128), X4 (ix3 0 k l) = A1 (ix4 b k ⟨2 * p.val + l.val / 64, by omega⟩ ⟨l.val % 64, by omega⟩))
    (e5 : ∀ (k : Fin 2048) (l : Fin 128), X5 (ix3 0 k l) = A2 (ix4 b k ⟨2 * p.val + l.val / 64, by omega⟩ ⟨l.val % 64, by omega⟩))
    (h6 : ∀ j, ∃ z : ℝ, X6 j = (z : EReal))
    (e7 : ∀ (s : Fin 8) (h : Fin 4) (k : Fin 256), X7 (ix5 0 0 s h k) = A3 (ix3 b ⟨256 * s.val + k.val, by omega⟩ ⟨4 * p.val + h.val, by omega⟩)) (a x : Fin 256) :
    outBlk i X3 X4 X5 X6 X7 (ix3 0 a x) = attn A0 A1 A2 A3 b ⟨256 * (i 2).val + a.val, by have := lt8 i; omega⟩ ⟨256 * p.val + x.val, by omega⟩ := by
  have h3 : ∀ j, ∃ z : ℝ, X3 j = (z : EReal) := fun j => by obtain ⟨a, x, rfl⟩ := eta0 j; rw [e3]; exact f0 _
  have h4 : ∀ j, ∃ z : ℝ, X4 j = (z : EReal) := fun j => by obtain ⟨a, x, rfl⟩ := eta1 j; rw [e4]; exact f1 _
  have h7 : ∀ j, ∃ z : ℝ, X7 j = (z : EReal) := fun j => by obtain ⟨s, h, x, rfl⟩ := eta4 j; rw [e7]; exact f3 _
  have hi := lt8 i
  have hx := x.isLt
  set T : Fin 2048 := ⟨256 * (i 2).val + a.val, by omega⟩ with hT
  set H : Fin 16 := hdOf ⟨256 * p.val + x.val, by omega⟩ with hH
  have hHv : H.val = 4 * p.val + 2 * (x.val / 64 % 2) + x.val / 128 := by rw [hH]; unfold hdOf; dsimp only; omega
  rw [outBlk_soft i X3 X4 X5 X6 X7 h3 h4 h6 h7 a x (logit A0 A1 A3 b T H) (EReal.toReal (A3 (ix3 b T H))) fun key => ?_]
  · show _ = soft _ (logit A0 A1 A3 b T H) fun key => A2 (ix4 b key ⟨H.val / 2, _⟩ ⟨(256 * p.val + x.val) % 64, _⟩)
    refine congrArg (soft _ _) (funext fun key => ?_)
    rw [e5]
    have q1 : x.val % 128 / 64 = x.val / 64 % 2 := by omega
    have q2 : H.val / 2 = 2 * p.val + x.val / 64 % 2 := by omega
    exact congrArg₂ (fun u v => A2 (ix4 b key u v)) (Fin.ext (by dsimp only; omega)) (Fin.ext (by dsimp only; omega))
  · have hs := sc_block X3 X4 X7 zQ ⟨x.val / 64, by omega⟩ a ⟨key.val / 256, by omega⟩ ⟨key.val % 256, by omega⟩
    refine hs.trans ?_
    have t1 : ∀ d : Fin 64, X3 (ix3 0 a ⟨64 * (x.val / 64) + d.val, by omega⟩) = (EReal.toReal (A0 (ix4 b T H d)) : EReal) := fun d => by
      rw [← coe_of (f0 _), e3]
      have q1 : (64 * (x.val / 64) + d.val) / 64 = x.val / 64 := by omega
      have q2 : (64 * (x.val / 64) + d.val) / 128 = x.val / 128 := by omega
      exact congrArg₂ (fun u v => A0 (ix4 b T u v)) (Fin.ext (by dsimp only; omega)) (Fin.ext (by dsimp only; omega))
    have t2 : ∀ d : Fin 64, X4 (ix3 0 ⟨256 * (key.val / 256) + key.val % 256, by omega⟩ ⟨64 * (x.val / 64 % 2) + d.val, by omega⟩) = (EReal.toReal (A1 (ix4 b key ⟨H.val / 2, by omega⟩ d)) : EReal) := fun d => by
      rw [← coe_of (f1 _), e4, show (⟨256 * (key.val / 256) + key.val % 256, by omega⟩ : Fin 2048) = key from Fin.ext (by dsimp only; omega)]
      exact congrArg₂ (fun u v => A1 (ix4 b key u v)) (Fin.ext (by dsimp only; omega)) (Fin.ext (by dsimp only; omega))
    have t3 : X7 (ix5 0 0 ⟨key.val / 256, by omega⟩ ⟨2 * (x.val / 64 % 2) + x.val / 64 / 2, by omega⟩ ⟨key.val % 256, by omega⟩) = (EReal.toReal (A3 (ix3 b key H)) : EReal) := by
      rw [← coe_of (f3 _), e7]
      exact congrArg₂ (fun u v => A3 (ix3 b u v)) (Fin.ext (by dsimp only; omega)) (Fin.ext (by dsimp only; omega))
    refine (congrArg₂ (fun u v => u - v * L2E) (Finset.sum_congr rfl fun d _ => congrArg₂ (fun u v => u * QS * v) (t1 d) (t2 d)) t3).trans ?_
    rw [show L2E = (((Real.log 2)⁻¹ : ℝ) : EReal) from L2E_eq]
    simp only [QS_eq, ← EReal.coe_mul, ← coe_sum', ← EReal.coe_sub]
    refine congrArg (fun z : ℝ => (z : EReal)) ?_
    unfold logit
    rw [Finset.sum_congr rfl fun d _ => show EReal.toReal (A0 (ix4 b T H d)) * (1 / 8 * (Real.log 2)⁻¹) * EReal.toReal (A1 (ix4 b key ⟨H.val / 2, by omega⟩ d)) =
      EReal.toReal (A1 (ix4 b key ⟨H.val / 2, by omega⟩ d)) * EReal.toReal (A0 (ix4 b T H d)) * (1 / 8 * (Real.log 2)⁻¹) by ring, ← Finset.sum_mul]
    ring
end Kernel

section Array
variable (m : (ℓ : Loc nD τ sig) → Buf (Elt Ideal) ℓ) (c : Dev nD)

theorem covers5 : (cfg0.win 5).Covers := by decide +kernel

/-- The kernel's result array. -/
theorem arr_attn (f0 : ∀ j, ∃ z : ℝ, m ((c.tc : Thread nD τ).loc main_arg0) j = (z : EReal)) (f1 : ∀ j, ∃ z : ℝ, m ((c.tc : Thread nD τ).loc main_arg1) j = (z : EReal)) (f3 : ∀ j, ∃ z : ℝ, m ((c.tc : Thread nD τ).loc main_arg3) j = (z : EReal)) :
    (dats m 0 c).arrAt 5 cfg0.N = fun j : S16x2048x1024.Idx => attn (m ((c.tc : Thread nD τ).loc main_arg0)) (m ((c.tc : Thread nD τ).loc main_arg1)) (m ((c.tc : Thread nD τ).loc main_arg2)) (m ((c.tc : Thread nD τ).loc main_arg3)) (j 0) (j 1) (j 2) := by
  refine (dats m 0 c).arrAt_eq_of_covers 5 _ covers5 fun t hf y => ?_
  blk_simp
  rw [after0_5]
  obtain ⟨a, x, rfl⟩ := eta0 y
  have h4 := lt4 (grid0.coords t)
  refine (block_attn f0 f1 f3 (A2 := m ((c.tc : Thread nD τ).loc main_arg2)) ⟨(grid0.coords t 0).val, lt16 _⟩ ⟨(grid0.coords t 1).val, lt4 _⟩ (grid0.coords t) _ _ _ _ _ ?_ ?_ ?_ ?_ ?_ a x).trans ?_
  · intro a x
    refine (iblk0_at m c t a x).trans ((V_v3 m c _ _ _).trans ?_)
    exact congrArg₂ (fun u v => m ((c.tc : Thread nD τ).loc main_arg0) (ix4 _ _ u v)) (Fin.ext (by dsimp only; omega)) (Fin.ext (by dsimp only; omega))
  · intro k l
    refine (iblk1_at m c t k l).trans ((V_v5 m c _ _ _).trans ?_)
    exact congrArg₂ (fun u v => m ((c.tc : Thread nD τ).loc main_arg1) (ix4 _ _ u v)) (Fin.ext (by dsimp only; omega)) (Fin.ext (by dsimp only; omega))
  · intro k l
    refine (iblk2_at m c t k l).trans ((V_v7 m c _ _ _).trans ?_)
    exact congrArg₂ (fun u v => m ((c.tc : Thread nD τ).loc main_arg2) (ix4 _ _ u v)) (Fin.ext (by dsimp only; omega)) (Fin.ext (by dsimp only; omega))
  · intro j
    obtain ⟨a, h, rfl⟩ := eta3 j
    have e := (iblk3_at m c t a h).trans (V_v10 m c _ _ _ _)
    obtain ⟨z, hz⟩ := f3 _
    exact ⟨z, e.trans hz⟩
  · intro s h k
    exact (iblk4_at m c t s h k).trans (V_v12 m c _ _ _ _ _)
  · have e : ((win0_5.blk t).view.emb (ix3 0 a x) : S16x2048x1024.Idx) = ix3 ⟨(grid0.coords t 0).val, lt16 _⟩ ⟨256 * (grid0.coords t 2).val + a.val, by have := lt8 (grid0.coords t); omega⟩ ⟨256 * (grid0.coords t 1).val + x.val, by omega⟩ := by
      blk_ext [idx5 t]
    exact (congrArg (fun j : S16x2048x1024.Idx => attn (m ((c.tc : Thread nD τ).loc main_arg0)) (m ((c.tc : Thread nD τ).loc main_arg1)) (m ((c.tc : Thread nD τ).loc main_arg2)) (m ((c.tc : Thread nD τ).loc main_arg3)) (j 0) (j 1) (j 2)) e).symm

/-- The run, its output array in the blocks' terms. -/
theorem run_blocks (ρ : Dev nD → PrngReg) : θ_run (defs (F := Ideal)) (onTc (τ := τ) (main (F := Ideal))) (s₀ m ρ) (fun r => Pipeline.FramePost cfgs (dats m) 0 (V m) r) :=
  (θ_run defs _ _).mono (fun _ h => h.1) (run_main m ρ)
end Array

end Cert.KernelIdeal.Hand
end
-- ==== Proof.RefVal.lean ====
/-
  What the reference computes: the masked scores, their softmax, and the values weighted by it, read at an index.
-/
module

public import proofs.«01_k».proof.Proof.Final
public import proofs.«01_k».proof.Proof.Gen.ReferenceIdeal
public import Idealize.ShloMosaic.PureOps.Ideal.Laws

@[expose] public section

noncomputable section

namespace Cert.ReferenceIdeal.Hand

open Idealize.ShloMosaic
open Cert.KernelIdeal.Hand (wt soft wt_sum_pos soft_of_shift coe_sum' coe_of logit attn hdOf)
open Cert.ReferenceIdeal Cert.ReferenceIdeal.Facts₀ Cert.ReferenceIdeal.Facts

/-- The masked scores. -/
def scores (a0 : FVec Ideal S16x2048x16x64 .f32) (a1 : FVec Ideal S16x2048x8x64 .f32) (a3 : FVec Ideal S16x2048x16 .f32) : FVec Ideal S16x8x2x2048x2048 .f32 :=
  let g : FVec Ideal S16x8x2x2048 .f32 := shapeCast S16x8x2x2048 (transpose S16x16x2048 [0, 2, 1] a3 transposes_S16x2048x16_S16x16x2048_0_2_1) shapeCasts_S16x16x2048_S16x8x2x2048
  let z : FVec Ideal S16x8x2x2048x2048 .f32 := transpose S16x8x2x2048x2048 [0, 1, 4, 3, 2] (Host.dotGeneral dot_S16x2048x8x64_S16x2048x8x2x64_S16x8x2048x2048x2_3_4_1_13_02_02 none a1 (shapeCast S16x2048x8x2x64 a0 shapeCasts_S16x2048x16x64_S16x2048x8x2x64)) transposes_S16x8x2048x2048x2_S16x8x2x2048x2048_0_1_4_3_2
  let n : IVec S2048 32 := iotaInDim S2048 32 0
  select (broadcastInDim S16x8x2x2048x2048 ![3, 4] bcast_S2048x2048_S16x8x2x2048x2048_3_4
      (cmpi .sge (subi (broadcastInDim S2048x2048 ![0, 1] bcast_S2048x1_S2048x2048_0_1 (broadcastInDim S2048x1 ![0] bcast_S2048_S2048x1_0 n))
          (broadcastInDim S2048x2048 ![0, 1] bcast_S1x2048_S2048x2048_0_1 (broadcastInDim S1x2048 ![1] bcast_S2048_S1x2048_1 n)))
        (broadcastInDim S2048x2048 ![] bcast_S_S2048x2048 (constantI S_ 32 0#32))))
    (subf (addf (mulf z (broadcastInDim S16x8x2x2048x2048 ![] bcast_S_S16x8x2x2048x2048 (constant S_ .f32 0x3E000000#32)))
        (broadcastInDim S16x8x2x2048x2048 ![0, 1, 2, 3, 4] bcast_S16x8x2x2048x1_S16x8x2x2048x2048_0_1_2_3_4 (broadcastInDim S16x8x2x2048x1 ![0, 1, 2, 3] bcast_S16x8x2x2048_S16x8x2x2048x1_0_1_2_3 g)))
      (broadcastInDim S16x8x2x2048x2048 ![0, 1, 2, 3, 4] bcast_S16x8x2x1x2048_S16x8x2x2048x2048_0_1_2_3_4 (broadcastInDim S16x8x2x1x2048 ![0, 1, 2, 4] bcast_S16x8x2x2048_S16x8x2x1x2048_0_1_2_4 g)))
    (broadcastInDim S16x8x2x2048x2048 ![] bcast_S_S16x8x2x2048x2048 (constant S_ .f32 0xFF800000#32))

/-- A row of scores spread over the keys. -/
def spread (x : FVec Ideal S16x8x2x2048 .f32) : FVec Ideal S16x8x2x2048x2048 .f32 :=
  broadcastInDim S16x8x2x2048x2048 ![0, 1, 2, 3, 4] bcast_S16x8x2x2048x1_S16x8x2x2048x2048_0_1_2_3_4 (broadcastInDim S16x8x2x2048x1 ![0, 1, 2, 3] bcast_S16x8x2x2048_S16x8x2x2048x1_0_1_2_3 x)

/-- The greatest score of each row. -/
def peak (s : FVec Ideal S16x8x2x2048x2048 .f32) : FVec Ideal S16x8x2x2048 .f32 :=
  Host.reduce FloatOps.maximumf s (constant S_ .f32 0xFF800000#32) reducesTo_S16x8x2x2048x2048_S16x8x2x2048_d4 h_S_

/-- The scores' exponentials, from a given value of each row. -/
def expo (s : FVec Ideal S16x8x2x2048x2048 .f32) (M : FVec Ideal S16x8x2x2048 .f32) : FVec Ideal S16x8x2x2048x2048 .f32 :=
  Host.exp (subf s (spread (maximumf (broadcastInDim S16x8x2x2048 ![] bcast_S_S16x8x2x2048 (constant S_ .f32 0xFF800000#32)) M)))

/-- Each row divided by its sum. -/
def norm (e : FVec Ideal S16x8x2x2048x2048 .f32) : FVec Ideal S16x8x2x2048x2048 .f32 :=
  Host.divf e (spread (Host.reduceAdd e (constant S_ .f32 0x00000000#32) reducesTo_S16x8x2x2048x2048_S16x8x2x2048_d4 h_S_))

/-- The values weighted, in the result's column order. -/
def mix (a2 : FVec Ideal S16x2048x8x64 .f32) (p : FVec Ideal S16x8x2x2048x2048 .f32) : FVec Ideal S16x2048x1024 .bf16 :=
  truncf .bf16 (shapeCast S16x2048x1024 (transpose S16x2048x4x2x2x64 [0, 1, 2, 4, 3, 5]
    (shapeCast S16x2048x4x2x2x64 (transpose S16x2048x8x2x64 [0, 4, 1, 3, 2] (Host.dotGeneral dot_S16x2048x8x64_S16x8x2x2048x2048_S16x8x64x2x2048_1_4_3_23_02_01 none a2 p) transposes_S16x8x64x2x2048_S16x2048x8x2x64_0_4_1_3_2)
      shapeCasts_S16x2048x8x2x64_S16x2048x4x2x2x64) transposes_S16x2048x4x2x2x64_S16x2048x4x2x2x64_0_1_2_4_3_5) shapeCasts_S16x2048x4x2x2x64_S16x2048x1024) bitsLt_bf16_f32

/-! ## Each read at an index -/
theorem spread_at (x : FVec Ideal S16x8x2x2048 .f32) (b : Fin 16) (v : Fin 8) (r : Fin 2) (q k : Fin 2048) : spread x (ix5 b v r q k) = x (ix4 b v r q) := by
  pointwise [spread]

theorem norm_at (e : FVec Ideal S16x8x2x2048x2048 .f32) (b : Fin 16) (v : Fin 8) (r : Fin 2) (q k : Fin 2048) : norm e (ix5 b v r q k) = Ideal.div (e (ix5 b v r q k)) (∑ j : Fin 2048, e (ix5 b v r q j)) := by
  unfold norm
  simp only [Host.divf_apply, spread_at]
  pointwise

theorem bot_lit : Ideal.ofBits .f32 0xFF800000#32 = (⊥ : EReal) := by simp [Ideal.ofBits, Ideal.ieee]
theorem eighth_lit : Ideal.ofBits .f32 0x3E000000#32 = ((1 / 8 : ℝ) : EReal) := by
  simp [Ideal.ofBits, Ideal.ieee, -EReal.coe_mul]
  norm_num

theorem expo_at (s : FVec Ideal S16x8x2x2048x2048 .f32) (M : FVec Ideal S16x8x2x2048 .f32) (b : Fin 16) (v : Fin 8) (r : Fin 2) (q k : Fin 2048) : expo s M (ix5 b v r q k) = Ideal.exp (s (ix5 b v r q k) - M (ix4 b v r q)) := by
  unfold expo
  pointwise [spread_at]
  rw [bot_lit, max_eq_right bot_le]

theorem peak_real (s : FVec Ideal S16x8x2x2048x2048 .f32) (b : Fin 16) (v : Fin 8) (r : Fin 2) (q : Fin 2048) (ht : ∀ k, s (ix5 b v r q k) < ⊤) (hb : ∃ k, ⊥ < s (ix5 b v r q k)) : ∃ z : ℝ, peak s (ix4 b v r q) = (z : EReal) := by
  have e : peak s (ix4 b v r q) = (Finset.univ.filter fun i => reducesTo_S16x8x2x2048x2048_S16x8x2x2048_d4.drop i = ix4 b v r q).fold max (⊥ : EReal) s := by
    unfold peak
    rw [Host.reduce_eq_fold]
    exact congrArg (fun z => Finset.fold max z s _) bot_lit
  rw [e]
  have h1 : (Finset.univ.filter fun i => reducesTo_S16x8x2x2048x2048_S16x8x2x2048_d4.drop i = ix4 b v r q).fold max (⊥ : EReal) s < ⊤ := by
    rw [Finset.fold_max_lt]
    refine ⟨bot_lt_top, fun i hi => ?_⟩
    have hi := (Finset.mem_filter.1 hi).2
    have e : i = ix5 b v r q (i 4) := by
      funext a
      fin_cases a
      · exact Fin.ext ((Shape.ReducesTo.drop_apply_val_of_eq reducesTo_S16x8x2x2048x2048_S16x8x2x2048_d4 i 0 0).symm.trans (congrArg (fun j : S16x8x2x2048.Idx => (j 0).val) hi))
      · exact Fin.ext ((Shape.ReducesTo.drop_apply_val_of_eq reducesTo_S16x8x2x2048x2048_S16x8x2x2048_d4 i 1 1).symm.trans (congrArg (fun j : S16x8x2x2048.Idx => (j 1).val) hi))
      · exact Fin.ext ((Shape.ReducesTo.drop_apply_val_of_eq reducesTo_S16x8x2x2048x2048_S16x8x2x2048_d4 i 2 2).symm.trans (congrArg (fun j : S16x8x2x2048.Idx => (j 2).val) hi))
      · exact Fin.ext ((Shape.ReducesTo.drop_apply_val_of_eq reducesTo_S16x8x2x2048x2048_S16x8x2x2048_d4 i 3 3).symm.trans (congrArg (fun j : S16x8x2x2048.Idx => (j 3).val) hi))
      · rfl
    rw [e]
    exact ht _
  have h2 : ⊥ < (Finset.univ.filter fun i => reducesTo_S16x8x2x2048x2048_S16x8x2x2048_d4.drop i = ix4 b v r q).fold max (⊥ : EReal) s := by
    rw [Finset.lt_fold_max]
    obtain ⟨k, hk⟩ := hb
    refine Or.inr ⟨ix5 b v r q k, Finset.mem_filter.2 ⟨Finset.mem_univ _, ?_⟩, hk⟩
    funext a
    fin_cases a
    · exact Fin.ext (Shape.ReducesTo.drop_apply_val_of_eq reducesTo_S16x8x2x2048x2048_S16x8x2x2048_d4 (ix5 b v r q k : S16x8x2x2048x2048.Idx) 0 0)
    · exact Fin.ext (Shape.ReducesTo.drop_apply_val_of_eq reducesTo_S16x8x2x2048x2048_S16x8x2x2048_d4 (ix5 b v r q k : S16x8x2x2048x2048.Idx) 1 1)
    · exact Fin.ext (Shape.ReducesTo.drop_apply_val_of_eq reducesTo_S16x8x2x2048x2048_S16x8x2x2048_d4 (ix5 b v r q k : S16x8x2x2048x2048.Idx) 2 2)
    · exact Fin.ext (Shape.ReducesTo.drop_apply_val_of_eq reducesTo_S16x8x2x2048x2048_S16x8x2x2048_d4 (ix5 b v r q k : S16x8x2x2048x2048.Idx) 3 3)
  exact ⟨_, (EReal.coe_toReal h1.ne h2.ne').symm⟩

/-- The values weighted, one product per value head and query. -/
def weigh (a2 : FVec Ideal S16x2048x8x64 .f32) (p : FVec Ideal S16x8x2x2048x2048 .f32) : FVec Ideal S16x8x64x2x2048 .f32 :=
  Host.dotGeneral dot_S16x2048x8x64_S16x8x2x2048x2048_S16x8x64x2x2048_1_4_3_23_02_01 none a2 p

/-- The same in the result's column order. -/
def order (w : FVec Ideal S16x8x64x2x2048 .f32) : FVec Ideal S16x2048x1024 .bf16 :=
  truncf .bf16 (shapeCast S16x2048x1024 (transpose S16x2048x4x2x2x64 [0, 1, 2, 4, 3, 5]
    (shapeCast S16x2048x4x2x2x64 (transpose S16x2048x8x2x64 [0, 4, 1, 3, 2] w transposes_S16x8x64x2x2048_S16x2048x8x2x64_0_4_1_3_2)
      shapeCasts_S16x2048x8x2x64_S16x2048x4x2x2x64) transposes_S16x2048x4x2x2x64_S16x2048x4x2x2x64_0_1_2_4_3_5) shapeCasts_S16x2048x4x2x2x64_S16x2048x1024) bitsLt_bf16_f32

theorem weigh_at (a2 : FVec Ideal S16x2048x8x64 .f32) (p : FVec Ideal S16x8x2x2048x2048 .f32) (b : Fin 16) (v : Fin 8) (d : Fin 64) (r : Fin 2) (T : Fin 2048) :
    weigh a2 p (ix5 b v d r T) = ∑ k : Fin 2048, a2 (ix4 b k v d) * p (ix5 b v r T k) := by
  pointwise [weigh]

theorem order_at (w : FVec Ideal S16x8x64x2x2048 .f32) (b : Fin 16) (T : Fin 2048) (x : Fin 1024) :
    order w (ix3 b T x) = w (ix5 b ⟨2 * (x.val / 256) + x.val / 64 % 2, by omega⟩ ⟨x.val % 64, by omega⟩ ⟨x.val / 128 % 2, by omega⟩ T) := by
  pointwise [order]
  exact congrArg (fun u => w (ix5 b u _ _ T)) (Fin.ext (by dsimp only; omega))

/-- The mask: a key is kept when it does not come after the query. -/
theorem select_mask {q k : ℕ} (hq : q < 2048) (hk : k < 2048) (a b : EReal) :
    Scalar.select (IntOp.cmpi .sge (IntOp.subi (BitVec.ofNat 32 q) (BitVec.ofNat 32 k)) 0#32) a b = if k ≤ q then a else b := by
  have h : (IntOp.cmpi .sge (IntOp.subi (BitVec.ofNat 32 q) (BitVec.ofNat 32 k)) 0#32 = 1) ↔ k ≤ q := by
    refine IntOp.cmpi_sge.trans ?_
    have e : ∀ n : ℕ, n < 2048 → (BitVec.ofNat 32 n).toInt = n := fun n hn => by
      rw [BitVec.toInt_eq_toNat_of_lt (by rw [BitVec.toNat_ofNat, Nat.mod_eq_of_lt] <;> omega), BitVec.toNat_ofNat, Nat.mod_eq_of_lt (by omega)]
    rw [show IntOp.subi (BitVec.ofNat 32 q) (BitVec.ofNat 32 k) = BitVec.ofNat 32 q - BitVec.ofNat 32 k from rfl, BitVec.toInt_sub, e q hq, e k hk, show (0#32 : BitVec 32).toInt = 0 by decide,
      Int.bmod_eq_of_le (by omega) (by omega)]
    omega
  unfold Scalar.select
  exact if_congr h rfl rfl

/-- The masked scores, from real arguments. -/
theorem scores_at {a0 : FVec Ideal S16x2048x16x64 .f32} {a1 : FVec Ideal S16x2048x8x64 .f32} {a3 : FVec Ideal S16x2048x16 .f32}
    (f0 : ∀ j, ∃ z : ℝ, a0 j = (z : EReal)) (f1 : ∀ j, ∃ z : ℝ, a1 j = (z : EReal)) (f3 : ∀ j, ∃ z : ℝ, a3 j = (z : EReal))
    (b : Fin 16) (v : Fin 8) (r : Fin 2) (q k : Fin 2048) (h : Fin 16) (hh : h.val = 2 * v.val + r.val) :
    scores a0 a1 a3 (ix5 b v r q k) = if k.val ≤ q.val then (logit a0 a1 a3 b q h k : EReal) else ⊥ := by
  pointwise [scores]
  rw [select_mask q.isLt k.isLt, bot_lit, eighth_lit]
  refine congrArg (fun z : EReal => if k.val ≤ q.val then z else ⊥) ?_
  have e : (⟨v.val * 2 + r.val, by omega⟩ : Fin 16) = h := Fin.ext (by dsimp only; omega)
  have e' : (⟨h.val / 2, by omega⟩ : Fin 8) = v := Fin.ext (by dsimp only; omega)
  rw [e]
  unfold logit
  rw [e', EReal.coe_sub, EReal.coe_add, EReal.coe_mul, coe_sum', ← coe_of (f3 _), ← coe_of (f3 _)]
  refine congrArg (fun z : EReal => z * ((1 / 8 : ℝ) : EReal) + a3 (ix3 b q h) - a3 (ix3 b k h)) (Finset.sum_congr rfl fun d _ => ?_)
  rw [EReal.coe_mul, ← coe_of (f0 _), ← coe_of (f1 _)]
  exact congrArg (fun u => a1 (ix4 b k v d) * a0 (ix4 b q u d)) e

/-- The softmax of a row of masked real scores. -/
theorem softmax_at (s : FVec Ideal S16x8x2x2048x2048 .f32) (b : Fin 16) (v : Fin 8) (r : Fin 2) (q : Fin 2048) (L : Fin 2048 → ℝ)
    (hs : ∀ k : Fin 2048, s (ix5 b v r q k) = if k.val ≤ q.val then (L k : EReal) else ⊥) (k : Fin 2048) :
    norm (expo s (peak s)) (ix5 b v r q k) = ((wt q.val L k / ∑ j, wt q.val L j : ℝ) : EReal) := by
  obtain ⟨M, hM⟩ := peak_real s b v r q (fun k => by rw [hs]; split <;> [exact EReal.coe_lt_top _; exact bot_lt_top])
    ⟨0, by rw [hs, if_pos (show (0 : Fin 2048).val ≤ q.val from Nat.zero_le _)]; exact EReal.bot_lt_coe _⟩
  have hE : ∀ k : Fin 2048, expo s (peak s) (ix5 b v r q k) = ((Real.exp (-M) * wt q.val L k : ℝ) : EReal) := fun k => by
    rw [expo_at, hM, hs]
    unfold wt
    split
    · rw [← EReal.coe_sub, show Ideal.exp ((L k - M : ℝ) : EReal) = ((Real.exp (L k - M) : ℝ) : EReal) from rfl, ← Real.exp_add]
      exact congrArg (fun z : ℝ => ((Real.exp z : ℝ) : EReal)) (by ring)
    · rw [EReal.bot_sub, mul_zero]
      rfl
  rw [norm_at, hE k, Finset.sum_congr rfl fun j _ => hE j]
  exact soft_of_shift q.val L (fun _ => 0) M k

/-- The reference's result, from real queries, keys and gates. -/
theorem ref_attn {a0 : FVec Ideal S16x2048x16x64 .f32} {a1 : FVec Ideal S16x2048x8x64 .f32} (a2 : FVec Ideal S16x2048x8x64 .f32) {a3 : FVec Ideal S16x2048x16 .f32}
    (f0 : ∀ j, ∃ z : ℝ, a0 j = (z : EReal)) (f1 : ∀ j, ∃ z : ℝ, a1 j = (z : EReal)) (f3 : ∀ j, ∃ z : ℝ, a3 j = (z : EReal)) :
    order (weigh a2 (norm (expo (scores a0 a1 a3) (peak (scores a0 a1 a3))))) = fun j : S16x2048x1024.Idx => attn a0 a1 a2 a3 (j 0) (j 1) (j 2) := by
  funext j
  obtain ⟨b, T, x, rfl⟩ : ∃ (b : Fin 16) (T : Fin 2048) (x : Fin 1024), j = ix3 b T x := ⟨j 0, j 1, j 2, by
    funext a; fin_cases a <;> rfl⟩
  show _ = attn a0 a1 a2 a3 b T x
  rw [order_at, weigh_at]
  unfold attn soft
  have hx := x.isLt
  refine Finset.sum_congr rfl fun k _ => ?_
  rw [softmax_at _ b _ _ T (logit a0 a1 a3 b T (hdOf x)) (fun k => scores_at f0 f1 f3 b _ _ T k (hdOf x) (by unfold hdOf; dsimp only; omega)) k]
  refine congrArg (fun u => a2 (ix4 b k u _) * _) (Fin.ext ?_)
  unfold hdOf
  dsimp only
  omega

end Cert.ReferenceIdeal.Hand
-- ==== Proof.Fin.lean ====
/-
  The precondition, read back: the queries, keys and gates are finite.
-/
module

public import proofs.«01_k».proof.Pre_finite
public import Idealize.ShloMosaic.Lib.ReduceAll
public import Idealize.ShloMosaic.PureOps.Ideal

@[expose] public section

noncomputable section

namespace Cert.Pre_finite

open Idealize.ShloMosaic

/-- The shape relations that the predicate states. -/
theorem facts : Facts where
  bcast_S_S16x2048x16x64 := by decide
  reducesTo_S16x2048x16x64_S_d0_1_2_3 := by decide
  h_S_ := by decide
  bcast_S_S16x2048x8x64 := by decide
  reducesTo_S16x2048x8x64_S_d0_1_2_3 := by decide
  bcast_S_S16x2048x16 := by decide
  reducesTo_S16x2048x16_S_d0_1_2 := by decide

/-- A number whose absolute value is below infinity is real. -/
theorem real_of_cmp (x : EReal) (h : Ideal.cmp .olt (max x (-x)) (Ideal.ofBits .f32 0x7F800000#32) = 1#1) : ∃ z : ℝ, x = (z : EReal) := by
  rw [show Ideal.ofBits .f32 0x7F800000#32 = (⊤ : EReal) by simp [Ideal.ofBits, Ideal.ieee]] at h
  induction x using EReal.rec with
  | bot => simp [Ideal.cmp] at h
  | coe z => exact ⟨z, rfl⟩
  | top => simp [Ideal.cmp] at h

theorem fin_of [Facts] {a0 : FVec Ideal S16x2048x16x64 .f32} {a1 a2 : FVec Ideal S16x2048x8x64 .f32} {a3 : FVec Ideal S16x2048x16 .f32} (h : fn a0 a1 a2 a3 = fun _ => 1#1) :
    (∀ j, ∃ z : ℝ, a0 j = (z : EReal)) ∧ (∀ j, ∃ z : ℝ, a1 j = (z : EReal)) ∧ (∀ j, ∃ z : ℝ, a3 j = (z : EReal)) := by
  have : Subsingleton S_.Idx := ⟨fun a b => funext fun i => i.elim0⟩
  have h := congrFun h (fun i => i.elim0)
  dsimp only [fn] at h
  obtain ⟨h01, h3⟩ := IntOp.andi_eq_one.1 h
  obtain ⟨h0, h1⟩ := IntOp.andi_eq_one.1 h01
  exact ⟨fun j => real_of_cmp _ (Host.reduce_andi_all _ _ _ _ _ h0 j), fun j => real_of_cmp _ (Host.reduce_andi_all _ _ _ _ _ h1 j), fun j => real_of_cmp _ (Host.reduce_andi_all _ _ _ _ _ h3 j)⟩

end Cert.Pre_finite
-- ==== Proof.Mlp.lean ====
/-
  The feed-forward part: what one block of 512 rows computes, row by row.
-/
module

public import proofs.«01_k».proof.Proof.Gen.Kernel2Ideal.Value
public import Idealize.ShloMosaic.Lib.Pointwise
public import Idealize.ShloMosaic.Lib.Pipeline.ValueKit
public import Idealize.ShloMosaic.Lib.Pipeline.Covers
public import Idealize.ShloMosaic.PureOps.Ideal.Laws

@[expose] public section
set_option maxRecDepth 16384
noncomputable section
namespace Cert.Mlp
open Idealize.ShloMosaic

/-- A row divided by its root mean square, times a gain. -/
def nrm (x g : Fin 1024 → EReal) (i : Fin 1024) : EReal :=
  x i * Ideal.rsqrt (Ideal.div (∑ j, x j * x j) (Ideal.ofBits .f32 0x44800000#32) + Ideal.ofBits .f32 0x358637BD#32) * g i

/-- A hidden unit of a row: the positive part of its product with a column. -/
def unit (h u : Fin 1024 → EReal) : EReal := max (∑ i, h i * u i) 0

/-- A row after the feed-forward part: the row plus its squared hidden units times the second matrix. -/
def ffn (x g : Fin 1024 → EReal) (U : Fin 1024 → Fin 4096 → EReal) (W : Fin 4096 → Fin 1024 → EReal) (j : Fin 1024) : EReal :=
  x j + ∑ k : Fin 4096, unit (nrm x g) (fun i => U i k) * unit (nrm x g) (fun i => U i k) * W k j

/-- A row of the result: the row after the feed-forward part, divided by its root mean square, times the last gain. -/
def out (x g : Fin 1024 → EReal) (U : Fin 1024 → Fin 4096 → EReal) (W : Fin 4096 → Fin 1024 → EReal) (gf : Fin 1024 → EReal) (j : Fin 1024) : EReal :=
  nrm (ffn x g U W) gf j

/-- A sum over the 4096 hidden units is the sum of the four sums over 1024 of them. -/
theorem sum_four (f : Fin 4096 → EReal) :
    ∑ k, f k = (∑ k : Fin 1024, f ⟨k.val, by omega⟩) + (∑ k : Fin 1024, f ⟨1024 + k.val, by omega⟩) + (∑ k : Fin 1024, f ⟨2048 + k.val, by omega⟩) + ∑ k : Fin 1024, f ⟨3072 + k.val, by omega⟩ := by
  have h1 := Fin.sum_univ_add (a := 3072) (b := 1024) f
  have h2 := Fin.sum_univ_add (a := 2048) (b := 1024) fun i => f ⟨i.val, by omega⟩
  have h3 := Fin.sum_univ_add (a := 1024) (b := 1024) fun i => f ⟨i.val, by omega⟩
  exact h1.trans (congrArg₂ (· + ·) (h2.trans (congrArg₂ (· + ·) (h3.trans rfl) rfl)) rfl)

theorem out_congr {x x' g g' gf gf' : Fin 1024 → EReal} {U U' : Fin 1024 → Fin 4096 → EReal} {W W' : Fin 4096 → Fin 1024 → EReal}
    (hx : ∀ i, x i = x' i) (hg : ∀ i, g i = g' i) (hU : ∀ i k, U i k = U' i k) (hW : ∀ k i, W k i = W' k i) (hf : ∀ i, gf i = gf' i) (j : Fin 1024) :
    out x g U W gf j = out x' g' U' W' gf' j := by
  rw [funext hx, funext hg, funext fun i => funext (hU i), funext fun k => funext (hW k), funext hf]

end Cert.Mlp

namespace Cert.Kernel2Ideal.Hand
open Cert.Kernel2Ideal Cert.Kernel2Ideal.Gen Cert.Mlp
open Idealize.ShloMosaic Idealize.ShloMosaic.TcCoe

/-- A block's rows divided by their root mean squares, times the gain. -/
def nrmB (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- The hidden units of a quarter of the columns. -/
def unitB (h : FVec Ideal S512x1024 .bf16) (U : FVec Ideal S1024x1024 .bf16) : FVec Ideal S512x1024 .f32 :=
  maximumf (matmul dot_S512x1024_S1024x1024_S512x1024_1_0_0_1_n_n none h (shapeCast S1024x1024 U shapeCasts_S1024x1024_S1024x1024) (constant S512x1024 .f32 0x00000000#32))
    (broadcast S512x1024 (Scalar.ofBits .f32 0x00000000#32))

/-- What a quarter of the hidden units adds. -/
def partB (u : FVec Ideal S512x1024 .f32) (W : FVec Ideal S1024x1024 .bf16) : FVec Ideal S512x1024 .f32 :=
  matmul dot_S512x1024_S1024x1024_S512x1024_1_0_0_1_n_n none (truncf .bf16 (mulf u u) bitsLt_bf16_f32) (shapeCast S1024x1024 W shapeCasts_S1024x1024_S1024x1024) (constant S512x1024 .f32 0x00000000#32)

theorem nrmB_at (x : FVec Ideal S512x1024 .f32) (g : FVec Ideal S1x1024 .f32) (r : Fin 512) (j : Fin 1024) :
    nrmB x g (ix2 r j) = nrm (fun i => x (ix2 r i)) (fun i => g (ix2 0 i)) j := by
  pointwise [nrmB, nrm]

theorem unitB_at (h : FVec Ideal S512x1024 .bf16) (U : FVec Ideal S1024x1024 .bf16) (r : Fin 512) (k : Fin 1024) :
    unitB h U (ix2 r k) = unit (fun i => h (ix2 r i)) (fun i => U (ix2 i k)) := by
  pointwise [unitB, unit]

theorem partB_at (u : FVec Ideal S512x1024 .f32) (W : FVec Ideal S1024x1024 .bf16) (r : Fin 512) (j : Fin 1024) :
    partB u W (ix2 r j) = ∑ k : Fin 1024, u (ix2 r k) * u (ix2 r k) * W (ix2 k j) := by
  pointwise [partB]

/-- The block's rows after the feed-forward part, a quarter of the hidden units at a time. -/
def ffnB (x : FVec Ideal S512x1024 .f32) (g : FVec Ideal S1x1024 .f32) (U0 W0 U1 W1 U2 W2 U3 W3 : FVec Ideal S1024x1024 .bf16) : FVec Ideal S512x1024 .f32 :=
  addf (addf (addf (addf x (partB (unitB (truncf .bf16 (nrmB x g) bitsLt_bf16_f32) U0) W0)) (partB (unitB (truncf .bf16 (nrmB x g) bitsLt_bf16_f32) U1) W1))
    (partB (unitB (truncf .bf16 (nrmB x g) bitsLt_bf16_f32) U2) W2)) (partB (unitB (truncf .bf16 (nrmB x g) bitsLt_bf16_f32) U3) W3)

theorem pay_eq (x : FVec Ideal S512x1024 .f32) (g gf : FVec Ideal S1x1024 .f32) (U0 W0 U1 W1 U2 W2 U3 W3 : FVec Ideal S1024x1024 .bf16) :
    k0_pay5 (k0_pay2 x g) (k0_pay3 x g U0 W0) (k0_pay4 x g U1 W1) U2 W2 U3 W3 gf = nrmB (ffnB (shapeCast S512x1024 x shapeCasts_S512x1024_S512x1024) g U0 W0 U1 W1 U2 W2 U3 W3) gf := rfl

theorem whole_at (x : FVec Ideal S512x1024 .f32) (r : Fin 512) (j : Fin 1024) : shapeCast S512x1024 x shapeCasts_S512x1024_S512x1024 (ix2 r j) = x (ix2 r j) := by
  pointwise

/-- A block's row after the feed-forward part, from the quarters of the two matrices. -/
theorem ffnB_at (x : FVec Ideal S512x1024 .f32) (g : FVec Ideal S1x1024 .f32) (U0 W0 U1 W1 U2 W2 U3 W3 : FVec Ideal S1024x1024 .bf16)
    (U : Fin 1024 → Fin 4096 → EReal) (W : Fin 4096 → Fin 1024 → EReal)
    (hU0 : ∀ i k : Fin 1024, U0 (ix2 i k) = U i ⟨k.val, by omega⟩) (hU1 : ∀ i k : Fin 1024, U1 (ix2 i k) = U i ⟨1024 + k.val, by omega⟩)
    (hU2 : ∀ i k : Fin 1024, U2 (ix2 i k) = U i ⟨2048 + k.val, by omega⟩) (hU3 : ∀ i k : Fin 1024, U3 (ix2 i k) = U i ⟨3072 + k.val, by omega⟩)
    (hW0 : ∀ k i : Fin 1024, W0 (ix2 k i) = W ⟨k.val, by omega⟩ i) (hW1 : ∀ k i : Fin 1024, W1 (ix2 k i) = W ⟨1024 + k.val, by omega⟩ i)
    (hW2 : ∀ k i : Fin 1024, W2 (ix2 k i) = W ⟨2048 + k.val, by omega⟩ i) (hW3 : ∀ k i : Fin 1024, W3 (ix2 k i) = W ⟨3072 + k.val, by omega⟩ i)
    (r : Fin 512) (j : Fin 1024) :
    ffnB x g U0 W0 U1 W1 U2 W2 U3 W3 (ix2 r j) = ffn (fun i => x (ix2 r i)) (fun i => g (ix2 0 i)) U W j := by
  have hp : ∀ (Uq Wq : FVec Ideal S1024x1024 .bf16) (q : Fin 1024 → Fin 4096), (∀ i k : Fin 1024, Uq (ix2 i k) = U i (q k)) → (∀ k i : Fin 1024, Wq (ix2 k i) = W (q k) i) →
      partB (unitB (truncf .bf16 (nrmB x g) bitsLt_bf16_f32) Uq) Wq (ix2 r j) =
        ∑ k : Fin 1024, unit (nrm (fun i => x (ix2 r i)) fun i => g (ix2 0 i)) (fun i => U i (q k)) * unit (nrm (fun i => x (ix2 r i)) fun i => g (ix2 0 i)) (fun i => U i (q k)) * W (q k) j := by
    intro Uq Wq q hU hW
    rw [partB_at]
    refine Finset.sum_congr rfl fun k _ => ?_
    have e : unitB (truncf .bf16 (nrmB x g) bitsLt_bf16_f32) Uq (ix2 r k) = unit (nrm (fun i => x (ix2 r i)) fun i => g (ix2 0 i)) (fun i => U i (q k)) := by
      rw [unitB_at]
      exact congrArg₂ unit (funext fun i => nrmB_at x g r i) (funext fun i => hU i k)
    rw [e, hW]
  unfold ffn
  rw [sum_four, ← add_assoc, ← add_assoc, ← add_assoc, ← hp U0 W0 (fun k => ⟨k.val, by omega⟩) hU0 hW0, ← hp U1 W1 (fun k => ⟨1024 + k.val, by omega⟩) hU1 hW1,
    ← hp U2 W2 (fun k => ⟨2048 + k.val, by omega⟩) hU2 hW2, ← hp U3 W3 (fun k => ⟨3072 + k.val, by omega⟩) hU3 hW3]
  rfl

/-- A quarter of the first matrix's columns. -/
theorem ld_cols (X : Vec Ideal S1024x4096 .bf16) (n : ℕ) (inb) (i k : Fin 1024) (hk : n + k.val < 4096) :
    View.ld X (Rect.unit (s := S1024x4096) ![0, n] S1024x1024.size inb) (ix2 i k) = X (ix2 i ⟨n + k.val, hk⟩) := by
  refine congrArg X (funext fun a => ?_)
  fin_cases a <;> apply Fin.ext <;> simp [ix2, Rect.emb, Rect.unit]
/-- A quarter of the second matrix's rows. -/
theorem ld_rows (X : Vec Ideal S4096x1024 .bf16) (n : ℕ) (inb) (k i : Fin 1024) (hk : n + k.val < 4096) :
    View.ld X (Rect.unit (s := S4096x1024) ![n, 0] S1024x1024.size inb) (ix2 k i) = X (ix2 ⟨n + k.val, hk⟩ i) := by
  refine congrArg X (funext fun a => ?_)
  fin_cases a <;> apply Fin.ext <;> simp [ix2, Rect.emb, Rect.unit]
theorem ld_x (X : Vec Ideal S512x1024 .f32) (r : Fin 512) (i : Fin 1024) : View.ld X r0_0 (ix2 r i) = X (ix2 r i) := by
  refine congrArg X (funext fun a => ?_)
  fin_cases a <;> apply Fin.ext <;> simp [ix2, Rect.emb, Rect.unit]
theorem ld_g (X : Vec Ideal S1x1024 .f32) (i : Fin 1024) : View.ld X r0_1 (ix2 0 i) = X (ix2 0 i) := by
  refine congrArg X (funext fun a => ?_)
  fin_cases a <;> apply Fin.ext <;> simp [ix2, Rect.emb, Rect.unit]

/-- What the body leaves in its output's buffer, row by row. -/
theorem out_at (X : Vec Ideal S512x1024 .f32) (g : Vec Ideal S1x1024 .f32) (U : Vec Ideal S1024x4096 .bf16) (W : Vec Ideal S4096x1024 .bf16) (gf : Vec Ideal S1x1024 .f32) (r : Fin 512) (j : Fin 1024) :
    out0_5 X g U W gf (ix2 r j) = out (fun i => X (ix2 r i)) (fun i => g (ix2 0 i)) (fun i k => U (ix2 i k)) (fun k i => W (ix2 k i)) (fun i => gf (ix2 0 i)) j := by
  have e : out0_5 X g U W gf (ix2 r j) = k0_pay5 (k0_pay2 (View.ld X r0_0) (View.ld g r0_1)) (k0_pay3 (View.ld X r0_0) (View.ld g r0_1) (View.ld U r0_2) (View.ld W r0_3)) (k0_pay4 (View.ld X r0_0) (View.ld g r0_1) (View.ld U r0_4) (View.ld W r0_5)) (View.ld U r0_6) (View.ld W r0_7) (View.ld U r0_8) (View.ld W r0_9) (View.ld gf r0_1) (ix2 r j) := by
    unfold out0_5
    rw [View.canon_unit_zero (by funext a; fin_cases a <;> rfl)]
  rw [e, pay_eq, nrmB_at]
  unfold out
  refine congrArg₂ (fun u v => nrm u v j) (funext fun i => ?_) (funext fun i => ld_g gf i)
  rw [ffnB_at _ _ _ _ _ _ _ _ _ _ (fun i k => U (ix2 i k)) (fun k i => W (ix2 k i))
    (fun i k => (ld_cols U 0 _ i k (by omega)).trans (congrArg (fun u => U (ix2 i u)) (Fin.ext (by dsimp only; omega)))) (fun i k => ld_cols U 1024 _ i k (by omega)) (fun i k => ld_cols U 2048 _ i k (by omega)) (fun i k => ld_cols U 3072 _ i k (by omega))
    (fun k i => (ld_rows W 0 _ k i (by omega)).trans (congrArg (fun u => W (ix2 u i)) (Fin.ext (by dsimp only; omega)))) (fun k i => ld_rows W 1024 _ k i (by omega)) (fun k i => ld_rows W 2048 _ k i (by omega)) (fun k i => ld_rows W 3072 _ k i (by omega))]
  exact congrArg₂ (fun u v => ffn u v _ _ i) (funext fun i => (whole_at _ r i).trans (ld_x X r i)) (funext fun i => ld_g g i)

section Array
variable (m : (ℓ : Loc nD τ sig) → Buf (Elt Ideal) ℓ) (c : Dev nD) (t : Fin cfg0.N)

theorem idx0 : ∀ t : Fin grid0.N, win0_0.index t = ![(grid0.coords t 0).val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![(grid0.coords t 0).val, 0] := by decide +kernel
theorem lt64 (i : grid0.Coords) : (i 0).val < 64 := (i 0).isLt

/-- The arguments. -/
def aX : Vec Ideal S16x2048x1024 .f32 := m ((c.tc : Thread nD τ).loc main_arg0)
def aG : Vec Ideal S1x1024 .f32 := m ((c.tc : Thread nD τ).loc main_arg1)
def aU : Vec Ideal S1x1024x4096 .f32 := m ((c.tc : Thread nD τ).loc main_arg2)
def aW : Vec Ideal S1x4096x1024 .f32 := m ((c.tc : Thread nD τ).loc main_arg3)
def aF : Vec Ideal S1024 .f32 := m ((c.tc : Thread nD τ).loc main_arg4)

theorem V_v7 (R : Fin 32768) (i : Fin 1024) : V m c main_v7 (ix2 R i) = aX m c (ix3 ⟨R.val / 2048, by omega⟩ ⟨R.val % 2048, by omega⟩ i) := by
  unfold aX
  entry_read
  pointwise
theorem V_v5 (i : Fin 1024) : V m c main_v5 (ix2 0 i) = aG m c (ix2 0 i) := by
  unfold aG
  entry_read
  pointwise
theorem V_v1 (i : Fin 1024) (k : Fin 4096) : V m c main_v1 (ix2 i k) = aU m c (ix3 0 i k) := by
  unfold aU
  entry_read
  pointwise
theorem V_v3 (k : Fin 4096) (i : Fin 1024) : V m c main_v3 (ix2 k i) = aW m c (ix3 0 k i) := by
  unfold aW
  entry_read
  pointwise
theorem V_v6 (i : Fin 1024) : V m c main_v6 (ix2 0 i) = aF m c (ix1 i) := by
  unfold aF
  entry_read
  pointwise

theorem iblk0_at (r : Fin 512) (i : Fin 1024) : iblk m c 0 t (ix2 r i) = V m c main_v7 (ix2 ⟨512 * (grid0.coords t 0).val + r.val, by have := lt64 (grid0.coords t); omega⟩ i) := by
  blk_ext [iblk, idx0 t]
theorem iblk1_at (i : Fin 1024) : iblk m c 1 t (ix2 0 i) = V m c main_v5 (ix2 0 i) := by
  blk_ext [iblk, idx1 t]
theorem iblk2_at (i : Fin 1024) (k : Fin 4096) : iblk m c 2 t (ix2 i k) = V m c main_v1 (ix2 i k) := by
  blk_ext [iblk, idx2 t]
theorem iblk3_at (k : Fin 4096) (i : Fin 1024) : iblk m c 3 t (ix2 k i) = V m c main_v3 (ix2 k i) := by
  blk_ext [iblk, idx3 t]
theorem iblk4_at (i : Fin 1024) : iblk m c 4 t (ix2 0 i) = V m c main_v6 (ix2 0 i) := by
  blk_ext [iblk, idx4 t]

theorem covers5 : (cfg0.win 5).Covers := by decide +kernel

/-- The result of the feed-forward part, from the arguments: row `R` of all the prompts' rows. -/
def res (x : Vec Ideal S16x2048x1024 .f32) (g : Vec Ideal S1x1024 .f32) (U : Vec Ideal S1x1024x4096 .f32) (W : Vec Ideal S1x4096x1024 .f32) (gf : Vec Ideal S1024 .f32) (R : Fin 32768) (j : Fin 1024) : EReal :=
  out (fun i => x (ix3 ⟨R.val / 2048, by omega⟩ ⟨R.val % 2048, by omega⟩ i)) (fun i => g (ix2 0 i)) (fun i k => U (ix3 0 i k)) (fun k i => W (ix3 0 k i)) (fun i => gf (ix1 i)) j

/-- The kernel's result array. -/
theorem arr_mlp : (dats m 0 c).arrAt 5 cfg0.N = fun j : S32768x1024.Idx => res (aX m c) (aG m c) (aU m c) (aW m c) (aF m c) (j 0) (j 1) := by
  refine (dats m 0 c).arrAt_eq_of_covers 5 _ covers5 fun t hf y => ?_
  blk_simp
  rw [after0_5]
  obtain ⟨r, j, rfl⟩ : ∃ (r : Fin 512) (j : Fin 1024), y = ix2 r j := ⟨y 0, y 1, by funext a; fin_cases a <;> rfl⟩
  have e : ((win0_5.blk t).view.emb (ix2 r j) : S32768x1024.Idx) = ix2 ⟨512 * (grid0.coords t 0).val + r.val, by have := lt64 (grid0.coords t); omega⟩ j := by
    blk_ext [idx5 t]
  refine (out_at _ _ _ _ _ r j).trans (Eq.trans ?_ (congrArg (fun j : S32768x1024.Idx => res (aX m c) (aG m c) (aU m c) (aW m c) (aF m c) (j 0) (j 1)) e).symm)
  exact out_congr (fun i => (iblk0_at m c t r i).trans (V_v7 m c _ i)) (fun i => (iblk1_at m c t i).trans (V_v5 m c i)) (fun i k => (iblk2_at m c t i k).trans (V_v1 m c i k))
    (fun k i => (iblk3_at m c t k i).trans (V_v3 m c k i)) (fun i => (iblk4_at m c t i).trans (V_v6 m c i)) j
end Array

end Cert.Kernel2Ideal.Hand
end
-- ==== Proof.MlpRef.lean ====
/-
  What the reference's feed-forward part computes, read at an index.
-/
module

public import proofs.«01_k».proof.Proof.Mlp
public import proofs.«01_k».proof.Proof.Gen.Reference2Ideal
public import Idealize.ShloMosaic.PureOps.Ideal.Laws

@[expose] public section
set_option maxRecDepth 16384
noncomputable section
namespace Cert.Reference2Ideal.Hand
open Idealize.ShloMosaic Cert.Mlp
open Cert.Kernel2Ideal.Hand (res)
open Cert.Reference2Ideal Cert.Reference2Ideal.Facts₀ Cert.Reference2Ideal.Facts

/-- The sum of each row's squares. -/
def sqR (x : FVec Ideal S16x2048x1024 .f32) : FVec Ideal S16x2048 .f32 :=
  Host.reduceAdd (mulf x x) (constant S_ .f32 0x00000000#32) reducesTo_S16x2048x1024_S16x2048_d2 h_S_

/-- Every row times the reciprocal root of its mean square, times the gain. -/
def scaleR (x : FVec Ideal S16x2048x1024 .f32) (s : FVec Ideal S16x2048 .f32) (g : FVec Ideal S1024 .f32) : FVec Ideal S16x2048x1024 .f32 :=
  mulf (mulf x (broadcastInDim S16x2048x1024 ![0, 1, 2] bcast_S16x2048x1_S16x2048x1024_0_1_2
      (Host.rsqrt (addf (Host.divf (broadcastInDim S16x2048x1 ![0, 1] bcast_S16x2048_S16x2048x1_0_1 s) (broadcastInDim S16x2048x1 ![] bcast_S_S16x2048x1 (constant S_ .f32 0x44800000#32)))
        (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))

/-- The products with the first matrix. -/
def upR (h : FVec Ideal S16x2048x1024 .f32) (U : FVec Ideal S1x1024x4096 .f32) : FVec Ideal S16x2048x4096 .f32 :=
  Host.dotGeneral dot_S16x2048x1024_S1024x4096_S16x2048x4096_2_0_01_1_n_n none h (shapeCast S1024x4096 U shapeCasts_S1x1024x4096_S1024x4096)

/-- Their positive parts. -/
def reluR (z : FVec Ideal S16x2048x4096 .f32) : FVec Ideal S16x2048x4096 .f32 :=
  maximumf z (broadcastInDim S16x2048x4096 ![] bcast_S_S16x2048x4096 (constant S_ .f32 0x00000000#32))

/-- The squares' products with the second matrix. -/
def downR (u : FVec Ideal S16x2048x4096 .f32) (W : FVec Ideal S1x4096x1024 .f32) : FVec Ideal S16x2048x1024 .f32 :=
  Host.dotGeneral dot_S16x2048x4096_S4096x1024_S16x2048x1024_2_0_01_1_n_n none (mulf u u) (shapeCast S4096x1024 W shapeCasts_S1x4096x1024_S4096x1024)

/-- The rows after the feed-forward part. -/
def ffnR (x : FVec Ideal S16x2048x1024 .f32) (g : FVec Ideal S1x1024 .f32) (U : FVec Ideal S1x1024x4096 .f32) (W : FVec Ideal S1x4096x1024 .f32) : FVec Ideal S16x2048x1024 .f32 :=
  addf x (downR (reluR (upR (scaleR x (sqR x) (shapeCast S1024 g shapeCasts_S1x1024_S1024)) U)) W)

theorem sqR_at (x : FVec Ideal S16x2048x1024 .f32) (b : Fin 16) (q : Fin 2048) : sqR x (ix2 b q) = ∑ i : Fin 1024, x (ix3 b q i) * x (ix3 b q i) := by
  pointwise [sqR]
theorem scaleR_at (x : FVec Ideal S16x2048x1024 .f32) (s : FVec Ideal S16x2048 .f32) (g : FVec Ideal S1024 .f32) (b : Fin 16) (q : Fin 2048) (j : Fin 1024) :
    scaleR x s g (ix3 b q j) = x (ix3 b q j) * Ideal.rsqrt (Ideal.div (s (ix2 b q)) (Ideal.ofBits .f32 0x44800000#32) + Ideal.ofBits .f32 0x358637BD#32) * g (ix1 j) := by
  pointwise [scaleR, Host.rsqrt_apply, Host.divf_apply]
theorem upR_at (h : FVec Ideal S16x2048x1024 .f32) (U : FVec Ideal S1x1024x4096 .f32) (b : Fin 16) (q : Fin 2048) (k : Fin 4096) :
    upR h U (ix3 b q k) = ∑ i : Fin 1024, h (ix3 b q i) * U (ix3 0 i k) := by
  pointwise [upR]
theorem reluR_at (z : FVec Ideal S16x2048x4096 .f32) (b : Fin 16) (q : Fin 2048) (k : Fin 4096) : reluR z (ix3 b q k) = max (z (ix3 b q k)) 0 := by
  pointwise [reluR]
theorem downR_at (u : FVec Ideal S16x2048x4096 .f32) (W : FVec Ideal S1x4096x1024 .f32) (b : Fin 16) (q : Fin 2048) (j : Fin 1024) :
    downR u W (ix3 b q j) = ∑ k : Fin 4096, u (ix3 b q k) * u (ix3 b q k) * W (ix3 0 k j) := by
  pointwise [downR]
theorem gain_at (g : FVec Ideal S1x1024 .f32) (j : Fin 1024) : shapeCast S1024 g shapeCasts_S1x1024_S1024 (ix1 j) = g (ix2 0 j) := by
  pointwise
theorem rows_at (y : FVec Ideal S16x2048x1024 .f32) (R : Fin 32768) (j : Fin 1024) :
    shapeCast S32768x1024 y shapeCasts_S16x2048x1024_S32768x1024 (ix2 R j) = y (ix3 ⟨R.val / 2048, by omega⟩ ⟨R.val % 2048, by omega⟩ j) := by
  pointwise

/-- A normalised row. -/
theorem nrmR_at (x : FVec Ideal S16x2048x1024 .f32) (g : FVec Ideal S1024 .f32) (b : Fin 16) (q : Fin 2048) (j : Fin 1024) :
    scaleR x (sqR x) g (ix3 b q j) = nrm (fun i => x (ix3 b q i)) (fun i => g (ix1 i)) j := by
  rw [scaleR_at, sqR_at]
  rfl

/-- A row after the feed-forward part. -/
theorem ffnR_at (x : FVec Ideal S16x2048x1024 .f32) (g : FVec Ideal S1x1024 .f32) (U : FVec Ideal S1x1024x4096 .f32) (W : FVec Ideal S1x4096x1024 .f32) (b : Fin 16) (q : Fin 2048) (j : Fin 1024) :
    ffnR x g U W (ix3 b q j) = ffn (fun i => x (ix3 b q i)) (fun i => g (ix2 0 i)) (fun i k => U (ix3 0 i k)) (fun k i => W (ix3 0 k i)) j := by
  have hu : ∀ k : Fin 4096, reluR (upR (scaleR x (sqR x) (shapeCast S1024 g shapeCasts_S1x1024_S1024)) U) (ix3 b q k) = unit (nrm (fun i => x (ix3 b q i)) fun i => g (ix2 0 i)) fun i => U (ix3 0 i k) := fun k => by
    rw [reluR_at, upR_at]
    unfold unit
    refine congrArg (fun z => max z 0) (Finset.sum_congr rfl fun i _ => ?_)
    rw [nrmR_at, funext (gain_at g)]
  unfold ffn
  refine (congrArg (fun z => x (ix3 b q j) + z) ((downR_at _ W b q j).trans (Finset.sum_congr rfl fun k _ => ?_)))
  rw [hu]

/-- The reference's result. -/
theorem ref_mlp (x : FVec Ideal S16x2048x1024 .f32) (g : FVec Ideal S1x1024 .f32) (U : FVec Ideal S1x1024x4096 .f32) (W : FVec Ideal S1x4096x1024 .f32) (gf : FVec Ideal S1024 .f32) :
    shapeCast S32768x1024 (scaleR (ffnR x g U W) (sqR (ffnR x g U W)) gf) shapeCasts_S16x2048x1024_S32768x1024 = fun j : S32768x1024.Idx => res x g U W gf (j 0) (j 1) := by
  funext j
  obtain ⟨R, i, rfl⟩ : ∃ (R : Fin 32768) (i : Fin 1024), j = ix2 R i := ⟨j 0, j 1, by funext a; fin_cases a <;> rfl⟩
  show _ = res x g U W gf R i
  rw [rows_at, nrmR_at]
  unfold res out
  exact congrArg (fun z => nrm z _ i) (funext fun k => ffnR_at x g U W _ _ k)

end Cert.Reference2Ideal.Hand
end
-- ==== Proof.Merge.lean ====
/-
  The merge of the two attentions' results: what one block of 512 rows computes, row by row.
-/
module

public import proofs.«01_k».proof.Proof.Gen.Kernel3Ideal.Value
public import Idealize.ShloMosaic.Lib.Pointwise
public import Idealize.ShloMosaic.Lib.Pipeline.ValueKit
public import Idealize.ShloMosaic.Lib.Pipeline.Covers
public import Idealize.ShloMosaic.PureOps.Ideal.Laws

@[expose] public section
set_option maxRecDepth 16384
noncomputable section
namespace Cert.Merge
open Idealize.ShloMosaic

/-- Where a column of the heads laid out as 4p, 4p+2, 4p+1, 4p+3 stands among the heads in their own order. -/
def head (k : Fin 1024) : Fin 1024 := ⟨256 * (k.val / 256) + 128 * (k.val / 64 % 2) + 64 * (k.val / 128 % 2) + k.val % 64, by omega⟩

theorem head_head : ∀ k : Fin 1024, head (head k) = k := by decide +kernel

/-- A sum over the columns in the one order is the sum in the other. -/
theorem sum_head (f : Fin 1024 → EReal) : ∑ k, f (head k) = ∑ k, f k :=
  Equiv.sum_comp (Function.Involutive.toPerm head head_head) f

/-- A row of the gated sum of the two projections; the second row's heads are laid out as 4p, 4p+2, 4p+1, 4p+3. -/
def gated (oa ob ga gb : Fin 1024 → EReal) (A B : Fin 1024 → Fin 1024 → EReal) (i : Fin 1024) : EReal :=
  ga i * (∑ k, oa k * A k i) + gb i * ∑ k, ob k * B (head k) i

/-- A row of the result: the row plus the gated sum's product with the last matrix. -/
def out (x oa ob ga gb : Fin 1024 → EReal) (A B O : Fin 1024 → Fin 1024 → EReal) (j : Fin 1024) : EReal :=
  x j + ∑ i, gated oa ob ga gb A B i * O i j

theorem out_congr {x x' oa oa' ob ob' ga ga' gb gb' : Fin 1024 → EReal} {A A' B B' O O' : Fin 1024 → Fin 1024 → EReal}
    (hx : ∀ i, x i = x' i) (ha : ∀ i, oa i = oa' i) (hb : ∀ i, ob i = ob' i) (hg : ∀ i, ga i = ga' i) (hh : ∀ i, gb i = gb' i)
    (hA : ∀ k i, A k i = A' k i) (hB : ∀ k i, B k i = B' k i) (hO : ∀ k i, O k i = O' k i) (j : Fin 1024) :
    out x oa ob ga gb A B O j = out x' oa' ob' ga' gb' A' B' O' j := by
  rw [funext hx, funext ha, funext hb, funext hg, funext hh, funext fun k => funext (hA k), funext fun k => funext (hB k), funext fun k => funext (hO k)]

end Cert.Merge

namespace Cert.Kernel3Ideal.Hand
open Cert.Kernel3Ideal Cert.Kernel3Ideal.Gen Cert.Merge
open Idealize.ShloMosaic Idealize.ShloMosaic.TcCoe

/-- A block's rows times a matrix. -/
def dotB (l : FVec Ideal S512x1024 .bf16) (r : FVec Ideal S1024x1024 .bf16) : FVec Ideal S512x1024 .f32 :=
  matmul dot_S512x1024_S1024x1024_S512x1024_1_0_0_1_n_n none l (shapeCast S1024x1024 r shapeCasts_S1024x1024_S1024x1024) (constant S512x1024 .f32 0x00000000#32)

/-- The gated sum of the block's two projections. -/
def gatedB (oa ob ga gb : FVec Ideal S512x1024 .bf16) (A B : FVec Ideal S1024x1024 .bf16) : FVec Ideal S512x1024 .bf16 :=
  truncf .bf16 (addf (mulf (extf .f32 ga bitsLt_bf16_f32) (dotB (shapeCast S512x1024 oa shapeCasts_S512x1024_S512x1024) A))
    (mulf (extf .f32 gb bitsLt_bf16_f32) (dotB (shapeCast S512x1024 ob shapeCasts_S512x1024_S512x1024) B))) bitsLt_bf16_f32

theorem dotB_at (l : FVec Ideal S512x1024 .bf16) (r : FVec Ideal S1024x1024 .bf16) (a : Fin 512) (j : Fin 1024) :
    dotB l r (ix2 a j) = ∑ k : Fin 1024, l (ix2 a k) * r (ix2 k j) := by
  pointwise [dotB]

theorem wholeF_at (x : FVec Ideal S512x1024 .f32) (a : Fin 512) (j : Fin 1024) : shapeCast S512x1024 x shapeCasts_S512x1024_S512x1024 (ix2 a j) = x (ix2 a j) := by
  pointwise
theorem wholeB_at (x : FVec Ideal S512x1024 .bf16) (a : Fin 512) (j : Fin 1024) : shapeCast S512x1024 x shapeCasts_S512x1024_S512x1024 (ix2 a j) = x (ix2 a j) := by
  pointwise

theorem gatedB_at (oa ob ga gb : FVec Ideal S512x1024 .bf16) (A B : FVec Ideal S1024x1024 .bf16) (a : Fin 512) (i : Fin 1024) :
    gatedB oa ob ga gb A B (ix2 a i) = ga (ix2 a i) * (∑ k : Fin 1024, oa (ix2 a k) * A (ix2 k i)) + gb (ix2 a i) * ∑ k : Fin 1024, ob (ix2 a k) * B (ix2 k i) := by
  have e : gatedB oa ob ga gb A B (ix2 a i) = ga (ix2 a i) * dotB (shapeCast S512x1024 oa shapeCasts_S512x1024_S512x1024) A (ix2 a i) + gb (ix2 a i) * dotB (shapeCast S512x1024 ob shapeCasts_S512x1024_S512x1024) B (ix2 a i) := rfl
  rw [e, dotB_at, dotB_at]
  simp only [wholeB_at]

theorem pay_eq (x : FVec Ideal S512x1024 .f32) (oa ob ga gb : FVec Ideal S512x1024 .bf16) (A B O : FVec Ideal S1024x1024 .bf16) :
    k0_pay1 oa A ob B ga gb x O = addf (shapeCast S512x1024 x shapeCasts_S512x1024_S512x1024) (dotB (gatedB oa ob ga gb A B) O) := rfl

theorem ld_f (X : Vec Ideal S512x1024 .f32) (a : Fin 512) (i : Fin 1024) : View.ld X r0_0 (ix2 a i) = X (ix2 a i) := by
  refine congrArg X (funext fun b => ?_)
  fin_cases b <;> apply Fin.ext <;> simp [ix2, Rect.emb, Rect.unit]
theorem ld_b (X : Vec Ideal S512x1024 .bf16) (a : Fin 512) (i : Fin 1024) : View.ld X r0_0 (ix2 a i) = X (ix2 a i) := by
  refine congrArg X (funext fun b => ?_)
  fin_cases b <;> apply Fin.ext <;> simp [ix2, Rect.emb, Rect.unit]
theorem ld_w (X : Vec Ideal S1024x1024 .bf16) (k i : Fin 1024) : View.ld X r0_1 (ix2 k i) = X (ix2 k i) := by
  refine congrArg X (funext fun b => ?_)
  fin_cases b <;> apply Fin.ext <;> simp [ix2, Rect.emb, Rect.unit]

/-- What the body leaves in its output's buffer, row by row. -/
theorem out_at (X : Vec Ideal S512x1024 .f32) (oa ob ga gb : Vec Ideal S512x1024 .bf16) (A B O : Vec Ideal S1024x1024 .bf16)
    (B' : Fin 1024 → Fin 1024 → EReal) (hB : ∀ k i, B (ix2 k i) = B' (head k) i) (a : Fin 512) (j : Fin 1024) :
    out0_8 X oa ob ga gb A B O (ix2 a j) = out (fun i => X (ix2 a i)) (fun i => oa (ix2 a i)) (fun i => ob (ix2 a i)) (fun i => ga (ix2 a i)) (fun i => gb (ix2 a i))
      (fun k i => A (ix2 k i)) B' (fun k i => O (ix2 k i)) j := by
  have e : out0_8 X oa ob ga gb A B O (ix2 a j) = k0_pay1 (View.ld oa r0_0) (View.ld A r0_1) (View.ld ob r0_0) (View.ld B r0_1) (View.ld ga r0_0) (View.ld gb r0_0) (View.ld X r0_0) (View.ld O r0_1) (ix2 a j) := by
    unfold out0_8
    rw [View.canon_unit_zero (by funext a; fin_cases a <;> rfl)]
  rw [e, pay_eq]
  unfold out
  refine congrArg₂ (· + ·) ((wholeF_at _ a j).trans (ld_f X a j)) ((dotB_at _ _ a j).trans (Finset.sum_congr rfl fun i _ => ?_))
  refine congrArg₂ (· * ·) ((gatedB_at _ _ _ _ _ _ a i).trans ?_) (ld_w O i j)
  unfold gated
  refine congrArg₂ (· + ·) (congrArg₂ (· * ·) (ld_b ga a i) (Finset.sum_congr rfl fun k _ => congrArg₂ (· * ·) (ld_b oa a k) (ld_w A k i)))
    (congrArg₂ (· * ·) (ld_b gb a i) (Finset.sum_congr rfl fun k _ => congrArg₂ (· * ·) (ld_b ob a k) ((ld_w B k i).trans (hB k i))))

/-- The heads' numbers as the host code writes them. -/
def headsV : IVec S16x1 32 :=
  broadcastInDim S16x1 ![0] bcast_S16_S16x1_0 (select (constantI S16 1 0#1) (addi (fun i => lit0 (S16.rowMajor i)) (broadcastInDim S16 ![] bcast_S_S16 (constantI S_ 32 16#32))) (fun i => lit0 (S16.rowMajor i)))

theorem headsV_at : ∀ h : Fin 16, min (headsV (ix2 h 0)).toInt.toNat 15 = 4 * (h.val / 4) + 2 * (h.val % 2) + h.val / 2 % 2 := by decide +kernel

/-- Rows of a matrix gathered a head at a time. -/
theorem gather_at (x : FVec Ideal S16x64x1024 .f32) (idx : IVec S16x1 32) (h : Fin 16) (d : Fin 64) (i : Fin 1024) :
    Host.gather gather_S16x64x1024_S16x1_S16x64x1024_12_0_n_n_0_1_1641024 x idx (ix3 h d i) = x (ix3 ⟨min (idx (ix2 h 0)).toInt.toNat 15, by omega⟩ d i) := by
  unfold Host.gather
  refine congrArg x (funext fun a => Fin.ext ?_)
  show GatherDims.start gather_S16x64x1024_S16x1_S16x64x1024_12_0_n_n_0_1_1641024 (ix3 h d i) idx a + GatherDims.batchCoord gather_S16x64x1024_S16x1_S16x64x1024_12_0_n_n_0_1_1641024 (ix3 h d i) a + GatherDims.offCoord gather_S16x64x1024_S16x1_S16x64x1024_12_0_n_n_0_1_1641024 (ix3 h d i) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S16x64x1024_S16x1_S16x64x1024_12_0_n_n_0_1_1641024.startIndexMap from List.mem_singleton.mpr rfl)]
    have hsi : gather_S16x64x1024_S16x1_S16x64x1024_12_0_n_n_0_1_1641024.siIdx (ix3 h d i) ⟨List.idxOf (0 : Fin 3) gather_S16x64x1024_S16x1_S16x64x1024_12_0_n_n_0_1_1641024.startIndexMap,
        List.idxOf_lt_length_iff.2 (List.mem_singleton.mpr rfl)⟩ = ix2 h 0 := by
      funext b; refine Fin.ext ?_
      match b with
      | ⟨0, _⟩ => rfl
      | ⟨1, _⟩ => rfl
    rw [hsi]
    rfl
  · exact Nat.zero_add _
  · exact Nat.zero_add _

/-- The second projection's matrix with its heads' rows laid out as 4p, 4p+2, 4p+1, 4p+3. -/
def headsW (W : FVec Ideal S1x1024x1024 .f32) : FVec Ideal S1024x1024 .bf16 :=
  truncf .bf16 (shapeCast S1024x1024 (Host.gather gather_S16x64x1024_S16x1_S16x64x1024_12_0_n_n_0_1_1641024
    (shapeCast S16x64x1024 (shapeCast S1024x1024 W shapeCasts_S1x1024x1024_S1024x1024) shapeCasts_S1024x1024_S16x64x1024) headsV) shapeCasts_S16x64x1024_S1024x1024) bitsLt_bf16_f32

theorem unfold_at (y : FVec Ideal S16x64x1024 .f32) (k i : Fin 1024) :
    shapeCast S1024x1024 y shapeCasts_S16x64x1024_S1024x1024 (ix2 k i) = y (ix3 ⟨k.val / 64, by omega⟩ ⟨k.val % 64, by omega⟩ i) := by
  pointwise
theorem fold_at (W : FVec Ideal S1x1024x1024 .f32) (h : Fin 16) (d : Fin 64) (i : Fin 1024) :
    shapeCast S16x64x1024 (shapeCast S1024x1024 W shapeCasts_S1x1024x1024_S1024x1024) shapeCasts_S1024x1024_S16x64x1024 (ix3 h d i) = W (ix3 0 ⟨64 * h.val + d.val, by omega⟩ i) := by
  pointwise
  exact congrArg (fun u => W (ix3 0 u i)) (Fin.ext (by dsimp only; omega))
theorem trunc_at (y : FVec Ideal S1024x1024 .f32) (j : S1024x1024.Idx) : truncf .bf16 y bitsLt_bf16_f32 j = y j := rfl

theorem headsW_at (W : FVec Ideal S1x1024x1024 .f32) (k i : Fin 1024) : headsW W (ix2 k i) = W (ix3 0 (head k) i) := by
  unfold headsW
  rw [trunc_at, unfold_at, gather_at, fold_at]
  refine congrArg (fun u => W (ix3 0 u i)) (Fin.ext ?_)
  simp only [headsV_at, head]
  omega

section Array
variable (m : (ℓ : Loc nD τ sig) → Buf (Elt Ideal) ℓ) (c : Dev nD) (t : Fin cfg0.N)

theorem idx0 : ∀ t : Fin grid0.N, win0_0.index t = ![(grid0.coords t 0).val, 0] := by decide +kernel
theorem idx1 : ∀ t : Fin grid0.N, win0_1.index t = ![(grid0.coords t 0).val, 0] := by decide +kernel
theorem idx2 : ∀ t : Fin grid0.N, win0_2.index t = ![(grid0.coords t 0).val, 0] := by decide +kernel
theorem idx3 : ∀ t : Fin grid0.N, win0_3.index t = ![(grid0.coords t 0).val, 0] := by decide +kernel
theorem idx4 : ∀ t : Fin grid0.N, win0_4.index t = ![(grid0.coords t 0).val, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![(grid0.coords t 0).val, 0] := by decide +kernel
theorem lt64 (i : grid0.Coords) : (i 0).val < 64 := (i 0).isLt

/-- The arguments. -/
def aX : Vec Ideal S16x2048x1024 .f32 := m ((c.tc : Thread nD τ).loc main_arg0)
def aOa : Vec Ideal S16x2048x1024 .bf16 := m ((c.tc : Thread nD τ).loc main_arg1)
def aOb : Vec Ideal S16x2048x1024 .bf16 := m ((c.tc : Thread nD τ).loc main_arg2)
def aGa : Vec Ideal S32768x1024 .bf16 := m ((c.tc : Thread nD τ).loc main_arg3)
def aGb : Vec Ideal S32768x1024 .bf16 := m ((c.tc : Thread nD τ).loc main_arg4)
def aA : Vec Ideal S1x1024x1024 .f32 := m ((c.tc : Thread nD τ).loc main_arg5)
def aB : Vec Ideal S1x1024x1024 .f32 := m ((c.tc : Thread nD τ).loc main_arg6)
def aO : Vec Ideal S1x1024x1024 .f32 := m ((c.tc : Thread nD τ).loc main_arg7)

theorem V_v13 (R : Fin 32768) (i : Fin 1024) : V m c main_v13 (ix2 R i) = aX m c (ix3 ⟨R.val / 2048, by omega⟩ ⟨R.val % 2048, by omega⟩ i) := by
  unfold aX
  entry_read
  pointwise
theorem V_v14 (R : Fin 32768) (i : Fin 1024) : V m c main_v14 (ix2 R i) = aOa m c (ix3 ⟨R.val / 2048, by omega⟩ ⟨R.val % 2048, by omega⟩ i) := by
  unfold aOa
  entry_read
  pointwise
theorem V_v15 (R : Fin 32768) (i : Fin 1024) : V m c main_v15 (ix2 R i) = aOb m c (ix3 ⟨R.val / 2048, by omega⟩ ⟨R.val % 2048, by omega⟩ i) := by
  unfold aOb
  entry_read
  pointwise
theorem V_v1 (k i : Fin 1024) : V m c main_v1 (ix2 k i) = aA m c (ix3 0 k i) := by
  unfold aA
  entry_read
  pointwise
theorem V_v12 (k i : Fin 1024) : V m c main_v12 (ix2 k i) = aO m c (ix3 0 k i) := by
  unfold aO
  entry_read
  pointwise
theorem V_v10 : V m c main_v10 = headsW (aB m c) := by
  unfold aB
  entry_read
  rfl

theorem iblk0_at (r : Fin 512) (i : Fin 1024) : iblk m c 0 t (ix2 r i) = V m c main_v13 (ix2 ⟨512 * (grid0.coords t 0).val + r.val, by have := lt64 (grid0.coords t); omega⟩ i) := by
  blk_ext [iblk, idx0 t]
theorem iblk1_at (r : Fin 512) (i : Fin 1024) : iblk m c 1 t (ix2 r i) = V m c main_v14 (ix2 ⟨512 * (grid0.coords t 0).val + r.val, by have := lt64 (grid0.coords t); omega⟩ i) := by
  blk_ext [iblk, idx1 t]
theorem iblk2_at (r : Fin 512) (i : Fin 1024) : iblk m c 2 t (ix2 r i) = V m c main_v15 (ix2 ⟨512 * (grid0.coords t 0).val + r.val, by have := lt64 (grid0.coords t); omega⟩ i) := by
  blk_ext [iblk, idx2 t]
theorem iblk3_at (r : Fin 512) (i : Fin 1024) : iblk m c 3 t (ix2 r i) = V m c main_arg3 (ix2 ⟨512 * (grid0.coords t 0).val + r.val, by have := lt64 (grid0.coords t); omega⟩ i) := by
  blk_ext [iblk, idx3 t]
theorem iblk4_at (r : Fin 512) (i : Fin 1024) : iblk m c 4 t (ix2 r i) = V m c main_arg4 (ix2 ⟨512 * (grid0.coords t 0).val + r.val, by have := lt64 (grid0.coords t); omega⟩ i) := by
  blk_ext [iblk, idx4 t]
theorem iblk5_at (k i : Fin 1024) : iblk m c 5 t (ix2 k i) = V m c main_v1 (ix2 k i) := by
  blk_ext [iblk, idx5 t]
theorem iblk6_at (k i : Fin 1024) : iblk m c 6 t (ix2 k i) = V m c main_v10 (ix2 k i) := by
  blk_ext [iblk, idx6 t]
theorem iblk7_at (k i : Fin 1024) : iblk m c 7 t (ix2 k i) = V m c main_v12 (ix2 k i) := by
  blk_ext [iblk, idx7 t]

theorem covers8 : (cfg0.win 8).Covers := by decide +kernel

/-- The result of the merge, from the arguments: row `R` of all the prompts' rows. -/
def res (x : Vec Ideal S16x2048x1024 .f32) (oa ob : Vec Ideal S16x2048x1024 .bf16) (ga gb : Vec Ideal S32768x1024 .bf16) (A B O : Vec Ideal S1x1024x1024 .f32) (R : Fin 32768) (j : Fin 1024) : EReal :=
  out (fun i => x (ix3 ⟨R.val / 2048, by omega⟩ ⟨R.val % 2048, by omega⟩ i)) (fun i => oa (ix3 ⟨R.val / 2048, by omega⟩ ⟨R.val % 2048, by omega⟩ i)) (fun i => ob (ix3 ⟨R.val / 2048, by omega⟩ ⟨R.val % 2048, by omega⟩ i))
    (fun i => ga (ix2 R i)) (fun i => gb (ix2 R i)) (fun k i => A (ix3 0 k i)) (fun k i => B (ix3 0 k i)) (fun k i => O (ix3 0 k i)) j

/-- The kernel's result array. -/
theorem arr_merge : (dats m 0 c).arrAt 8 cfg0.N = fun j : S32768x1024.Idx => res (aX m c) (aOa m c) (aOb m c) (aGa m c) (aGb m c) (aA m c) (aB m c) (aO m c) (j 0) (j 1) := by
  refine (dats m 0 c).arrAt_eq_of_covers 8 _ covers8 fun t hf y => ?_
  blk_simp
  rw [after0_8]
  obtain ⟨r, j, rfl⟩ : ∃ (r : Fin 512) (j : Fin 1024), y = ix2 r j := ⟨y 0, y 1, by funext a; fin_cases a <;> rfl⟩
  have e : ((win0_8.blk t).view.emb (ix2 r j) : S32768x1024.Idx) = ix2 ⟨512 * (grid0.coords t 0).val + r.val, by have := lt64 (grid0.coords t); omega⟩ j := by
    blk_ext [idx8 t]
  refine (out_at _ _ _ _ _ _ _ _ (fun k i => aB m c (ix3 0 k i)) (fun k i => (iblk6_at m c t k i).trans ((congrFun (V_v10 m c) (ix2 k i)).trans (headsW_at _ k i))) r j).trans
    (Eq.trans ?_ (congrArg (fun j : S32768x1024.Idx => res (aX m c) (aOa m c) (aOb m c) (aGa m c) (aGb m c) (aA m c) (aB m c) (aO m c) (j 0) (j 1)) e).symm)
  exact out_congr (fun i => (iblk0_at m c t r i).trans (V_v13 m c _ i)) (fun i => (iblk1_at m c t r i).trans (V_v14 m c _ i)) (fun i => (iblk2_at m c t r i).trans (V_v15 m c _ i))
    (fun i => (iblk3_at m c t r i).trans (congrFun (V_main_arg3 m c) _)) (fun i => (iblk4_at m c t r i).trans (congrFun (V_main_arg4 m c) _))
    (fun k i => (iblk5_at m c t k i).trans (V_v1 m c k i)) (fun k i => rfl) (fun k i => (iblk7_at m c t k i).trans (V_v12 m c k i)) j
end Array

end Cert.Kernel3Ideal.Hand
end
-- ==== Proof.MergeRef.lean ====
/-
  What the reference's merge computes, read at an index.
-/
module

public import proofs.«01_k».proof.Proof.Merge
public import proofs.«01_k».proof.Proof.Gen.Reference3Ideal
public import Idealize.ShloMosaic.PureOps.Ideal.Laws

@[expose] public section
set_option maxRecDepth 16384
noncomputable section
namespace Cert.Reference3Ideal.Hand
open Idealize.ShloMosaic Cert.Merge
open Cert.Kernel3Ideal.Hand (res)
open Cert.Reference3Ideal Cert.Reference3Ideal.Facts₀ Cert.Reference3Ideal.Facts

/-- Every row times a matrix. -/
def dotR (l : FVec Ideal S16x2048x1024 .f32) (W : FVec Ideal S1x1024x1024 .f32) : FVec Ideal S16x2048x1024 .f32 :=
  Host.dotGeneral dot_S16x2048x1024_S1024x1024_S16x2048x1024_2_0_01_1_n_n none l (shapeCast S1024x1024 W shapeCasts_S1x1024x1024_S1024x1024)

/-- The second attention's rows with their heads in their own order. -/
def headsR (ob : FVec Ideal S16x2048x1024 .bf16) : FVec Ideal S16x2048x1024 .f32 :=
  shapeCast S16x2048x1024 (transpose S16x2048x4x2x2x64 [0, 1, 2, 4, 3, 5] (shapeCast S16x2048x4x2x2x64 (extf .f32 ob bitsLt_bf16_f32) shapeCasts_S16x2048x1024_S16x2048x4x2x2x64)
    transposes_S16x2048x4x2x2x64_S16x2048x4x2x2x64_0_1_2_4_3_5) shapeCasts_S16x2048x4x2x2x64_S16x2048x1024

/-- A gate's rows, prompt by prompt. -/
def gateR (g : FVec Ideal S32768x1024 .bf16) : FVec Ideal S16x2048x1024 .f32 :=
  shapeCast S16x2048x1024 (extf .f32 g bitsLt_bf16_f32) shapeCasts_S32768x1024_S16x2048x1024

/-- The gated sum of the two projections. -/
def gatedR (oa ob : FVec Ideal S16x2048x1024 .bf16) (ga gb : FVec Ideal S32768x1024 .bf16) (A B : FVec Ideal S1x1024x1024 .f32) : FVec Ideal S16x2048x1024 .f32 :=
  addf (mulf (gateR ga) (dotR (extf .f32 oa bitsLt_bf16_f32) A)) (mulf (gateR gb) (dotR (headsR ob) B))

theorem dotR_at (l : FVec Ideal S16x2048x1024 .f32) (W : FVec Ideal S1x1024x1024 .f32) (b : Fin 16) (q : Fin 2048) (j : Fin 1024) :
    dotR l W (ix3 b q j) = ∑ k : Fin 1024, l (ix3 b q k) * W (ix3 0 k j) := by
  pointwise [dotR]
theorem gateR_at (g : FVec Ideal S32768x1024 .bf16) (b : Fin 16) (q : Fin 2048) (j : Fin 1024) : gateR g (ix3 b q j) = g (ix2 ⟨2048 * b.val + q.val, by omega⟩ j) := by
  pointwise [gateR]
  exact congrArg (fun u => g (ix2 u j)) (Fin.ext (by dsimp only; omega))
theorem headsR_at (ob : FVec Ideal S16x2048x1024 .bf16) (b : Fin 16) (q : Fin 2048) (k : Fin 1024) : headsR ob (ix3 b q k) = ob (ix3 b q (head k)) := by
  pointwise [headsR]
  exact congrArg (fun u => ob (ix3 b q u)) (Fin.ext (by simp only [head]; omega))
theorem rows_at (y : FVec Ideal S16x2048x1024 .f32) (R : Fin 32768) (j : Fin 1024) :
    shapeCast S32768x1024 y shapeCasts_S16x2048x1024_S32768x1024 (ix2 R j) = y (ix3 ⟨R.val / 2048, by omega⟩ ⟨R.val % 2048, by omega⟩ j) := by
  pointwise

/-- A row of the gated sum. -/
theorem gatedR_at (oa ob : FVec Ideal S16x2048x1024 .bf16) (ga gb : FVec Ideal S32768x1024 .bf16) (A B : FVec Ideal S1x1024x1024 .f32) (R : Fin 32768) (i : Fin 1024) :
    gatedR oa ob ga gb A B (ix3 ⟨R.val / 2048, by omega⟩ ⟨R.val % 2048, by omega⟩ i) =
      gated (fun i => oa (ix3 ⟨R.val / 2048, by omega⟩ ⟨R.val % 2048, by omega⟩ i)) (fun i => ob (ix3 ⟨R.val / 2048, by omega⟩ ⟨R.val % 2048, by omega⟩ i)) (fun i => ga (ix2 R i)) (fun i => gb (ix2 R i))
        (fun k i => A (ix3 0 k i)) (fun k i => B (ix3 0 k i)) i := by
  have hR : (⟨2048 * (R.val / 2048) + R.val % 2048, by omega⟩ : Fin 32768) = R := Fin.ext (by dsimp only; omega)
  have hg : ∀ g : FVec Ideal S32768x1024 .bf16, gateR g (ix3 ⟨R.val / 2048, by omega⟩ ⟨R.val % 2048, by omega⟩ i) = g (ix2 R i) := fun g =>
    (gateR_at g _ _ i).trans (congrArg (fun u => g (ix2 u i)) hR)
  unfold gated
  refine congrArg₂ (· + ·) (congrArg₂ (· * ·) (hg ga) (dotR_at _ A _ _ i)) (congrArg₂ (· * ·) (hg gb) ((dotR_at _ B _ _ i).trans ?_))
  rw [← sum_head]
  refine Finset.sum_congr rfl fun k _ => ?_
  rw [headsR_at, head_head]

/-- The reference's result. -/
theorem ref_merge (x : FVec Ideal S16x2048x1024 .f32) (oa ob : FVec Ideal S16x2048x1024 .bf16) (ga gb : FVec Ideal S32768x1024 .bf16) (A B O : FVec Ideal S1x1024x1024 .f32) :
    shapeCast S32768x1024 (addf x (dotR (gatedR oa ob ga gb A B) O)) shapeCasts_S16x2048x1024_S32768x1024 = fun j : S32768x1024.Idx => res x oa ob ga gb A B O (j 0) (j 1) := by
  funext j
  obtain ⟨R, i, rfl⟩ : ∃ (R : Fin 32768) (i : Fin 1024), j = ix2 R i := ⟨j 0, j 1, by funext a; fin_cases a <;> rfl⟩
  show _ = res x oa ob ga gb A B O R i
  rw [rows_at]
  unfold res out
  refine congrArg (fun z => x (ix3 ⟨R.val / 2048, by omega⟩ ⟨R.val % 2048, by omega⟩ i) + z) ((dotR_at _ O _ _ i).trans (Finset.sum_congr rfl fun k _ => ?_))
  rw [gatedR_at]

end Cert.Reference3Ideal.Hand
end
-- ==== Proof.lean ====
/-
  The proof of `Cert.Claim`: the frames of the programs, the named constants and the three equalities of results.
-/
module

public import proofs.«01_k».proof.Defs
public import proofs.«01_k».proof.Proof.Frames
public import proofs.«01_k».proof.Proof.Gen.ReferenceIdeal
public import proofs.«01_k».proof.Proof.RefVal
public import proofs.«01_k».proof.Proof.Fin
public import proofs.«01_k».proof.Proof.Gen.Kernel2.Frame
public import proofs.«01_k».proof.Proof.Gen.Kernel2Ideal.Value
public import proofs.«01_k».proof.Proof.Gen.Reference2Ideal
public import proofs.«01_k».proof.Proof.MlpRef
public import proofs.«01_k».proof.Proof.Gen.Kernel3.Frame
public import proofs.«01_k».proof.Proof.Gen.Kernel3Ideal.Value
public import proofs.«01_k».proof.Proof.Gen.Reference3Ideal
public import proofs.«01_k».proof.Proof.MergeRef
public import Idealize.ShloMosaic.Adequacy
public import Idealize.ShloMosaic.Init
public import Idealize.ShloMosaic.Lib.Claim

@[expose] public section
noncomputable section
namespace Cert.Proof
open Idealize.ShloMosaic Idealize.ShloMosaic.TcCoe

set_option maxRecDepth 16384 in
/-- The reference's frame. -/
theorem frame_ReferenceIdeal : Cert.quiescent_ReferenceIdeal := by
  intro m g _
  hlo_run
  all_goals first | exact fun _ => ⟨trivial, trivial, trivial, trivial⟩ | (refine Idealize.ShloMosaic.sem_eq_zero_of_no_sems ?_ _; decide)

/-- The three named constants have the values that the table gives them. -/
theorem preserves : Cert.preserves_Kernel_KernelIdeal :=
  ⟨IdealRules.named_const.statement _ _ _ _ _ rfl, IdealRules.named_const.statement _ _ _ _ _ rfl, IdealRules.named_const.statement _ _ _ _ _ rfl⟩

set_option maxRecDepth 16384 in
/-- From equal arguments the kernel and the reference end with one result, the attention of the arguments. -/
theorem algebraic [hp : Cert.Pre_finite.Facts] : Cert.algebraic_KernelIdeal_ReferenceIdeal_pre_finite := by
  pair_intro
  · run_from Cert.KernelIdeal.Hand.run_blocks m g
  · hlo_run
    obtain ⟨f0, f1, f3⟩ := Cert.Pre_finite.fin_of (hpre c)
    rw [show (KernelIdeal.Hand.dats m 0 c).arrAt 5 (KernelIdeal.cfgs 0).N = _ from Cert.KernelIdeal.Hand.arr_attn m c f0 f1 f3]
    exact Cert.ReferenceIdeal.Hand.ref_attn (m ((c.tc : Thread KernelIdeal.nD KernelIdeal.τ).loc KernelIdeal.main_arg2)) f0 f1 f3

set_option maxRecDepth 16384 in
/-- The frame of the feed-forward part's reference. -/
theorem frame_Reference2Ideal : Cert.quiescent_Reference2Ideal := by
  intro m g _
  hlo_run
  all_goals first | exact fun _ => ⟨trivial, trivial, trivial, trivial, trivial⟩ | (refine Idealize.ShloMosaic.sem_eq_zero_of_no_sems ?_ _; decide)

set_option maxRecDepth 16384 in
/-- From equal arguments the feed-forward call and its reference end with one result. -/
theorem algebraic2 : Cert.algebraic_Kernel2Ideal_Reference2Ideal := by
  pair_intro
  · run_from Cert.Kernel2Ideal.Gen.run_main m g
  · hlo_run
    rw [show (Kernel2Ideal.Gen.dats m 0 c).arrAt 5 (Kernel2Ideal.cfgs 0).N = _ from Cert.Kernel2Ideal.Hand.arr_mlp m c]
    exact Cert.Reference2Ideal.Hand.ref_mlp _ _ _ _ _

set_option maxRecDepth 16384 in
/-- The frame of the merge's reference. -/
theorem frame_Reference3Ideal : Cert.quiescent_Reference3Ideal := by
  intro m g _
  hlo_run
  all_goals first | exact fun _ => ⟨trivial, trivial, trivial, trivial, trivial, trivial, trivial, trivial⟩ | (refine Idealize.ShloMosaic.sem_eq_zero_of_no_sems ?_ _; decide)

set_option maxRecDepth 16384 in
set_option maxHeartbeats 2000000 in
/-- From equal arguments the merge call and its reference end with one result. -/
theorem algebraic3 : Cert.algebraic_Kernel3Ideal_Reference3Ideal := by
  pair_intro
  · run_from Cert.Kernel3Ideal.Gen.run_main m g
  · hlo_run
    exact (Cert.Reference3Ideal.Hand.ref_merge _ _ _ _ _ _ _ _).trans (Cert.Kernel3Ideal.Hand.arr_merge m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.facts,
  fun m g _ => Cert.Frames.frame_Kernel m g, fun m g _ => Cert.KernelIdeal.Hand.frame_any (F := Ideal) m g, fun m g _ => Cert.KernelIdeal.Hand.frame_any (F := Ideal) m g, frame_ReferenceIdeal,
  fun m g _ => frame_ReferenceIdeal m g trivial,
  fun m g _ => Cert.Kernel2.Gen.frame m g, fun m g _ => Cert.Kernel2Ideal.Gen.frame m g, frame_Reference2Ideal,
  fun m g _ => Cert.Kernel3.Gen.frame m g, fun m g _ => Cert.Kernel3Ideal.Gen.frame m g, frame_Reference3Ideal,
  preserves, algebraic (hp := Cert.Pre_finite.facts), trivial, algebraic2, trivial, algebraic3⟩

end Cert.Proof
end
